-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_experts_exist : Cert.Pre_experts_exist.Facts] (m : (ℓ : Loc Cert.Kernel2.nD Cert.Kernel2.τ Cert.Kernel2.sig) → Buf (Elt Bits) ℓ) : Prop :=
  ∀ c : Dev Cert.Kernel2.nD,
    (Cert.Pre_experts_exist.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_experts_exist : Cert.Pre_experts_exist.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_exist.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_exist [hPre_experts_exist : Cert.Pre_experts_exist.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_exist.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_experts_exist : Cert.Pre_experts_exist.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_experts_exist : Cert.Pre_experts_exist.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_experts_exist [hReference2Ideal : Cert.Reference2Ideal.Facts] [hPre_experts_exist : Cert.Pre_experts_exist.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_exist m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v75_0)) (v1 : (c : Dev Cert.KernelIdeal.nD) → Buf (Elt Ideal) ((c.tc : Thread Cert.KernelIdeal.nD Cert.KernelIdeal.τ).loc Cert.KernelIdeal.main_v75_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75_0) = v0 c
          ∧ r.2.mem ((c.tc : Thread Cert.KernelIdeal.nD Cert.KernelIdeal.τ).loc Cert.KernelIdeal.main_v75_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v71_4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_experts_exist : Cert.Pre_experts_exist.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v133) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v26_0)) (v1 : (c : Dev Cert.Kernel3Ideal.nD) → Buf (Elt Ideal) ((c.tc : Thread Cert.Kernel3Ideal.nD Cert.Kernel3Ideal.τ).loc Cert.Kernel3Ideal.main_v26_2)) (v2 : (c : Dev Cert.Kernel3Ideal.nD) → Buf (Elt Ideal) ((c.tc : Thread Cert.Kernel3Ideal.nD Cert.Kernel3Ideal.τ).loc Cert.Kernel3Ideal.main_v26_3)) (v3 : (c : Dev Cert.Kernel3Ideal.nD) → Buf (Elt Ideal) ((c.tc : Thread Cert.Kernel3Ideal.nD Cert.Kernel3Ideal.τ).loc Cert.Kernel3Ideal.main_v26_4)) (v4 : (c : Dev Cert.Kernel3Ideal.nD) → Buf (Elt Ideal) ((c.tc : Thread Cert.Kernel3Ideal.nD Cert.Kernel3Ideal.τ).loc Cert.Kernel3Ideal.main_v26_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v26_0) = v0 c
          ∧ r.2.mem ((c.tc : Thread Cert.Kernel3Ideal.nD Cert.Kernel3Ideal.τ).loc Cert.Kernel3Ideal.main_v26_2) = v1 c
          ∧ r.2.mem ((c.tc : Thread Cert.Kernel3Ideal.nD Cert.Kernel3Ideal.τ).loc Cert.Kernel3Ideal.main_v26_3) = v2 c
          ∧ r.2.mem ((c.tc : Thread Cert.Kernel3Ideal.nD Cert.Kernel3Ideal.τ).loc Cert.Kernel3Ideal.main_v26_4) = v3 c
          ∧ r.2.mem ((c.tc : Thread Cert.Kernel3Ideal.nD Cert.Kernel3Ideal.τ).loc Cert.Kernel3Ideal.main_v26_5) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v48) = v0 c
          ∧ r.2.mem ((c.tc : Thread Cert.Reference3Ideal.nD Cert.Reference3Ideal.τ).loc Cert.Reference3Ideal.main_v45) = v1 c
          ∧ r.2.mem ((c.tc : Thread Cert.Reference3Ideal.nD Cert.Reference3Ideal.τ).loc Cert.Reference3Ideal.main_v47) = v2 c
          ∧ r.2.mem ((c.tc : Thread Cert.Reference3Ideal.nD Cert.Reference3Ideal.τ).loc Cert.Reference3Ideal.main_v49) = v3 c
          ∧ r.2.mem ((c.tc : Thread Cert.Reference3Ideal.nD Cert.Reference3Ideal.τ).loc Cert.Reference3Ideal.main_v50) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v26_0)) (v1 : (c : Dev Cert.Kernel4Ideal.nD) → Buf (Elt Ideal) ((c.tc : Thread Cert.Kernel4Ideal.nD Cert.Kernel4Ideal.τ).loc Cert.Kernel4Ideal.main_v26_2)) (v2 : (c : Dev Cert.Kernel4Ideal.nD) → Buf (Elt Ideal) ((c.tc : Thread Cert.Kernel4Ideal.nD Cert.Kernel4Ideal.τ).loc Cert.Kernel4Ideal.main_v26_3)) (v3 : (c : Dev Cert.Kernel4Ideal.nD) → Buf (Elt Ideal) ((c.tc : Thread Cert.Kernel4Ideal.nD Cert.Kernel4Ideal.τ).loc Cert.Kernel4Ideal.main_v26_4)) (v4 : (c : Dev Cert.Kernel4Ideal.nD) → Buf (Elt Ideal) ((c.tc : Thread Cert.Kernel4Ideal.nD Cert.Kernel4Ideal.τ).loc Cert.Kernel4Ideal.main_v26_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v26_0) = v0 c
          ∧ r.2.mem ((c.tc : Thread Cert.Kernel4Ideal.nD Cert.Kernel4Ideal.τ).loc Cert.Kernel4Ideal.main_v26_2) = v1 c
          ∧ r.2.mem ((c.tc : Thread Cert.Kernel4Ideal.nD Cert.Kernel4Ideal.τ).loc Cert.Kernel4Ideal.main_v26_3) = v2 c
          ∧ r.2.mem ((c.tc : Thread Cert.Kernel4Ideal.nD Cert.Kernel4Ideal.τ).loc Cert.Kernel4Ideal.main_v26_4) = v3 c
          ∧ r.2.mem ((c.tc : Thread Cert.Kernel4Ideal.nD Cert.Kernel4Ideal.τ).loc Cert.Kernel4Ideal.main_v26_5) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v48) = v0 c
          ∧ r.2.mem ((c.tc : Thread Cert.Reference4Ideal.nD Cert.Reference4Ideal.τ).loc Cert.Reference4Ideal.main_v45) = v1 c
          ∧ r.2.mem ((c.tc : Thread Cert.Reference4Ideal.nD Cert.Reference4Ideal.τ).loc Cert.Reference4Ideal.main_v47) = v2 c
          ∧ r.2.mem ((c.tc : Thread Cert.Reference4Ideal.nD Cert.Reference4Ideal.τ).loc Cert.Reference4Ideal.main_v49) = v3 c
          ∧ r.2.mem ((c.tc : Thread Cert.Reference4Ideal.nD Cert.Reference4Ideal.τ).loc Cert.Reference4Ideal.main_v50) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v9_0)) (v1 : (c : Dev Cert.Kernel8Ideal.nD) → Buf (Elt Ideal) ((c.tc : Thread Cert.Kernel8Ideal.nD Cert.Kernel8Ideal.τ).loc Cert.Kernel8Ideal.main_v9_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v9_0) = v0 c
          ∧ r.2.mem ((c.tc : Thread Cert.Kernel8Ideal.nD Cert.Kernel8Ideal.τ).loc Cert.Kernel8Ideal.main_v9_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v21) = v0 c
          ∧ r.2.mem ((c.tc : Thread Cert.Reference8Ideal.nD Cert.Reference8Ideal.τ).loc Cert.Reference8Ideal.main_v23) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_experts_exist : Cert.Pre_experts_exist.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_experts_exist := hPre_experts_exist)
    ∧ quiescent_Kernel2Ideal (hKernel2Ideal := hKernel2Ideal) (hPre_experts_exist := hPre_experts_exist)
    ∧ quiescent_Reference2Ideal (hReference2Ideal := hReference2Ideal)
    ∧ quiescent_Reference2Ideal_pre_experts_exist (hReference2Ideal := hReference2Ideal) (hPre_experts_exist := hPre_experts_exist)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_experts_exist := hPre_experts_exist)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_experts_exist.lean ====
abbrev S36864x1024 : Shape := ⟨2, ![36864, 1024]⟩
abbrev S72 : Shape := ⟨1, ![72]⟩
abbrev S1 : Shape := ⟨1, ![1]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S72 : S_.BroadcastsInDim S72 (![] : Fin 0 → Fin S72.rank)
  reducesTo_S72_S_d0 : S72.ReducesTo [0] S_
  h_S_ : 0 < S_.numel

variable [Facts]

def fn {F : FTy → Type} [FloatOps F] (main_arg0 : FVec F S36864x1024 .f32) (main_arg1 : IVec S72 32) (main_arg2 : IVec S1 32) (main_arg3 : FVec F S8x1024x3584 .f32) (main_arg4 : FVec F S8x1024x3584 .f32) (main_arg5 : FVec F S8x3584x1024 .f32) : IVec S_ 1 :=
  let main_c : IVec S_ 32 := constantI S_ 32 0#32
  let main_v0 : IVec S72 32 := broadcastInDim S72 ![] bcast_S_S72 main_c
  let main_v1 : IVec S72 1 := cmpi .sge main_arg1 main_v0
  let main_c_0 : IVec S_ 32 := constantI S_ 32 8#32
  let main_v2 : IVec S72 32 := broadcastInDim S72 ![] bcast_S_S72 main_c_0
  let main_v3 : IVec S72 1 := cmpi .slt main_arg1 main_v2
  let main_v4 : IVec S72 1 := andi main_v1 main_v3
  let main_c_1 : IVec S_ 1 := constantI S_ 1 1#1
  let main_v5 : IVec S_ 1 := (fun x v => Host.reduce IntOp.andi x v reducesTo_S72_S_d0 h_S_) main_v4 main_c_1
  main_v5
-- ==== Kernel.lean ====
abbrev S8x2048x6144 : Shape := ⟨3, ![8, 2048, 6144]⟩
abbrev S1x2048 : Shape := ⟨2, ![1, 2048]⟩
abbrev S2048 : Shape := ⟨1, ![2048]⟩
abbrev S_ : Shape := ⟨0, ![]⟩
abbrev S63 : Shape := ⟨1, ![63]⟩
abbrev S1 : Shape := ⟨1, ![1]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S8x1 : Shape := ⟨2, ![8, 1]⟩
abbrev S8x128 : Shape := ⟨2, ![8, 128]⟩
abbrev S8x128x1 : Shape := ⟨3, ![8, 128, 1]⟩
abbrev S8x128x256 : Shape := ⟨3, ![8, 128, 256]⟩
abbrev S16384x6144 : Shape := ⟨2, ![16384, 6144]⟩
abbrev S16384x2048 : Shape := ⟨2, ![16384, 2048]⟩
abbrev S16384x4096 : Shape := ⟨2, ![16384, 4096]⟩
abbrev S8x8x128x256 : Shape := ⟨4, ![8, 8, 128, 256]⟩
abbrev S128x1024 : Shape := ⟨2, ![128, 1024]⟩
abbrev S128x2048 : Shape := ⟨2, ![128, 2048]⟩
abbrev S1x8x128x256 : Shape := ⟨4, ![1, 8, 128, 256]⟩
abbrev S128x256 : Shape := ⟨2, ![128, 256]⟩
abbrev S1x1x128x256 : Shape := ⟨4, ![1, 1, 128, 256]⟩
abbrev S1x128x256 : Shape := ⟨3, ![1, 128, 256]⟩
abbrev S1x256 : Shape := ⟨2, ![1, 256]⟩

abbrev nBuf : Space → Nat
  | .hbm => 114
  | .vmem => 21
  | .smem => 1
  | _ => 0

abbrev bufTy : (tb : Table) → Fin (tcTables nBuf tb) → BufTy
  | .hbm, ⟨0, _⟩ => ⟨S8x2048x6144, .f32⟩
  | .hbm, ⟨1, _⟩ => ⟨S1x2048, .f32⟩
  | .hbm, ⟨2, _⟩ => ⟨S1x2048, .f32⟩
  | .hbm, ⟨3, _⟩ => ⟨S2048, .i32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S63, .f32⟩
  | .hbm, ⟨12, _⟩ => ⟨S_, .f32⟩
  | .hbm, ⟨13, _⟩ => ⟨S63, .f32⟩
  | .hbm, ⟨14, _⟩ => ⟨S63, .f32⟩
  | .hbm, ⟨15, _⟩ => ⟨S1, .f32⟩
  | .hbm, ⟨16, _⟩ => ⟨S_, .f32⟩
  | .hbm, ⟨17, _⟩ => ⟨S63, .f32⟩
  | .hbm, ⟨18, _⟩ => ⟨S63, .f32⟩
  | .hbm, ⟨19, _⟩ => ⟨S63, .f32⟩
  | .hbm, ⟨20, _⟩ => ⟨S63, .f32⟩
  | .hbm, ⟨21, _⟩ => ⟨S1, .f32⟩
  | .hbm, ⟨22, _⟩ => ⟨S63, .f32⟩
  | .hbm, ⟨23, _⟩ => ⟨S63, .f32⟩
  | .hbm, ⟨24, _⟩ => ⟨S63, .f32⟩
  | .hbm, ⟨25, _⟩ => ⟨S1, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S64, .f32⟩
  | .hbm, ⟨30, _⟩ => ⟨S64, .f32⟩
  | .hbm, ⟨31, _⟩ => ⟨S2048, .f32⟩
  | .hbm, ⟨32, _⟩ => ⟨S2048x1, .f32⟩
  | .hbm, ⟨33, _⟩ => ⟨S1x64, .f32⟩
  | .hbm, ⟨34, _⟩ => ⟨S2048x64, .f32⟩
  | .hbm, ⟨35, _⟩ => ⟨S2048x64, .f32⟩
  | .hbm, ⟨36, _⟩ => ⟨S2048x64, .f32⟩
  | .hbm, ⟨37, _⟩ => ⟨S2048x64, .f32⟩
  | .hbm, ⟨38, _⟩ => ⟨S2048x64, .f32⟩
  | .hbm, ⟨39, _⟩ => ⟨S2048x128, .f32⟩
  | .hbm, ⟨40, _⟩ => ⟨S2048x64, .f32⟩
  | .hbm, ⟨41, _⟩ => ⟨S2048x128, .f32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S8, .f32⟩
  | .hbm, ⟨46, _⟩ => ⟨S_, .f32⟩
  | .hbm, ⟨47, _⟩ => ⟨S8, .f32⟩
  | .hbm, ⟨48, _⟩ => ⟨S8, .f32⟩
  | .hbm, ⟨49, _⟩ => ⟨S8, .f32⟩
  | .hbm, ⟨50, _⟩ => ⟨S8, .f32⟩
  | .hbm, ⟨51, _⟩ => ⟨S8, .f32⟩
  | .hbm, ⟨52, _⟩ => ⟨S128, .f32⟩
  | .hbm, ⟨53, _⟩ => ⟨S128x1, .f32⟩
  | .hbm, ⟨54, _⟩ => ⟨S1x128, .f32⟩
  | .hbm, ⟨55, _⟩ => ⟨S128x128, .f32⟩
  | .hbm, ⟨56, _⟩ => ⟨S128x128, .f32⟩
  | .hbm, ⟨57, _⟩ => ⟨S128x128, .f32⟩
  | .hbm, ⟨58, _⟩ => ⟨S_, .f32⟩
  | .hbm, ⟨59, _⟩ => ⟨S128x128, .f32⟩
  | .hbm, ⟨60, _⟩ => ⟨S128x128, .i1⟩
  | .hbm, ⟨61, _⟩ => ⟨S8x1x1, .f32⟩
  | .hbm, ⟨62, _⟩ => ⟨S_, .f32⟩
  | .hbm, ⟨63, _⟩ => ⟨S128x128, .f32⟩
  | .hbm, ⟨64, _⟩ => ⟨S128x128, .f32⟩
  | .hbm, ⟨65, _⟩ => ⟨S1x128x128, .f32⟩
  | .hbm, ⟨66, _⟩ => ⟨S8x128x128, .f32⟩
  | .hbm, ⟨67, _⟩ => ⟨S8x128x128, .f32⟩
  | .hbm, ⟨68, _⟩ => ⟨S8x128x128, .f32⟩
  | .hbm, ⟨69, _⟩ => ⟨S8x128x128, .f32⟩
  | .hbm, ⟨70, _⟩ => ⟨S_, .f32⟩
  | .hbm, ⟨71, _⟩ => ⟨S_, .f32⟩
  | .hbm, ⟨72, _⟩ => ⟨S8x128x128, .i1⟩
  | .hbm, ⟨73, _⟩ => ⟨S8x128x128, .f32⟩
  | .hbm, ⟨74, _⟩ => ⟨S8x128x128, .f32⟩
  | .hbm, ⟨75, _⟩ => ⟨S8x1, .f32⟩
  | .hbm, ⟨76, _⟩ => ⟨S1x128, .f32⟩
  | .hbm, ⟨77, _⟩ => ⟨S_, .f32⟩
  | .hbm, ⟨78, _⟩ => ⟨S1x128, .f32⟩
  | .hbm, ⟨79, _⟩ => ⟨S1x128, .f32⟩
  | .hbm, ⟨80, _⟩ => ⟨S8x128, .f32⟩
  | .hbm, ⟨81, _⟩ => ⟨S8x128, .f32⟩
  | .hbm, ⟨82, _⟩ => ⟨S8x128, .f32⟩
  | .hbm, ⟨83, _⟩ => ⟨S8x128, .f32⟩
  | .hbm, ⟨84, _⟩ => ⟨S8x1, .f32⟩
  | .hbm, ⟨85, _⟩ => ⟨S1x128, .f32⟩
  | .hbm, ⟨86, _⟩ => ⟨S_, .f32⟩
  | .hbm, ⟨87, _⟩ => ⟨S1x128, .f32⟩
  | .hbm, ⟨88, _⟩ => ⟨S1x128, .f32⟩
  | .hbm, ⟨89, _⟩ => ⟨S8x128, .f32⟩
  | .hbm, ⟨90, _⟩ => ⟨S8x128, .f32⟩
  | .hbm, ⟨91, _⟩ => ⟨S8x128, .f32⟩
  | .hbm, ⟨92, _⟩ => ⟨S8x128, .f32⟩
  | .hbm, ⟨93, _⟩ => ⟨S8x128x1, .f32⟩
  | .hbm, ⟨94, _⟩ => ⟨S8x128x256, .f32⟩
  | .hbm, ⟨95, _⟩ => ⟨S8x128x1, .f32⟩
  | .hbm, ⟨96, _⟩ => ⟨S8x128x128, .f32⟩
  | .hbm, ⟨97, _⟩ => ⟨S_, .f32⟩
  | .hbm, ⟨98, _⟩ => ⟨S8, .f32⟩
  | .hbm, ⟨99, _⟩ => ⟨S8, .f32⟩
  | .hbm, ⟨100, _⟩ => ⟨S8, .f32⟩
  | .hbm, ⟨101, _⟩ => ⟨S8, .f32⟩
  | .hbm, ⟨102, _⟩ => ⟨S2048, .f32⟩
  | .hbm, ⟨103, _⟩ => ⟨S1x2048, .f32⟩
  | .hbm, ⟨104, _⟩ => ⟨S2048, .f32⟩
  | .hbm, ⟨105, _⟩ => ⟨S1x2048, .f32⟩
  | .hbm, ⟨106, _⟩ => ⟨S16384x6144, .f32⟩
  | .hbm, ⟨107, _⟩ => ⟨S16384x2048, .f32⟩
  | .hbm, ⟨108, _⟩ => ⟨S16384x2048, .f32⟩
  | .hbm, ⟨109, _⟩ => ⟨S16384x4096, .f32⟩
  | .hbm, ⟨110, _⟩ => ⟨S16384x2048, .f32⟩
  | .hbm, ⟨111, _⟩ => ⟨S16384x2048, .bf16⟩
  | .hbm, ⟨112, _⟩ => ⟨S16384x2048, .bf16⟩
  | .hbm, ⟨113, _⟩ => ⟨S8x8x128x256, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x2048, .bf16⟩
  | .local _ .vmem, ⟨5, _⟩ => ⟨S128x2048, .bf16⟩
  | .local _ .vmem, ⟨6, _⟩ => ⟨S128x2048, .f32⟩
  | .local _ .vmem, ⟨7, _⟩ => ⟨S128x2048, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S8x128x128, .f32⟩
  | .local _ .vmem, ⟨13, _⟩ => ⟨S8x128x256, .f32⟩
  | .local _ .vmem, ⟨14, _⟩ => ⟨S8x128x128, .f32⟩
  | .local _ .vmem, ⟨15, _⟩ => ⟨S1x2048, .f32⟩
  | .local _ .vmem, ⟨16, _⟩ => ⟨S1x2048, .f32⟩
  | .local _ .vmem, ⟨17, _⟩ => ⟨S128x2048, .bf16⟩
  | .local _ .vmem, ⟨18, _⟩ => ⟨S128x2048, .bf16⟩
  | .local _ .vmem, ⟨19, _⟩ => ⟨S1x8x128x256, .f32⟩
  | .local _ .vmem, ⟨20, _⟩ => ⟨S1x8x128x256, .f32⟩
  | .local _ .smem, ⟨0, _⟩ => ⟨S8, .f32⟩
  | _, _ => ⟨S8x2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_cst : Ref sig .tc := ⟨.hbm, 9, rfl⟩
abbrev main_call0_v3 : Ref sig .tc := ⟨.hbm, 10, rfl⟩
abbrev main_call0_v4 : Ref sig .tc := ⟨.hbm, 11, rfl⟩
abbrev main_call0_cst_0 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_cst_1 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_v1 : Ref sig .tc := ⟨.hbm, 26, rfl⟩
abbrev main_v2 : Ref sig .tc := ⟨.hbm, 27, rfl⟩
abbrev main_cst_1 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_cst_2 : Ref sig .tc := ⟨.hbm, 43, rfl⟩
abbrev main_v17 : Ref sig .tc := ⟨.hbm, 44, rfl⟩
abbrev main_v18 : Ref sig .tc := ⟨.hbm, 45, rfl⟩
abbrev main_cst_3 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_4 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_5 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_6 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_cst_7 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_8 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_9 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75_0 : Ref sig .tc := ⟨.hbm, 112, rfl⟩
abbrev main_v75_1 : Ref sig .tc := ⟨.hbm, 113, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![8, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S128x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceIdeal.lean ====
abbrev S8x2048x6144 : Shape := ⟨3, ![8, 2048, 6144]⟩
abbrev S1x2048 : Shape := ⟨2, ![1, 2048]⟩
abbrev S2048 : Shape := ⟨1, ![2048]⟩
abbrev S_ : Shape := ⟨0, ![]⟩
abbrev S8x8x128x256 : Shape := ⟨4, ![8, 8, 128, 256]⟩
abbrev S8x2048x1024 : Shape := ⟨3, ![8, 2048, 1024]⟩
abbrev S8x2048x2048 : Shape := ⟨3, ![8, 2048, 2048]⟩
abbrev S8x2048x8x128 : Shape := ⟨4, ![8, 2048, 8, 128]⟩
abbrev S63 : Shape := ⟨1, ![63]⟩
abbrev S1 : Shape := ⟨1, ![1]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S8x2048x8x64 : Shape := ⟨4, ![8, 2048, 8, 64]⟩
abbrev S8x2048x8x256 : Shape := ⟨4, ![8, 2048, 8, 256]⟩
abbrev S8x16x128x8x128 : Shape := ⟨5, ![8, 16, 128, 8, 128]⟩
abbrev S16x8x128x8x128 : Shape := ⟨5, ![16, 8, 128, 8, 128]⟩
abbrev S8x16x128x8x256 : Shape := ⟨5, ![8, 16, 128, 8, 256]⟩
abbrev S16x8x128x8x256 : Shape := ⟨5, ![16, 8, 128, 8, 256]⟩
abbrev S1x8x128x8x128 : Shape := ⟨5, ![1, 8, 128, 8, 128]⟩
abbrev S8x128x8x128 : Shape := ⟨4, ![8, 128, 8, 128]⟩
abbrev S1x8x128x8x256 : Shape := ⟨5, ![1, 8, 128, 8, 256]⟩
abbrev S8x128x8x256 : Shape := ⟨4, ![8, 128, 8, 256]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S8x8x128x128 : Shape := ⟨4, ![8, 8, 128, 128]⟩
abbrev S1x8x128x128 : Shape := ⟨4, ![1, 8, 128, 128]⟩
abbrev S8x8x256x128 : Shape := ⟨4, ![8, 8, 256, 128]⟩
abbrev S1x8 : Shape := ⟨2, ![1, 8]⟩
abbrev S128x8 : Shape := ⟨2, ![128, 8]⟩
abbrev S1x128x8x1 : Shape := ⟨4, ![1, 128, 8, 1]⟩
abbrev S1x8x1x1 : Shape := ⟨4, ![1, 8, 1, 1]⟩
abbrev S8x2048x8 : Shape := ⟨3, ![8, 2048, 8]⟩
abbrev S8x2048x8x1 : Shape := ⟨4, ![8, 2048, 8, 1]⟩
abbrev S1x1x2048 : Shape := ⟨3, ![1, 1, 2048]⟩
abbrev S16384x2048 : Shape := ⟨2, ![16384, 2048]⟩

abbrev nBuf : Space → Nat
  | .hbm => 280
  | .vmem => 0
  | .smem => 0
  | _ => 0

abbrev hbmTy0_0 (i : Nat) : BufTy := match i % 128 with
  | 0 => ⟨S8x2048x6144, .f32⟩
  | 1 => ⟨S1x2048, .f32⟩
  | 2 => ⟨S1x2048, .f32⟩
  | 3 => ⟨S2048, .i32⟩
  | 4 => ⟨S_, .f32⟩
  | 5 => ⟨S8x8x128x256, .f32⟩
  | 6 => ⟨S8x2048x1024, .f32⟩
  | 7 => ⟨S8x2048x1024, .f32⟩
  | 8 => ⟨S8x2048x2048, .f32⟩
  | 9 => ⟨S8x2048x8x128, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S63, .f32⟩
  | 18 => ⟨S_, .f32⟩
  | 19 => ⟨S63, .f32⟩
  | 20 => ⟨S63, .f32⟩
  | 21 => ⟨S1, .f32⟩
  | 22 => ⟨S_, .f32⟩
  | 23 => ⟨S63, .f32⟩
  | 24 => ⟨S63, .f32⟩
  | 25 => ⟨S63, .f32⟩
  | 26 => ⟨S63, .f32⟩
  | 27 => ⟨S1, .f32⟩
  | 28 => ⟨S63, .f32⟩
  | 29 => ⟨S63, .f32⟩
  | 30 => ⟨S63, .f32⟩
  | 31 => ⟨S1, .f32⟩
  | 32 => ⟨S64, .f32⟩
  | 33 => ⟨S64, .f32⟩
  | 34 => ⟨S_, .f32⟩
  | 35 => ⟨S64, .f32⟩
  | 36 => ⟨S64, .f32⟩
  | 37 => ⟨S2048, .f32⟩
  | 38 => ⟨S2048x1, .f32⟩
  | 39 => ⟨S1x64, .f32⟩
  | 40 => ⟨S2048x64, .f32⟩
  | 41 => ⟨S2048x64, .f32⟩
  | 42 => ⟨S2048x64, .f32⟩
  | 43 => ⟨S2048x64, .f32⟩
  | 44 => ⟨S1x2048x1x64, .f32⟩
  | 45 => ⟨S2048x64, .f32⟩
  | 46 => ⟨S1x2048x1x64, .f32⟩
  | 47 => ⟨S8x2048x8x64, .f32⟩
  | 48 => ⟨S8x2048x8x64, .f32⟩
  | 49 => ⟨S8x2048x8x64, .f32⟩
  | 50 => ⟨S8x2048x8x64, .f32⟩
  | 51 => ⟨S8x2048x8x64, .f32⟩
  | 52 => ⟨S8x2048x8x64, .f32⟩
  | 53 => ⟨S8x2048x8x64, .f32⟩
  | 54 => ⟨S8x2048x8x64, .f32⟩
  | 55 => ⟨S8x2048x8x64, .f32⟩
  | 56 => ⟨S8x2048x8x64, .f32⟩
  | 57 => ⟨S8x2048x8x64, .f32⟩
  | 58 => ⟨S8x2048x8x64, .f32⟩
  | 59 => ⟨S8x2048x8x128, .f32⟩
  | 60 => ⟨S8x2048x8x128, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S63, .f32⟩
  | 69 => ⟨S_, .f32⟩
  | 70 => ⟨S63, .f32⟩
  | 71 => ⟨S63, .f32⟩
  | 72 => ⟨S1, .f32⟩
  | 73 => ⟨S_, .f32⟩
  | 74 => ⟨S63, .f32⟩
  | 75 => ⟨S63, .f32⟩
  | 76 => ⟨S63, .f32⟩
  | 77 => ⟨S63, .f32⟩
  | 78 => ⟨S1, .f32⟩
  | 79 => ⟨S63, .f32⟩
  | 80 => ⟨S63, .f32⟩
  | 81 => ⟨S63, .f32⟩
  | 82 => ⟨S1, .f32⟩
  | 83 => ⟨S64, .f32⟩
  | 84 => ⟨S64, .f32⟩
  | 85 => ⟨S_, .f32⟩
  | 86 => ⟨S64, .f32⟩
  | 87 => ⟨S64, .f32⟩
  | 88 => ⟨S2048, .f32⟩
  | 89 => ⟨S2048x1, .f32⟩
  | 90 => ⟨S1x64, .f32⟩
  | 91 => ⟨S2048x64, .f32⟩
  | 92 => ⟨S2048x64, .f32⟩
  | 93 => ⟨S2048x64, .f32⟩
  | 94 => ⟨S2048x64, .f32⟩
  | 95 => ⟨S1x2048x1x64, .f32⟩
  | 96 => ⟨S2048x64, .f32⟩
  | 97 => ⟨S1x2048x1x64, .f32⟩
  | 98 => ⟨S8x2048x8x64, .f32⟩
  | 99 => ⟨S8x2048x8x64, .f32⟩
  | 100 => ⟨S8x2048x8x64, .f32⟩
  | 101 => ⟨S8x2048x8x64, .f32⟩
  | 102 => ⟨S8x2048x8x64, .f32⟩
  | 103 => ⟨S8x2048x8x64, .f32⟩
  | 104 => ⟨S8x2048x8x64, .f32⟩
  | 105 => ⟨S8x2048x8x64, .f32⟩
  | 106 => ⟨S8x2048x8x64, .f32⟩
  | 107 => ⟨S8x2048x8x64, .f32⟩
  | 108 => ⟨S8x2048x8x64, .f32⟩
  | 109 => ⟨S8x2048x8x64, .f32⟩
  | 110 => ⟨S8x2048x8x128, .f32⟩
  | 111 => ⟨S_, .f32⟩
  | 112 => ⟨S8x2048x8x128, .f32⟩
  | 113 => ⟨S8x2048x8x128, .f32⟩
  | 114 => ⟨S8x2048x8x256, .f32⟩
  | 115 => ⟨S8x16x128x8x128, .f32⟩
  | 116 => ⟨S16x8x128x8x128, .f32⟩
  | 117 => ⟨S8x16x128x8x128, .f32⟩
  | 118 => ⟨S16x8x128x8x128, .f32⟩
  | 119 => ⟨S8x16x128x8x256, .f32⟩
  | 120 => ⟨S16x8x128x8x256, .f32⟩
  | 121 => ⟨S_, .f32⟩
  | 122 => ⟨S16x8x128x8x256, .f32⟩
  | 123 => ⟨S_, .i32⟩
  | 124 => ⟨S16x8x128x8x128, .f32⟩
  | 125 => ⟨S16x8x128x8x128, .f32⟩
  | 126 => ⟨S16x8x128x8x256, .f32⟩
  | 127 => ⟨S_, .i32⟩
  | _ => ⟨S8x2048x6144, .f32⟩

abbrev hbmTy0_1 (i : Nat) : BufTy := match i % 128 with
  | 0 => ⟨S8x8x128x256, .f32⟩
  | 1 => ⟨S16x8x128x8x256, .f32⟩
  | 2 => ⟨S_, .i32⟩
  | 3 => ⟨S_, .i1⟩
  | 4 => ⟨S_, .i32⟩
  | 5 => ⟨S_, .i32⟩
  | 6 => ⟨S_, .i32⟩
  | 7 => ⟨S_, .i32⟩
  | 8 => ⟨S1x8x128x8x128, .f32⟩
  | 9 => ⟨S8x128x8x128, .f32⟩
  | 10 => ⟨S_, .i32⟩
  | 11 => ⟨S_, .i32⟩
  | 12 => ⟨S_, .i32⟩
  | 13 => ⟨S_, .i32⟩
  | 14 => ⟨S1x8x128x8x128, .f32⟩
  | 15 => ⟨S8x128x8x128, .f32⟩
  | 16 => ⟨S_, .i32⟩
  | 17 => ⟨S_, .i32⟩
  | 18 => ⟨S_, .i32⟩
  | 19 => ⟨S_, .i32⟩
  | 20 => ⟨S1x8x128x8x256, .f32⟩
  | 21 => ⟨S8x128x8x256, .f32⟩
  | 22 => ⟨S8, .f32⟩
  | 23 => ⟨S_, .f32⟩
  | 24 => ⟨S8, .f32⟩
  | 25 => ⟨S8, .f32⟩
  | 26 => ⟨S_, .f32⟩
  | 27 => ⟨S8, .f32⟩
  | 28 => ⟨S8, .f32⟩
  | 29 => ⟨S8, .f32⟩
  | 30 => ⟨S8, .f32⟩
  | 31 => ⟨S8, .f32⟩
  | 32 => ⟨S128, .f32⟩
  | 33 => ⟨S128x1, .f32⟩
  | 34 => ⟨S1x128, .f32⟩
  | 35 => ⟨S128x128, .f32⟩
  | 36 => ⟨S128x128, .f32⟩
  | 37 => ⟨S128x128, .f32⟩
  | 38 => ⟨S_, .f32⟩
  | 39 => ⟨S128x128, .f32⟩
  | 40 => ⟨S128x128, .i1⟩
  | 41 => ⟨S8x1x1, .f32⟩
  | 42 => ⟨S_, .f32⟩
  | 43 => ⟨S128x128, .f32⟩
  | 44 => ⟨S128x128, .f32⟩
  | 45 => ⟨S1x128x128, .f32⟩
  | 46 => ⟨S8x128x128, .f32⟩
  | 47 => ⟨S8x128x128, .f32⟩
  | 48 => ⟨S8x128x128, .f32⟩
  | 49 => ⟨S8x128x128, .f32⟩
  | 50 => ⟨S_, .f32⟩
  | 51 => ⟨S_, .f32⟩
  | 52 => ⟨S8x128x128, .i1⟩
  | 53 => ⟨S8x128x128, .f32⟩
  | 54 => ⟨S8x128x128, .f32⟩
  | 55 => ⟨S8x8x128x128, .f32⟩
  | 56 => ⟨S1x8x128x128, .f32⟩
  | 57 => ⟨S8x8x128x128, .f32⟩
  | 58 => ⟨S8x8x128x128, .f32⟩
  | 59 => ⟨S8x8x256x128, .f32⟩
  | 60 => ⟨S8x128x8x256, .f32⟩
  | 61 => ⟨S1x8, .f32⟩
  | 62 => ⟨S128x1, .f32⟩
  | 63 => ⟨S_, .f32⟩
  | 64 => ⟨S128x1, .f32⟩
  | 65 => ⟨S128x1, .f32⟩
  | 66 => ⟨S128x8, .f32⟩
  | 67 => ⟨S128x8, .f32⟩
  | 68 => ⟨S128x8, .f32⟩
  | 69 => ⟨S128x8, .f32⟩
  | 70 => ⟨S8x8x256x128, .f32⟩
  | 71 => ⟨S8x128x8x256, .f32⟩
  | 72 => ⟨S1x128x8x1, .f32⟩
  | 73 => ⟨S8x128x8x256, .f32⟩
  | 74 => ⟨S8x128x8x256, .f32⟩
  | 75 => ⟨S1x8, .f32⟩
  | 76 => ⟨S128x1, .f32⟩
  | 77 => ⟨S_, .f32⟩
  | 78 => ⟨S128x1, .f32⟩
  | 79 => ⟨S128x1, .f32⟩
  | 80 => ⟨S128x8, .f32⟩
  | 81 => ⟨S128x8, .f32⟩
  | 82 => ⟨S128x8, .f32⟩
  | 83 => ⟨S128x8, .f32⟩
  | 84 => ⟨S_, .f32⟩
  | 85 => ⟨S8, .f32⟩
  | 86 => ⟨S8, .f32⟩
  | 87 => ⟨S8, .f32⟩
  | 88 => ⟨S1x8x1x1, .f32⟩
  | 89 => ⟨S8x8x128x256, .f32⟩
  | 90 => ⟨S8x8x128x256, .f32⟩
  | 91 => ⟨S1x128x8x1, .f32⟩
  | 92 => ⟨S8x128x8x128, .f32⟩
  | 93 => ⟨S8x128x8x128, .f32⟩
  | 94 => ⟨S8x8x128x256, .f32⟩
  | 95 => ⟨S8x8x128x256, .f32⟩
  | 96 => ⟨S8x128x8x256, .f32⟩
  | 97 => ⟨S1x8x128x8x256, .f32⟩
  | 98 => ⟨S_, .i32⟩
  | 99 => ⟨S_, .i32⟩
  | 100 => ⟨S_, .i32⟩
  | 101 => ⟨S_, .i32⟩
  | 102 => ⟨S16x8x128x8x256, .f32⟩
  | 103 => ⟨S_, .i32⟩
  | 104 => ⟨S_, .i32⟩
  | 105 => ⟨S8x16x128x8x256, .f32⟩
  | 106 => ⟨S8x2048x8x256, .f32⟩
  | 107 => ⟨S2048, .f32⟩
  | 108 => ⟨S2048, .f32⟩
  | 109 => ⟨S_, .f32⟩
  | 110 => ⟨S8x2048x8, .f32⟩
  | 111 => ⟨S8x2048x8x1, .f32⟩
  | 112 => ⟨S_, .f32⟩
  | 113 => ⟨S8x2048x8x1, .f32⟩
  | 114 => ⟨S8x2048x8x1, .f32⟩
  | 115 => ⟨S8x2048x8x256, .f32⟩
  | 116 => ⟨S8x2048x8x256, .f32⟩
  | 117 => ⟨S8x2048x8x256, .f32⟩
  | 118 => ⟨S_, .f32⟩
  | 119 => ⟨S8x2048x8, .f32⟩
  | 120 => ⟨S8x2048x8x1, .f32⟩
  | 121 => ⟨S_, .f32⟩
  | 122 => ⟨S8x2048x8x1, .f32⟩
  | 123 => ⟨S8x2048x8x1, .f32⟩
  | 124 => ⟨S8x2048x8x256, .f32⟩
  | 125 => ⟨S8x2048x8x256, .f32⟩
  | 126 => ⟨S_, .f32⟩
  | 127 => ⟨S8x2048x8x1, .f32⟩
  | _ => ⟨S8x2048x6144, .f32⟩

abbrev hbmTy0_2 (i : Nat) : BufTy := match i % 128 with
  | 0 => ⟨S8x2048x8x1, .f32⟩
  | 1 => ⟨S8x2048x8x1, .f32⟩
  | 2 => ⟨S8x2048x8x256, .f32⟩
  | 3 => ⟨S8x2048x8x256, .f32⟩
  | 4 => ⟨S8x2048x2048, .f32⟩
  | 5 => ⟨S1x1x2048, .f32⟩
  | 6 => ⟨S8x2048x2048, .f32⟩
  | 7 => ⟨S8x2048x2048, .f32⟩
  | 8 => ⟨S1x1x2048, .f32⟩
  | 9 => ⟨S8x2048x2048, .f32⟩
  | 10 => ⟨S8x2048x2048, .f32⟩
  | 11 => ⟨S8x2048x2048, .f32⟩
  | 12 => ⟨S8x2048x2048, .f32⟩
  | 13 => ⟨S8x2048x2048, .f32⟩
  | 14 => ⟨S_, .f32⟩
  | 15 => ⟨S8x2048x2048, .f32⟩
  | 16 => ⟨S8x2048x2048, .f32⟩
  | 17 => ⟨S_, .f32⟩
  | 18 => ⟨S8x2048x2048, .f32⟩
  | 19 => ⟨S8x2048x2048, .f32⟩
  | 20 => ⟨S8x2048x2048, .f32⟩
  | 21 => ⟨S8x2048x2048, .f32⟩
  | 22 => ⟨S16384x2048, .f32⟩
  | 23 => ⟨S16384x2048, .bf16⟩
  | _ => ⟨S8x2048x6144, .f32⟩

abbrev hbmTy (i : Nat) : BufTy := match i / 128 with
  | 0 => hbmTy0_0 i
  | 1 => hbmTy0_1 i
  | 2 => hbmTy0_2 i
  | _ => ⟨S8x2048x6144, .f32⟩

abbrev bufTy : (tb : Table) → Fin (tcTables nBuf tb) → BufTy
  | .hbm, ⟨i, _⟩ => hbmTy i
  | _, _ => ⟨S8x2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_cst : Ref sig .tc := ⟨.hbm, 15, rfl⟩
abbrev main_call0_v3 : Ref sig .tc := ⟨.hbm, 16, rfl⟩
abbrev main_call0_v4 : Ref sig .tc := ⟨.hbm, 17, rfl⟩
abbrev main_call0_cst_0 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_cst_1 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_v15 : Ref sig .tc := ⟨.hbm, 30, rfl⟩
abbrev main_call0_v16 : Ref sig .tc := ⟨.hbm, 31, rfl⟩
abbrev main_v6 : Ref sig .tc := ⟨.hbm, 32, rfl⟩
abbrev main_v7 : Ref sig .tc := ⟨.hbm, 33, rfl⟩
abbrev main_cst_2 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_3 : Ref sig .tc := ⟨.hbm, 61, rfl⟩
abbrev main_cst_4 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_call1_cst : Ref sig .tc := ⟨.hbm, 66, rfl⟩
abbrev main_call1_v3 : Ref sig .tc := ⟨.hbm, 67, rfl⟩
abbrev main_call1_v4 : Ref sig .tc := ⟨.hbm, 68, rfl⟩
abbrev main_call1_cst_0 : Ref sig .tc := ⟨.hbm, 69, rfl⟩
abbrev main_call1_v5 : Ref sig .tc := ⟨.hbm, 70, rfl⟩
abbrev main_call1_v6 : Ref sig .tc := ⟨.hbm, 71, rfl⟩
abbrev main_call1_v7 : Ref sig .tc := ⟨.hbm, 72, rfl⟩
abbrev main_call1_cst_1 : Ref sig .tc := ⟨.hbm, 73, rfl⟩
abbrev main_call1_v8 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_v12 : Ref sig .tc := ⟨.hbm, 78, rfl⟩
abbrev main_call1_v13 : Ref sig .tc := ⟨.hbm, 79, rfl⟩
abbrev main_call1_v14 : Ref sig .tc := ⟨.hbm, 80, rfl⟩
abbrev main_call1_v15 : Ref sig .tc := ⟨.hbm, 81, rfl⟩
abbrev main_call1_v16 : Ref sig .tc := ⟨.hbm, 82, rfl⟩
abbrev main_v34 : Ref sig .tc := ⟨.hbm, 83, rfl⟩
abbrev main_v35 : Ref sig .tc := ⟨.hbm, 84, rfl⟩
abbrev main_cst_5 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_cst_6 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_cst_7 : Ref sig .tc := ⟨.hbm, 121, rfl⟩
abbrev main_v70 : Ref sig .tc := ⟨.hbm, 122, rfl⟩
abbrev main_c : Ref sig .tc := ⟨.hbm, 123, rfl⟩
abbrev main_v71_0 : Ref sig .tc := ⟨.hbm, 124, rfl⟩
abbrev main_v71_1 : Ref sig .tc := ⟨.hbm, 125, rfl⟩
abbrev main_v71_2 : Ref sig .tc := ⟨.hbm, 126, rfl⟩
abbrev main_v71_3 : Ref sig .tc := ⟨.hbm, 127, rfl⟩
abbrev main_v71_4 : Ref sig .tc := ⟨.hbm, 128, rfl⟩
abbrev main_v71_5 : Ref sig .tc := ⟨.hbm, 129, rfl⟩
abbrev main_while0c_c_18 : Ref sig .tc := ⟨.hbm, 130, rfl⟩
abbrev main_while0c_v106 : Ref sig .tc := ⟨.hbm, 131, rfl⟩
abbrev main_while0b_call2_c : Ref sig .tc := ⟨.hbm, 132, rfl⟩
abbrev main_while0b_call2_c_0 : Ref sig .tc := ⟨.hbm, 133, rfl⟩
abbrev main_while0b_call2_c_1 : Ref sig .tc := ⟨.hbm, 134, rfl⟩
abbrev main_while0b_call2_c_2 : Ref sig .tc := ⟨.hbm, 135, rfl⟩
abbrev main_while0b_call2_v0 : Ref sig .tc := ⟨.hbm, 136, rfl⟩
abbrev main_while0b_v106 : Ref sig .tc := ⟨.hbm, 137, rfl⟩
abbrev main_while0b_call3_c : Ref sig .tc := ⟨.hbm, 138, rfl⟩
abbrev main_while0b_call3_c_0 : Ref sig .tc := ⟨.hbm, 139, rfl⟩
abbrev main_while0b_call3_c_1 : Ref sig .tc := ⟨.hbm, 140, rfl⟩
abbrev main_while0b_call3_c_2 : Ref sig .tc := ⟨.hbm, 141, rfl⟩
abbrev main_while0b_call3_v0 : Ref sig .tc := ⟨.hbm, 142, rfl⟩
abbrev main_while0b_v107 : Ref sig .tc := ⟨.hbm, 143, rfl⟩
abbrev main_while0b_call4_c : Ref sig .tc := ⟨.hbm, 144, rfl⟩
abbrev main_while0b_call4_c_0 : Ref sig .tc := ⟨.hbm, 145, rfl⟩
abbrev main_while0b_call4_c_1 : Ref sig .tc := ⟨.hbm, 146, rfl⟩
abbrev main_while0b_call4_c_2 : Ref sig .tc := ⟨.hbm, 147, rfl⟩
abbrev main_while0b_call4_v0 : Ref sig .tc := ⟨.hbm, 148, rfl⟩
abbrev main_while0b_v108 : Ref sig .tc := ⟨.hbm, 149, rfl⟩
abbrev main_while0b_v109 : Ref sig .tc := ⟨.hbm, 150, rfl⟩
abbrev main_while0b_cst_18 : Ref sig .tc := ⟨.hbm, 151, rfl⟩
abbrev main_while0b_v110 : Ref sig .tc := ⟨.hbm, 152, rfl⟩
abbrev main_while0b_v111 : Ref sig .tc := ⟨.hbm, 153, rfl⟩
abbrev main_while0b_cst_19 : Ref sig .tc := ⟨.hbm, 154, rfl⟩
abbrev main_while0b_v112 : Ref sig .tc := ⟨.hbm, 155, rfl⟩
abbrev main_while0b_v113 : Ref sig .tc := ⟨.hbm, 156, rfl⟩
abbrev main_while0b_v114 : Ref sig .tc := ⟨.hbm, 157, rfl⟩
abbrev main_while0b_v115 : Ref sig .tc := ⟨.hbm, 158, rfl⟩
abbrev main_while0b_v116 : Ref sig .tc := ⟨.hbm, 159, rfl⟩
abbrev main_while0b_v117 : Ref sig .tc := ⟨.hbm, 160, rfl⟩
abbrev main_while0b_v118 : Ref sig .tc := ⟨.hbm, 161, rfl⟩
abbrev main_while0b_v119 : Ref sig .tc := ⟨.hbm, 162, rfl⟩
abbrev main_while0b_v120 : Ref sig .tc := ⟨.hbm, 163, rfl⟩
abbrev main_while0b_v121 : Ref sig .tc := ⟨.hbm, 164, rfl⟩
abbrev main_while0b_v122 : Ref sig .tc := ⟨.hbm, 165, rfl⟩
abbrev main_while0b_cst_20 : Ref sig .tc := ⟨.hbm, 166, rfl⟩
abbrev main_while0b_v123 : Ref sig .tc := ⟨.hbm, 167, rfl⟩
abbrev main_while0b_v124 : Ref sig .tc := ⟨.hbm, 168, rfl⟩
abbrev main_while0b_v125 : Ref sig .tc := ⟨.hbm, 169, rfl⟩
abbrev main_while0b_cst_21 : Ref sig .tc := ⟨.hbm, 170, rfl⟩
abbrev main_while0b_v126 : Ref sig .tc := ⟨.hbm, 171, rfl⟩
abbrev main_while0b_v127 : Ref sig .tc := ⟨.hbm, 172, rfl⟩
abbrev main_while0b_v128 : Ref sig .tc := ⟨.hbm, 173, rfl⟩
abbrev main_while0b_v129 : Ref sig .tc := ⟨.hbm, 174, rfl⟩
abbrev main_while0b_v130 : Ref sig .tc := ⟨.hbm, 175, rfl⟩
abbrev main_while0b_v131 : Ref sig .tc := ⟨.hbm, 176, rfl⟩
abbrev main_while0b_v132 : Ref sig .tc := ⟨.hbm, 177, rfl⟩
abbrev main_while0b_cst_22 : Ref sig .tc := ⟨.hbm, 178, rfl⟩
abbrev main_while0b_call5_v0 : Ref sig .tc := ⟨.hbm, 179, rfl⟩
abbrev main_while0b_call5_v1 : Ref sig .tc := ⟨.hbm, 180, rfl⟩
abbrev main_while0b_call5_v2 : Ref sig .tc := ⟨.hbm, 181, rfl⟩
abbrev main_while0b_v133 : Ref sig .tc := ⟨.hbm, 182, rfl⟩
abbrev main_while0b_v134 : Ref sig .tc := ⟨.hbm, 183, rfl⟩
abbrev main_while0b_v135 : Ref sig .tc := ⟨.hbm, 184, rfl⟩
abbrev main_while0b_v136 : Ref sig .tc := ⟨.hbm, 185, rfl⟩
abbrev main_while0b_v137 : Ref sig .tc := ⟨.hbm, 186, rfl⟩
abbrev main_while0b_v138 : Ref sig .tc := ⟨.hbm, 187, rfl⟩
abbrev main_while0b_v139 : Ref sig .tc := ⟨.hbm, 188, rfl⟩
abbrev main_while0b_v140 : Ref sig .tc := ⟨.hbm, 189, rfl⟩
abbrev main_while0b_v141 : Ref sig .tc := ⟨.hbm, 190, rfl⟩
abbrev main_while0b_cst_23 : Ref sig .tc := ⟨.hbm, 191, rfl⟩
abbrev main_while0b_v142 : Ref sig .tc := ⟨.hbm, 192, rfl⟩
abbrev main_while0b_v143 : Ref sig .tc := ⟨.hbm, 193, rfl⟩
abbrev main_while0b_v144 : Ref sig .tc := ⟨.hbm, 194, rfl⟩
abbrev main_while0b_v145 : Ref sig .tc := ⟨.hbm, 195, rfl⟩
abbrev main_while0b_v146 : Ref sig .tc := ⟨.hbm, 196, rfl⟩
abbrev main_while0b_v147 : Ref sig .tc := ⟨.hbm, 197, rfl⟩
abbrev main_while0b_v148 : Ref sig .tc := ⟨.hbm, 198, rfl⟩
abbrev main_while0b_v149 : Ref sig .tc := ⟨.hbm, 199, rfl⟩
abbrev main_while0b_v150 : Ref sig .tc := ⟨.hbm, 200, rfl⟩
abbrev main_while0b_v151 : Ref sig .tc := ⟨.hbm, 201, rfl⟩
abbrev main_while0b_v152 : Ref sig .tc := ⟨.hbm, 202, rfl⟩
abbrev main_while0b_v153 : Ref sig .tc := ⟨.hbm, 203, rfl⟩
abbrev main_while0b_v154 : Ref sig .tc := ⟨.hbm, 204, rfl⟩
abbrev main_while0b_cst_24 : Ref sig .tc := ⟨.hbm, 205, rfl⟩
abbrev main_while0b_v155 : Ref sig .tc := ⟨.hbm, 206, rfl⟩
abbrev main_while0b_v156 : Ref sig .tc := ⟨.hbm, 207, rfl⟩
abbrev main_while0b_v157 : Ref sig .tc := ⟨.hbm, 208, rfl⟩
abbrev main_while0b_v158 : Ref sig .tc := ⟨.hbm, 209, rfl⟩
abbrev main_while0b_v159 : Ref sig .tc := ⟨.hbm, 210, rfl⟩
abbrev main_while0b_v160 : Ref sig .tc := ⟨.hbm, 211, rfl⟩
abbrev main_while0b_cst_25 : Ref sig .tc := ⟨.hbm, 212, rfl⟩
abbrev main_while0b_v161 : Ref sig .tc := ⟨.hbm, 213, rfl⟩
abbrev main_while0b_v162 : Ref sig .tc := ⟨.hbm, 214, rfl⟩
abbrev main_while0b_v163 : Ref sig .tc := ⟨.hbm, 215, rfl⟩
abbrev main_while0b_v164 : Ref sig .tc := ⟨.hbm, 216, rfl⟩
abbrev main_while0b_v165 : Ref sig .tc := ⟨.hbm, 217, rfl⟩
abbrev main_while0b_v166 : Ref sig .tc := ⟨.hbm, 218, rfl⟩
abbrev main_while0b_v167 : Ref sig .tc := ⟨.hbm, 219, rfl⟩
abbrev main_while0b_v168 : Ref sig .tc := ⟨.hbm, 220, rfl⟩
abbrev main_while0b_v169 : Ref sig .tc := ⟨.hbm, 221, rfl⟩
abbrev main_while0b_v170 : Ref sig .tc := ⟨.hbm, 222, rfl⟩
abbrev main_while0b_v171 : Ref sig .tc := ⟨.hbm, 223, rfl⟩
abbrev main_while0b_v172 : Ref sig .tc := ⟨.hbm, 224, rfl⟩
abbrev main_while0b_call6_v0 : Ref sig .tc := ⟨.hbm, 225, rfl⟩
abbrev main_while0b_call6_c : Ref sig .tc := ⟨.hbm, 226, rfl⟩
abbrev main_while0b_call6_c_0 : Ref sig .tc := ⟨.hbm, 227, rfl⟩
abbrev main_while0b_call6_c_1 : Ref sig .tc := ⟨.hbm, 228, rfl⟩
abbrev main_while0b_call6_c_2 : Ref sig .tc := ⟨.hbm, 229, rfl⟩
abbrev main_while0b_v173 : Ref sig .tc := ⟨.hbm, 230, rfl⟩
abbrev main_while0b_c_26 : Ref sig .tc := ⟨.hbm, 231, rfl⟩
abbrev main_while0b_v174 : Ref sig .tc := ⟨.hbm, 232, rfl⟩
abbrev main_v72 : Ref sig .tc := ⟨.hbm, 233, rfl⟩
abbrev main_v73 : Ref sig .tc := ⟨.hbm, 234, rfl⟩
abbrev main_v74 : Ref sig .tc := ⟨.hbm, 235, rfl⟩
abbrev main_v75 : Ref sig .tc := ⟨.hbm, 236, rfl⟩
abbrev main_cst_8 : Ref sig .tc := ⟨.hbm, 237, rfl⟩
abbrev main_v76 : Ref sig .tc := ⟨.hbm, 238, rfl⟩
abbrev main_v77 : Ref sig .tc := ⟨.hbm, 239, rfl⟩
abbrev main_cst_9 : Ref sig .tc := ⟨.hbm, 240, rfl⟩
abbrev main_v78 : Ref sig .tc := ⟨.hbm, 241, rfl⟩
abbrev main_v79 : Ref sig .tc := ⟨.hbm, 242, rfl⟩
abbrev main_v80 : Ref sig .tc := ⟨.hbm, 243, rfl⟩
abbrev main_v81 : Ref sig .tc := ⟨.hbm, 244, rfl⟩
abbrev main_v82 : Ref sig .tc := ⟨.hbm, 245, rfl⟩
abbrev main_cst_10 : Ref sig .tc := ⟨.hbm, 246, rfl⟩
abbrev main_v83 : Ref sig .tc := ⟨.hbm, 247, rfl⟩
abbrev main_v84 : Ref sig .tc := ⟨.hbm, 248, rfl⟩
abbrev main_cst_11 : Ref sig .tc := ⟨.hbm, 249, rfl⟩
abbrev main_v85 : Ref sig .tc := ⟨.hbm, 250, rfl⟩
abbrev main_v86 : Ref sig .tc := ⟨.hbm, 251, rfl⟩
abbrev main_v87 : Ref sig .tc := ⟨.hbm, 252, rfl⟩
abbrev main_v88 : Ref sig .tc := ⟨.hbm, 253, rfl⟩
abbrev main_cst_12 : Ref sig .tc := ⟨.hbm, 254, rfl⟩
abbrev main_v89 : Ref sig .tc := ⟨.hbm, 255, rfl⟩
abbrev main_v90 : Ref sig .tc := ⟨.hbm, 256, rfl⟩
abbrev main_v91 : Ref sig .tc := ⟨.hbm, 257, rfl⟩
abbrev main_v92 : Ref sig .tc := ⟨.hbm, 258, rfl⟩
abbrev main_v93 : Ref sig .tc := ⟨.hbm, 259, rfl⟩
abbrev main_v94 : Ref sig .tc := ⟨.hbm, 260, rfl⟩
abbrev main_v95 : Ref sig .tc := ⟨.hbm, 261, rfl⟩
abbrev main_v96 : Ref sig .tc := ⟨.hbm, 262, rfl⟩
abbrev main_v97 : Ref sig .tc := ⟨.hbm, 263, rfl⟩
abbrev main_v98 : Ref sig .tc := ⟨.hbm, 264, rfl⟩
abbrev main_v99 : Ref sig .tc := ⟨.hbm, 265, rfl⟩
abbrev main_v100 : Ref sig .tc := ⟨.hbm, 266, rfl⟩
abbrev main_v101 : Ref sig .tc := ⟨.hbm, 267, rfl⟩
abbrev main_call7_v0 : Ref sig .tc := ⟨.hbm, 268, rfl⟩
abbrev main_call7_v1 : Ref sig .tc := ⟨.hbm, 269, rfl⟩
abbrev main_call7_cst : Ref sig .tc := ⟨.hbm, 270, rfl⟩
abbrev main_call7_v2 : Ref sig .tc := ⟨.hbm, 271, rfl⟩
abbrev main_call7_v3 : Ref sig .tc := ⟨.hbm, 272, rfl⟩
abbrev main_call7_cst_0 : Ref sig .tc := ⟨.hbm, 273, rfl⟩
abbrev main_call7_v4 : Ref sig .tc := ⟨.hbm, 274, rfl⟩
abbrev main_call7_v5 : Ref sig .tc := ⟨.hbm, 275, rfl⟩
abbrev main_v102 : Ref sig .tc := ⟨.hbm, 276, rfl⟩
abbrev main_v103 : Ref sig .tc := ⟨.hbm, 277, rfl⟩
abbrev main_v104 : Ref sig .tc := ⟨.hbm, 278, rfl⟩
abbrev main_v105 : Ref sig .tc := ⟨.hbm, 279, rfl⟩

abbrev nD : Nat := 1
abbrev τ : Topo := Topo.v7x

variable {F : FTy → Type} [FloatOps F]

abbrev main_while0_count : Scf.Loop 32 := ⟨0#32, 16#32, 1#32⟩
-- ==== Kernel2.lean ====
abbrev S36864x1024 : Shape := ⟨2, ![36864, 1024]⟩
abbrev S72 : Shape := ⟨1, ![72]⟩
abbrev S1 : Shape := ⟨1, ![1]⟩
abbrev S8x1024x3584 : Shape := ⟨3, ![8, 1024, 3584]⟩
abbrev S8x3584x1024 : Shape := ⟨3, ![8, 3584, 1024]⟩
abbrev S512x1024 : Shape := ⟨2, ![512, 1024]⟩
abbrev S1x1024x1792 : Shape := ⟨3, ![1, 1024, 1792]⟩
abbrev S1x1792x1024 : Shape := ⟨3, ![1, 1792, 1024]⟩
abbrev S1024x1792 : Shape := ⟨2, ![1024, 1792]⟩
abbrev S1792x1024 : Shape := ⟨2, ![1792, 1024]⟩
abbrev S512x1792 : Shape := ⟨2, ![512, 1792]⟩

abbrev nBuf : Space → Nat
  | .hbm => 5
  | .vmem => 12
  | .smem => 2
  | _ => 0

abbrev bufTy : (tb : Table) → Fin (tcTables nBuf tb) → BufTy
  | .hbm, ⟨0, _⟩ => ⟨S36864x1024, .f32⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S36864x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1792, .f32⟩
  | .local _ .vmem, ⟨3, _⟩ => ⟨S1x1024x1792, .f32⟩
  | .local _ .vmem, ⟨4, _⟩ => ⟨S1x1024x1792, .f32⟩
  | .local _ .vmem, ⟨5, _⟩ => ⟨S1x1024x1792, .f32⟩
  | .local _ .vmem, ⟨6, _⟩ => ⟨S1x1792x1024, .f32⟩
  | .local _ .vmem, ⟨7, _⟩ => ⟨S1x1792x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .f32⟩
  | .local _ .smem, ⟨0, _⟩ => ⟨S72, .i32⟩
  | .local _ .smem, ⟨1, _⟩ => ⟨S1, .i32⟩
  | _, _ => ⟨S36864x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![72, 2], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c1_i32 : BitVec 32 := 1#32
  let v8 : BitVec 1 := Scalar.cmpi .eq arg1 c1_i32
  let v9 : BitVec 1 := Scalar.andi v1 v8
  let v10 : BitVec 32 := Scalar.extui v9
  let c0_i32_2 : BitVec 32 := 0#32
  let v11 : BitVec 1 := Scalar.cmpi .ne v10 c0_i32_2
  v11

def k0_cond4 (i : grid0.Coords) (v0 : BitVec 32) : BitVec 1 :=
  let arg0 : BitVec 32 := BitVec.ofNat 32 (i 0).val
  let v1 : BitVec 1 := Scalar.cmpi .slt arg0 v0
  let v_true : BitVec 1 := 1#1
  let v12 : BitVec 1 := Scalar.xori v1 v_true
  let arg1 : BitVec 32 := BitVec.ofNat 32 (i 1).val
  let c1_i32_3 : BitVec 32 := 1#32
  let v13 : BitVec 1 := Scalar.cmpi .eq arg1 c1_i32_3
  let v14 : BitVec 1 := Scalar.andi v12 v13
  let v15 : BitVec 32 := Scalar.extui v14
  let c0_i32_4 : BitVec 32 := 0#32
  let v16 : BitVec 1 := Scalar.cmpi .ne v15 c0_i32_4
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S36864x1024 : Shape := ⟨2, ![36864, 1024]⟩
abbrev S72 : Shape := ⟨1, ![72]⟩
abbrev S1 : Shape := ⟨1, ![1]⟩
abbrev S8x1024x3584 : Shape := ⟨3, ![8, 1024, 3584]⟩
abbrev S8x3584x1024 : Shape := ⟨3, ![8, 3584, 1024]⟩
abbrev S72x512 : Shape := ⟨2, ![72, 512]⟩
abbrev S36864 : Shape := ⟨1, ![36864]⟩
abbrev S_ : Shape := ⟨0, ![]⟩
abbrev S36864x1 : Shape := ⟨2, ![36864, 1]⟩
abbrev S1x8 : Shape := ⟨2, ![1, 8]⟩
abbrev S36864x8 : Shape := ⟨2, ![36864, 8]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S36864x3584 : Shape := ⟨2, ![36864, 3584]⟩

abbrev nBuf : Space → Nat
  | .hbm => 210
  | .vmem => 0
  | .smem => 0
  | _ => 0

abbrev hbmTy0_0 (i : Nat) : BufTy := match i % 128 with
  | 0 => ⟨S36864x1024, .f32⟩
  | 1 => ⟨S72, .i32⟩
  | 2 => ⟨S1, .i32⟩
  | 3 => ⟨S8x1024x3584, .f32⟩
  | 4 => ⟨S8x1024x3584, .f32⟩
  | 5 => ⟨S8x3584x1024, .f32⟩
  | 6 => ⟨S72x512, .i32⟩
  | 7 => ⟨S36864, .i32⟩
  | 8 => ⟨S72, .i32⟩
  | 9 => ⟨S_, .i32⟩
  | 10 => ⟨S72, .i32⟩
  | 11 => ⟨S72, .i1⟩
  | 12 => ⟨S72x512, .i1⟩
  | 13 => ⟨S36864, .i1⟩
  | 14 => ⟨S36864x1, .i32⟩
  | 15 => ⟨S1x8, .i32⟩
  | 16 => ⟨S36864x8, .i32⟩
  | 17 => ⟨S36864x8, .i32⟩
  | 18 => ⟨S36864x8, .i1⟩
  | 19 => ⟨S36864x8, .f32⟩
  | 20 => ⟨S36864x1, .i1⟩
  | 21 => ⟨S36864x1, .f32⟩
  | 22 => ⟨S36864x8, .f32⟩
  | 23 => ⟨S36864x8, .f32⟩
  | 24 => ⟨S_, .f32⟩
  | 25 => ⟨S36864x1024, .f32⟩
  | 26 => ⟨S36864x1, .f32⟩
  | 27 => ⟨S1x1024x3584, .f32⟩
  | 28 => ⟨S1024x3584, .f32⟩
  | 29 => ⟨S1x1024x3584, .f32⟩
  | 30 => ⟨S1024x3584, .f32⟩
  | 31 => ⟨S1x3584x1024, .f32⟩
  | 32 => ⟨S3584x1024, .f32⟩
  | 33 => ⟨S36864x3584, .f32⟩
  | 34 => ⟨S36864x3584, .f32⟩
  | 35 => ⟨S36864x3584, .f32⟩
  | 36 => ⟨S_, .f32⟩
  | 37 => ⟨S36864x3584, .f32⟩
  | 38 => ⟨S36864x3584, .f32⟩
  | 39 => ⟨S_, .f32⟩
  | 40 => ⟨S36864x3584, .f32⟩
  | 41 => ⟨S36864x3584, .f32⟩
  | 42 => ⟨S36864x3584, .f32⟩
  | 43 => ⟨S36864x3584, .f32⟩
  | 44 => ⟨S36864x3584, .f32⟩
  | 45 => ⟨S36864x1024, .f32⟩
  | 46 => ⟨S36864x1024, .f32⟩
  | 47 => ⟨S36864x1024, .f32⟩
  | 48 => ⟨S36864x1024, .f32⟩
  | 49 => ⟨S36864x1, .f32⟩
  | 50 => ⟨S1x1024x3584, .f32⟩
  | 51 => ⟨S1024x3584, .f32⟩
  | 52 => ⟨S1x1024x3584, .f32⟩
  | 53 => ⟨S1024x3584, .f32⟩
  | 54 => ⟨S1x3584x1024, .f32⟩
  | 55 => ⟨S3584x1024, .f32⟩
  | 56 => ⟨S36864x3584, .f32⟩
  | 57 => ⟨S36864x3584, .f32⟩
  | 58 => ⟨S36864x3584, .f32⟩
  | 59 => ⟨S_, .f32⟩
  | 60 => ⟨S36864x3584, .f32⟩
  | 61 => ⟨S36864x3584, .f32⟩
  | 62 => ⟨S_, .f32⟩
  | 63 => ⟨S36864x3584, .f32⟩
  | 64 => ⟨S36864x3584, .f32⟩
  | 65 => ⟨S36864x3584, .f32⟩
  | 66 => ⟨S36864x3584, .f32⟩
  | 67 => ⟨S36864x3584, .f32⟩
  | 68 => ⟨S36864x1024, .f32⟩
  | 69 => ⟨S36864x1024, .f32⟩
  | 70 => ⟨S36864x1024, .f32⟩
  | 71 => ⟨S36864x1024, .f32⟩
  | 72 => ⟨S36864x1, .f32⟩
  | 73 => ⟨S1x1024x3584, .f32⟩
  | 74 => ⟨S1024x3584, .f32⟩
  | 75 => ⟨S1x1024x3584, .f32⟩
  | 76 => ⟨S1024x3584, .f32⟩
  | 77 => ⟨S1x3584x1024, .f32⟩
  | 78 => ⟨S3584x1024, .f32⟩
  | 79 => ⟨S36864x3584, .f32⟩
  | 80 => ⟨S36864x3584, .f32⟩
  | 81 => ⟨S36864x3584, .f32⟩
  | 82 => ⟨S_, .f32⟩
  | 83 => ⟨S36864x3584, .f32⟩
  | 84 => ⟨S36864x3584, .f32⟩
  | 85 => ⟨S_, .f32⟩
  | 86 => ⟨S36864x3584, .f32⟩
  | 87 => ⟨S36864x3584, .f32⟩
  | 88 => ⟨S36864x3584, .f32⟩
  | 89 => ⟨S36864x3584, .f32⟩
  | 90 => ⟨S36864x3584, .f32⟩
  | 91 => ⟨S36864x1024, .f32⟩
  | 92 => ⟨S36864x1024, .f32⟩
  | 93 => ⟨S36864x1024, .f32⟩
  | 94 => ⟨S36864x1024, .f32⟩
  | 95 => ⟨S36864x1, .f32⟩
  | 96 => ⟨S1x1024x3584, .f32⟩
  | 97 => ⟨S1024x3584, .f32⟩
  | 98 => ⟨S1x1024x3584, .f32⟩
  | 99 => ⟨S1024x3584, .f32⟩
  | 100 => ⟨S1x3584x1024, .f32⟩
  | 101 => ⟨S3584x1024, .f32⟩
  | 102 => ⟨S36864x3584, .f32⟩
  | 103 => ⟨S36864x3584, .f32⟩
  | 104 => ⟨S36864x3584, .f32⟩
  | 105 => ⟨S_, .f32⟩
  | 106 => ⟨S36864x3584, .f32⟩
  | 107 => ⟨S36864x3584, .f32⟩
  | 108 => ⟨S_, .f32⟩
  | 109 => ⟨S36864x3584, .f32⟩
  | 110 => ⟨S36864x3584, .f32⟩
  | 111 => ⟨S36864x3584, .f32⟩
  | 112 => ⟨S36864x3584, .f32⟩
  | 113 => ⟨S36864x3584, .f32⟩
  | 114 => ⟨S36864x1024, .f32⟩
  | 115 => ⟨S36864x1024, .f32⟩
  | 116 => ⟨S36864x1024, .f32⟩
  | 117 => ⟨S36864x1024, .f32⟩
  | 118 => ⟨S36864x1, .f32⟩
  | 119 => ⟨S1x1024x3584, .f32⟩
  | 120 => ⟨S1024x3584, .f32⟩
  | 121 => ⟨S1x1024x3584, .f32⟩
  | 122 => ⟨S1024x3584, .f32⟩
  | 123 => ⟨S1x3584x1024, .f32⟩
  | 124 => ⟨S3584x1024, .f32⟩
  | 125 => ⟨S36864x3584, .f32⟩
  | 126 => ⟨S36864x3584, .f32⟩
  | 127 => ⟨S36864x3584, .f32⟩
  | _ => ⟨S36864x1024, .f32⟩

abbrev hbmTy0_1 (i : Nat) : BufTy := match i % 128 with
  | 0 => ⟨S_, .f32⟩
  | 1 => ⟨S36864x3584, .f32⟩
  | 2 => ⟨S36864x3584, .f32⟩
  | 3 => ⟨S_, .f32⟩
  | 4 => ⟨S36864x3584, .f32⟩
  | 5 => ⟨S36864x3584, .f32⟩
  | 6 => ⟨S36864x3584, .f32⟩
  | 7 => ⟨S36864x3584, .f32⟩
  | 8 => ⟨S36864x3584, .f32⟩
  | 9 => ⟨S36864x1024, .f32⟩
  | 10 => ⟨S36864x1024, .f32⟩
  | 11 => ⟨S36864x1024, .f32⟩
  | 12 => ⟨S36864x1024, .f32⟩
  | 13 => ⟨S36864x1, .f32⟩
  | 14 => ⟨S1x1024x3584, .f32⟩
  | 15 => ⟨S1024x3584, .f32⟩
  | 16 => ⟨S1x1024x3584, .f32⟩
  | 17 => ⟨S1024x3584, .f32⟩
  | 18 => ⟨S1x3584x1024, .f32⟩
  | 19 => ⟨S3584x1024, .f32⟩
  | 20 => ⟨S36864x3584, .f32⟩
  | 21 => ⟨S36864x3584, .f32⟩
  | 22 => ⟨S36864x3584, .f32⟩
  | 23 => ⟨S_, .f32⟩
  | 24 => ⟨S36864x3584, .f32⟩
  | 25 => ⟨S36864x3584, .f32⟩
  | 26 => ⟨S_, .f32⟩
  | 27 => ⟨S36864x3584, .f32⟩
  | 28 => ⟨S36864x3584, .f32⟩
  | 29 => ⟨S36864x3584, .f32⟩
  | 30 => ⟨S36864x3584, .f32⟩
  | 31 => ⟨S36864x3584, .f32⟩
  | 32 => ⟨S36864x1024, .f32⟩
  | 33 => ⟨S36864x1024, .f32⟩
  | 34 => ⟨S36864x1024, .f32⟩
  | 35 => ⟨S36864x1024, .f32⟩
  | 36 => ⟨S36864x1, .f32⟩
  | 37 => ⟨S1x1024x3584, .f32⟩
  | 38 => ⟨S1024x3584, .f32⟩
  | 39 => ⟨S1x1024x3584, .f32⟩
  | 40 => ⟨S1024x3584, .f32⟩
  | 41 => ⟨S1x3584x1024, .f32⟩
  | 42 => ⟨S3584x1024, .f32⟩
  | 43 => ⟨S36864x3584, .f32⟩
  | 44 => ⟨S36864x3584, .f32⟩
  | 45 => ⟨S36864x3584, .f32⟩
  | 46 => ⟨S_, .f32⟩
  | 47 => ⟨S36864x3584, .f32⟩
  | 48 => ⟨S36864x3584, .f32⟩
  | 49 => ⟨S_, .f32⟩
  | 50 => ⟨S36864x3584, .f32⟩
  | 51 => ⟨S36864x3584, .f32⟩
  | 52 => ⟨S36864x3584, .f32⟩
  | 53 => ⟨S36864x3584, .f32⟩
  | 54 => ⟨S36864x3584, .f32⟩
  | 55 => ⟨S36864x1024, .f32⟩
  | 56 => ⟨S36864x1024, .f32⟩
  | 57 => ⟨S36864x1024, .f32⟩
  | 58 => ⟨S36864x1024, .f32⟩
  | 59 => ⟨S36864x1, .f32⟩
  | 60 => ⟨S1x1024x3584, .f32⟩
  | 61 => ⟨S1024x3584, .f32⟩
  | 62 => ⟨S1x1024x3584, .f32⟩
  | 63 => ⟨S1024x3584, .f32⟩
  | 64 => ⟨S1x3584x1024, .f32⟩
  | 65 => ⟨S3584x1024, .f32⟩
  | 66 => ⟨S36864x3584, .f32⟩
  | 67 => ⟨S36864x3584, .f32⟩
  | 68 => ⟨S36864x3584, .f32⟩
  | 69 => ⟨S_, .f32⟩
  | 70 => ⟨S36864x3584, .f32⟩
  | 71 => ⟨S36864x3584, .f32⟩
  | 72 => ⟨S_, .f32⟩
  | 73 => ⟨S36864x3584, .f32⟩
  | 74 => ⟨S36864x3584, .f32⟩
  | 75 => ⟨S36864x3584, .f32⟩
  | 76 => ⟨S36864x3584, .f32⟩
  | 77 => ⟨S36864x3584, .f32⟩
  | 78 => ⟨S36864x1024, .f32⟩
  | 79 => ⟨S36864x1024, .f32⟩
  | 80 => ⟨S36864x1024, .f32⟩
  | 81 => ⟨S36864x1024, .f32⟩
  | _ => ⟨S36864x1024, .f32⟩

abbrev hbmTy (i : Nat) : BufTy := match i / 128 with
  | 0 => hbmTy0_0 i
  | 1 => hbmTy0_1 i
  | _ => ⟨S36864x1024, .f32⟩

abbrev bufTy : (tb : Table) → Fin (tcTables nBuf tb) → BufTy
  | .hbm, ⟨i, _⟩ => hbmTy i
  | _, _ => ⟨S36864x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call1_v0 : Ref sig .tc := ⟨.hbm, 34, rfl⟩
abbrev main_call1_v1 : Ref sig .tc := ⟨.hbm, 35, rfl⟩
abbrev main_call1_cst : Ref sig .tc := ⟨.hbm, 36, rfl⟩
abbrev main_call1_v2 : Ref sig .tc := ⟨.hbm, 37, rfl⟩
abbrev main_call1_v3 : Ref sig .tc := ⟨.hbm, 38, rfl⟩
abbrev main_call1_cst_0 : Ref sig .tc := ⟨.hbm, 39, rfl⟩
abbrev main_call1_v4 : Ref sig .tc := ⟨.hbm, 40, rfl⟩
abbrev main_call1_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call2_v0 : Ref sig .tc := ⟨.hbm, 57, rfl⟩
abbrev main_call2_v1 : Ref sig .tc := ⟨.hbm, 58, rfl⟩
abbrev main_call2_cst : Ref sig .tc := ⟨.hbm, 59, rfl⟩
abbrev main_call2_v2 : Ref sig .tc := ⟨.hbm, 60, rfl⟩
abbrev main_call2_v3 : Ref sig .tc := ⟨.hbm, 61, rfl⟩
abbrev main_call2_cst_0 : Ref sig .tc := ⟨.hbm, 62, rfl⟩
abbrev main_call2_v4 : Ref sig .tc := ⟨.hbm, 63, rfl⟩
abbrev main_call2_v5 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_call3_v0 : Ref sig .tc := ⟨.hbm, 80, rfl⟩
abbrev main_call3_v1 : Ref sig .tc := ⟨.hbm, 81, rfl⟩
abbrev main_call3_cst : Ref sig .tc := ⟨.hbm, 82, rfl⟩
abbrev main_call3_v2 : Ref sig .tc := ⟨.hbm, 83, rfl⟩
abbrev main_call3_v3 : Ref sig .tc := ⟨.hbm, 84, rfl⟩
abbrev main_call3_cst_0 : Ref sig .tc := ⟨.hbm, 85, rfl⟩
abbrev main_call3_v4 : Ref sig .tc := ⟨.hbm, 86, rfl⟩
abbrev main_call3_v5 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_call4_v0 : Ref sig .tc := ⟨.hbm, 103, rfl⟩
abbrev main_call4_v1 : Ref sig .tc := ⟨.hbm, 104, rfl⟩
abbrev main_call4_cst : Ref sig .tc := ⟨.hbm, 105, rfl⟩
abbrev main_call4_v2 : Ref sig .tc := ⟨.hbm, 106, rfl⟩
abbrev main_call4_v3 : Ref sig .tc := ⟨.hbm, 107, rfl⟩
abbrev main_call4_cst_0 : Ref sig .tc := ⟨.hbm, 108, rfl⟩
abbrev main_call4_v4 : Ref sig .tc := ⟨.hbm, 109, rfl⟩
abbrev main_call4_v5 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_call5_v0 : Ref sig .tc := ⟨.hbm, 126, rfl⟩
abbrev main_call5_v1 : Ref sig .tc := ⟨.hbm, 127, rfl⟩
abbrev main_call5_cst : Ref sig .tc := ⟨.hbm, 128, rfl⟩
abbrev main_call5_v2 : Ref sig .tc := ⟨.hbm, 129, rfl⟩
abbrev main_call5_v3 : Ref sig .tc := ⟨.hbm, 130, rfl⟩
abbrev main_call5_cst_0 : Ref sig .tc := ⟨.hbm, 131, rfl⟩
abbrev main_call5_v4 : Ref sig .tc := ⟨.hbm, 132, rfl⟩
abbrev main_call5_v5 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_call6_v0 : Ref sig .tc := ⟨.hbm, 149, rfl⟩
abbrev main_call6_v1 : Ref sig .tc := ⟨.hbm, 150, rfl⟩
abbrev main_call6_cst : Ref sig .tc := ⟨.hbm, 151, rfl⟩
abbrev main_call6_v2 : Ref sig .tc := ⟨.hbm, 152, rfl⟩
abbrev main_call6_v3 : Ref sig .tc := ⟨.hbm, 153, rfl⟩
abbrev main_call6_cst_0 : Ref sig .tc := ⟨.hbm, 154, rfl⟩
abbrev main_call6_v4 : Ref sig .tc := ⟨.hbm, 155, rfl⟩
abbrev main_call6_v5 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_call7_v0 : Ref sig .tc := ⟨.hbm, 172, rfl⟩
abbrev main_call7_v1 : Ref sig .tc := ⟨.hbm, 173, rfl⟩
abbrev main_call7_cst : Ref sig .tc := ⟨.hbm, 174, rfl⟩
abbrev main_call7_v2 : Ref sig .tc := ⟨.hbm, 175, rfl⟩
abbrev main_call7_v3 : Ref sig .tc := ⟨.hbm, 176, rfl⟩
abbrev main_call7_cst_0 : Ref sig .tc := ⟨.hbm, 177, rfl⟩
abbrev main_call7_v4 : Ref sig .tc := ⟨.hbm, 178, rfl⟩
abbrev main_call7_v5 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_call8_v0 : Ref sig .tc := ⟨.hbm, 195, rfl⟩
abbrev main_call8_v1 : Ref sig .tc := ⟨.hbm, 196, rfl⟩
abbrev main_call8_cst : Ref sig .tc := ⟨.hbm, 197, rfl⟩
abbrev main_call8_v2 : Ref sig .tc := ⟨.hbm, 198, rfl⟩
abbrev main_call8_v3 : Ref sig .tc := ⟨.hbm, 199, rfl⟩
abbrev main_call8_cst_0 : Ref sig .tc := ⟨.hbm, 200, rfl⟩
abbrev main_call8_v4 : Ref sig .tc := ⟨.hbm, 201, rfl⟩
abbrev main_call8_v5 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩

abbrev nD : Nat := 1
abbrev τ : Topo := Topo.v7x

variable {F : FTy → Type} [FloatOps F]
-- ==== Kernel3.lean ====
abbrev S8x2048x1024 : Shape := ⟨3, ![8, 2048, 1024]⟩
abbrev S1x1024 : Shape := ⟨2, ![1, 1024]⟩
abbrev S1x1024x2560 : Shape := ⟨3, ![1, 1024, 2560]⟩
abbrev S1x64 : Shape := ⟨2, ![1, 64]⟩
abbrev S16384x1024 : Shape := ⟨2, ![16384, 1024]⟩
abbrev S8x8 : Shape := ⟨2, ![8, 8]⟩
abbrev S_ : Shape := ⟨0, ![]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S1024x2560 : Shape := ⟨2, ![1024, 2560]⟩
abbrev S1024x1536 : Shape := ⟨2, ![1024, 1536]⟩
abbrev S1024x1024 : Shape := ⟨2, ![1024, 1024]⟩
abbrev S64 : Shape := ⟨1, ![64]⟩
abbrev S8x64 : Shape := ⟨2, ![8, 64]⟩
abbrev S512 : Shape := ⟨1, ![512]⟩
abbrev S1x512 : Shape := ⟨2, ![1, 512]⟩
abbrev S64x1 : Shape := ⟨2, ![64, 1]⟩
abbrev S1024 : Shape := ⟨1, ![1024]⟩
abbrev S16384x512 : Shape := ⟨2, ![16384, 512]⟩
abbrev S8x512x2048 : Shape := ⟨3, ![8, 512, 2048]⟩
abbrev S512x1024 : Shape := ⟨2, ![512, 1024]⟩
abbrev S1x512x512 : Shape := ⟨3, ![1, 512, 512]⟩
abbrev S512x1 : Shape := ⟨2, ![512, 1]⟩
abbrev S1024x512 : Shape := ⟨2, ![1024, 512]⟩
abbrev S64x512 : Shape := ⟨2, ![64, 512]⟩
abbrev S1x64x512 : Shape := ⟨3, ![1, 64, 512]⟩

abbrev nBuf : Space → Nat
  | .hbm => 44
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x2560, .f32⟩
  | .hbm, ⟨3, _⟩ => ⟨S1x64, .f32⟩
  | .hbm, ⟨4, _⟩ => ⟨S1x64, .f32⟩
  | .hbm, ⟨5, _⟩ => ⟨S16384x1024, .f32⟩
  | .hbm, ⟨6, _⟩ => ⟨S8x8, .i32⟩
  | .hbm, ⟨7, _⟩ => ⟨S8x8, .i32⟩
  | .hbm, ⟨8, _⟩ => ⟨S_, .i32⟩
  | .hbm, ⟨9, _⟩ => ⟨S8x8, .i32⟩
  | .hbm, ⟨10, _⟩ => ⟨S8x8, .i32⟩
  | .hbm, ⟨11, _⟩ => ⟨S8x8, .i1⟩
  | .hbm, ⟨12, _⟩ => ⟨S8x8, .f32⟩
  | .hbm, ⟨13, _⟩ => ⟨S_, .f32⟩
  | .hbm, ⟨14, _⟩ => ⟨S64x64, .f32⟩
  | .hbm, ⟨15, _⟩ => ⟨S8x1x8x1, .f32⟩
  | .hbm, ⟨16, _⟩ => ⟨S1x64x1x64, .f32⟩
  | .hbm, ⟨17, _⟩ => ⟨S8x64x8x64, .f32⟩
  | .hbm, ⟨18, _⟩ => ⟨S8x64x8x64, .f32⟩
  | .hbm, ⟨19, _⟩ => ⟨S8x64x8x64, .f32⟩
  | .hbm, ⟨20, _⟩ => ⟨S512x512, .f32⟩
  | .hbm, ⟨21, _⟩ => ⟨S512x512, .bf16⟩
  | .hbm, ⟨22, _⟩ => ⟨S1024x2560, .f32⟩
  | .hbm, ⟨23, _⟩ => ⟨S1024x1536, .f32⟩
  | .hbm, ⟨24, _⟩ => ⟨S1024x1536, .bf16⟩
  | .hbm, ⟨25, _⟩ => ⟨S1024x2560, .f32⟩
  | .hbm, ⟨26, _⟩ => ⟨S1024x1024, .f32⟩
  | .hbm, ⟨27, _⟩ => ⟨S1024x1024, .f32⟩
  | .hbm, ⟨28, _⟩ => ⟨S1024x1024, .bf16⟩
  | .hbm, ⟨29, _⟩ => ⟨S64, .f32⟩
  | .hbm, ⟨30, _⟩ => ⟨S1x64, .f32⟩
  | .hbm, ⟨31, _⟩ => ⟨S8x64, .f32⟩
  | .hbm, ⟨32, _⟩ => ⟨S512, .f32⟩
  | .hbm, ⟨33, _⟩ => ⟨S1x512, .f32⟩
  | .hbm, ⟨34, _⟩ => ⟨S64, .f32⟩
  | .hbm, ⟨35, _⟩ => ⟨S64x1, .f32⟩
  | .hbm, ⟨36, _⟩ => ⟨S1024, .f32⟩
  | .hbm, ⟨37, _⟩ => ⟨S1x1024, .f32⟩
  | .hbm, ⟨38, _⟩ => ⟨S16384x512, .f32⟩
  | .hbm, ⟨39, _⟩ => ⟨S16384x512, .bf16⟩
  | .hbm, ⟨40, _⟩ => ⟨S8x512x2048, .f32⟩
  | .hbm, ⟨41, _⟩ => ⟨S8x512x2048, .f32⟩
  | .hbm, ⟨42, _⟩ => ⟨S8x512x2048, .bf16⟩
  | .hbm, ⟨43, _⟩ => ⟨S8x512x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S1024x1024, .bf16⟩
  | .local _ .vmem, ⟨5, _⟩ => ⟨S1x512, .f32⟩
  | .local _ .vmem, ⟨6, _⟩ => ⟨S64x1, .f32⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26_0 : Ref sig .tc := ⟨.hbm, 38, rfl⟩
abbrev main_v26_1 : Ref sig .tc := ⟨.hbm, 39, rfl⟩
abbrev main_v26_2 : Ref sig .tc := ⟨.hbm, 40, rfl⟩
abbrev main_v26_3 : Ref sig .tc := ⟨.hbm, 41, rfl⟩
abbrev main_v26_4 : Ref sig .tc := ⟨.hbm, 42, rfl⟩
abbrev main_v26_5 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S8x2048x1024 : Shape := ⟨3, ![8, 2048, 1024]⟩
abbrev S1x1024 : Shape := ⟨2, ![1, 1024]⟩
abbrev S1x1024x2560 : Shape := ⟨3, ![1, 1024, 2560]⟩
abbrev S1x64 : Shape := ⟨2, ![1, 64]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x2560 : Shape := ⟨2, ![1024, 2560]⟩
abbrev S8x2048x2560 : Shape := ⟨3, ![8, 2048, 2560]⟩
abbrev S8x2048x512 : Shape := ⟨3, ![8, 2048, 512]⟩
abbrev S8x2048x8x64 : Shape := ⟨4, ![8, 2048, 8, 64]⟩
abbrev S64 : Shape := ⟨1, ![64]⟩
abbrev S8x2048x8 : Shape := ⟨3, ![8, 2048, 8]⟩
abbrev S8x2048x8x1 : Shape := ⟨4, ![8, 2048, 8, 1]⟩
abbrev S1x1x1x64 : Shape := ⟨4, ![1, 1, 1, 64]⟩
abbrev S8x8x64x2048 : Shape := ⟨4, ![8, 8, 64, 2048]⟩
abbrev S8x512x2048 : Shape := ⟨3, ![8, 512, 2048]⟩
abbrev S16384x512 : Shape := ⟨2, ![16384, 512]⟩

abbrev nBuf : Space → Nat
  | .hbm => 64
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x2560, .f32⟩
  | .hbm, ⟨3, _⟩ => ⟨S1x64, .f32⟩
  | .hbm, ⟨4, _⟩ => ⟨S1x64, .f32⟩
  | .hbm, ⟨5, _⟩ => ⟨S1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S1024x2560, .f32⟩
  | .hbm, ⟨23, _⟩ => ⟨S8x2048x2560, .f32⟩
  | .hbm, ⟨24, _⟩ => ⟨S8x2048x512, .f32⟩
  | .hbm, ⟨25, _⟩ => ⟨S8x2048x512, .f32⟩
  | .hbm, ⟨26, _⟩ => ⟨S8x2048x512, .f32⟩
  | .hbm, ⟨27, _⟩ => ⟨S8x2048x512, .f32⟩
  | .hbm, ⟨28, _⟩ => ⟨S8x2048x512, .f32⟩
  | .hbm, ⟨29, _⟩ => ⟨S8x2048x512, .f32⟩
  | .hbm, ⟨30, _⟩ => ⟨S8x2048x512, .f32⟩
  | .hbm, ⟨31, _⟩ => ⟨S_, .f32⟩
  | .hbm, ⟨32, _⟩ => ⟨S8x2048x512, .f32⟩
  | .hbm, ⟨33, _⟩ => ⟨S8x2048x512, .f32⟩
  | .hbm, ⟨34, _⟩ => ⟨S_, .f32⟩
  | .hbm, ⟨35, _⟩ => ⟨S8x2048x512, .f32⟩
  | .hbm, ⟨36, _⟩ => ⟨S8x2048x512, .f32⟩
  | .hbm, ⟨37, _⟩ => ⟨S8x2048x512, .f32⟩
  | .hbm, ⟨38, _⟩ => ⟨S8x2048x8x64, .f32⟩
  | .hbm, ⟨39, _⟩ => ⟨S64, .f32⟩
  | .hbm, ⟨40, _⟩ => ⟨S8x2048x8x64, .f32⟩
  | .hbm, ⟨41, _⟩ => ⟨S_, .f32⟩
  | .hbm, ⟨42, _⟩ => ⟨S8x2048x8, .f32⟩
  | .hbm, ⟨43, _⟩ => ⟨S8x2048x8x1, .f32⟩
  | .hbm, ⟨44, _⟩ => ⟨S_, .f32⟩
  | .hbm, ⟨45, _⟩ => ⟨S8x2048x8x1, .f32⟩
  | .hbm, ⟨46, _⟩ => ⟨S8x2048x8x1, .f32⟩
  | .hbm, ⟨47, _⟩ => ⟨S_, .f32⟩
  | .hbm, ⟨48, _⟩ => ⟨S8x2048x8x1, .f32⟩
  | .hbm, ⟨49, _⟩ => ⟨S8x2048x8x1, .f32⟩
  | .hbm, ⟨50, _⟩ => ⟨S8x2048x8x1, .f32⟩
  | .hbm, ⟨51, _⟩ => ⟨S8x2048x8x64, .f32⟩
  | .hbm, ⟨52, _⟩ => ⟨S8x2048x8x64, .f32⟩
  | .hbm, ⟨53, _⟩ => ⟨S1x1x1x64, .f32⟩
  | .hbm, ⟨54, _⟩ => ⟨S8x2048x8x64, .f32⟩
  | .hbm, ⟨55, _⟩ => ⟨S8x2048x8x64, .f32⟩
  | .hbm, ⟨56, _⟩ => ⟨S8x2048x8x64, .f32⟩
  | .hbm, ⟨57, _⟩ => ⟨S8x8x64x2048, .f32⟩
  | .hbm, ⟨58, _⟩ => ⟨S8x512x2048, .f32⟩
  | .hbm, ⟨59, _⟩ => ⟨S8x8x64x2048, .f32⟩
  | .hbm, ⟨60, _⟩ => ⟨S8x512x2048, .f32⟩
  | .hbm, ⟨61, _⟩ => ⟨S16384x512, .f32⟩
  | .hbm, ⟨62, _⟩ => ⟨S8x512x2048, .bf16⟩
  | .hbm, ⟨63, _⟩ => ⟨S8x512x2048, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩

abbrev nD : Nat := 1
abbrev τ : Topo := Topo.v7x

variable {F : FTy → Type} [FloatOps F]
-- ==== Kernel4.lean ====
abbrev S128x1x1024 : Shape := ⟨3, ![128, 1, 1024]⟩
abbrev S1x1024 : Shape := ⟨2, ![1, 1024]⟩
abbrev S1x1024x2560 : Shape := ⟨3, ![1, 1024, 2560]⟩
abbrev S1x64 : Shape := ⟨2, ![1, 64]⟩
abbrev S128x1024 : Shape := ⟨2, ![128, 1024]⟩
abbrev S8x8 : Shape := ⟨2, ![8, 8]⟩
abbrev S_ : Shape := ⟨0, ![]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S1024x2560 : Shape := ⟨2, ![1024, 2560]⟩
abbrev S1024x1536 : Shape := ⟨2, ![1024, 1536]⟩
abbrev S1024x1024 : Shape := ⟨2, ![1024, 1024]⟩
abbrev S64 : Shape := ⟨1, ![64]⟩
abbrev S8x64 : Shape := ⟨2, ![8, 64]⟩
abbrev S512 : Shape := ⟨1, ![512]⟩
abbrev S1x512 : Shape := ⟨2, ![1, 512]⟩
abbrev S64x1 : Shape := ⟨2, ![64, 1]⟩
abbrev S1024 : Shape := ⟨1, ![1024]⟩
abbrev S128x512 : Shape := ⟨2, ![128, 512]⟩
abbrev S1x512x128 : Shape := ⟨3, ![1, 512, 128]⟩
abbrev S128 : Shape := ⟨1, ![128]⟩
abbrev S128x1 : Shape := ⟨2, ![128, 1]⟩
abbrev S1024x512 : Shape := ⟨2, ![1024, 512]⟩
abbrev S512x1024 : Shape := ⟨2, ![512, 1024]⟩
abbrev S512x128 : Shape := ⟨2, ![512, 128]⟩
abbrev S64x128 : Shape := ⟨2, ![64, 128]⟩
abbrev S1x128 : Shape := ⟨2, ![1, 128]⟩
abbrev S1x64x128 : Shape := ⟨3, ![1, 64, 128]⟩

abbrev nBuf : Space → Nat
  | .hbm => 44
  | .vmem => 13
  | .smem => 0
  | _ => 0

abbrev bufTy : (tb : Table) → Fin (tcTables nBuf tb) → BufTy
  | .hbm, ⟨0, _⟩ => ⟨S128x1x1024, .f32⟩
  | .hbm, ⟨1, _⟩ => ⟨S1x1024, .f32⟩
  | .hbm, ⟨2, _⟩ => ⟨S1x1024x2560, .f32⟩
  | .hbm, ⟨3, _⟩ => ⟨S1x64, .f32⟩
  | .hbm, ⟨4, _⟩ => ⟨S1x64, .f32⟩
  | .hbm, ⟨5, _⟩ => ⟨S128x1024, .f32⟩
  | .hbm, ⟨6, _⟩ => ⟨S8x8, .i32⟩
  | .hbm, ⟨7, _⟩ => ⟨S8x8, .i32⟩
  | .hbm, ⟨8, _⟩ => ⟨S_, .i32⟩
  | .hbm, ⟨9, _⟩ => ⟨S8x8, .i32⟩
  | .hbm, ⟨10, _⟩ => ⟨S8x8, .i32⟩
  | .hbm, ⟨11, _⟩ => ⟨S8x8, .i1⟩
  | .hbm, ⟨12, _⟩ => ⟨S8x8, .f32⟩
  | .hbm, ⟨13, _⟩ => ⟨S_, .f32⟩
  | .hbm, ⟨14, _⟩ => ⟨S64x64, .f32⟩
  | .hbm, ⟨15, _⟩ => ⟨S8x1x8x1, .f32⟩
  | .hbm, ⟨16, _⟩ => ⟨S1x64x1x64, .f32⟩
  | .hbm, ⟨17, _⟩ => ⟨S8x64x8x64, .f32⟩
  | .hbm, ⟨18, _⟩ => ⟨S8x64x8x64, .f32⟩
  | .hbm, ⟨19, _⟩ => ⟨S8x64x8x64, .f32⟩
  | .hbm, ⟨20, _⟩ => ⟨S512x512, .f32⟩
  | .hbm, ⟨21, _⟩ => ⟨S512x512, .bf16⟩
  | .hbm, ⟨22, _⟩ => ⟨S1024x2560, .f32⟩
  | .hbm, ⟨23, _⟩ => ⟨S1024x1536, .f32⟩
  | .hbm, ⟨24, _⟩ => ⟨S1024x1536, .bf16⟩
  | .hbm, ⟨25, _⟩ => ⟨S1024x2560, .f32⟩
  | .hbm, ⟨26, _⟩ => ⟨S1024x1024, .f32⟩
  | .hbm, ⟨27, _⟩ => ⟨S1024x1024, .f32⟩
  | .hbm, ⟨28, _⟩ => ⟨S1024x1024, .bf16⟩
  | .hbm, ⟨29, _⟩ => ⟨S64, .f32⟩
  | .hbm, ⟨30, _⟩ => ⟨S1x64, .f32⟩
  | .hbm, ⟨31, _⟩ => ⟨S8x64, .f32⟩
  | .hbm, ⟨32, _⟩ => ⟨S512, .f32⟩
  | .hbm, ⟨33, _⟩ => ⟨S1x512, .f32⟩
  | .hbm, ⟨34, _⟩ => ⟨S64, .f32⟩
  | .hbm, ⟨35, _⟩ => ⟨S64x1, .f32⟩
  | .hbm, ⟨36, _⟩ => ⟨S1024, .f32⟩
  | .hbm, ⟨37, _⟩ => ⟨S1x1024, .f32⟩
  | .hbm, ⟨38, _⟩ => ⟨S128x512, .f32⟩
  | .hbm, ⟨39, _⟩ => ⟨S128x512, .bf16⟩
  | .hbm, ⟨40, _⟩ => ⟨S1x512x128, .f32⟩
  | .hbm, ⟨41, _⟩ => ⟨S1x512x128, .f32⟩
  | .hbm, ⟨42, _⟩ => ⟨S1x512x128, .bf16⟩
  | .hbm, ⟨43, _⟩ => ⟨S1x512x128, .bf16⟩
  | .local _ .vmem, ⟨0, _⟩ => ⟨S128x1024, .f32⟩
  | .local _ .vmem, ⟨1, _⟩ => ⟨S1x1024, .f32⟩
  | .local _ .vmem, ⟨2, _⟩ => ⟨S1024x1536, .bf16⟩
  | .local _ .vmem, ⟨3, _⟩ => ⟨S1024x1024, .bf16⟩
  | .local _ .vmem, ⟨4, _⟩ => ⟨S1x512, .f32⟩
  | .local _ .vmem, ⟨5, _⟩ => ⟨S64x1, .f32⟩
  | .local _ .vmem, ⟨6, _⟩ => ⟨S512x512, .bf16⟩
  | .local _ .vmem, ⟨7, _⟩ => ⟨S128x512, .f32⟩
  | .local _ .vmem, ⟨8, _⟩ => ⟨S128x512, .bf16⟩
  | .local _ .vmem, ⟨9, _⟩ => ⟨S1x512x128, .f32⟩
  | .local _ .vmem, ⟨10, _⟩ => ⟨S1x512x128, .f32⟩
  | .local _ .vmem, ⟨11, _⟩ => ⟨S1x512x128, .bf16⟩
  | .local _ .vmem, ⟨12, _⟩ => ⟨S1x512x128, .bf16⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26_0 : Ref sig .tc := ⟨.hbm, 38, rfl⟩
abbrev main_v26_1 : Ref sig .tc := ⟨.hbm, 39, rfl⟩
abbrev main_v26_2 : Ref sig .tc := ⟨.hbm, 40, rfl⟩
abbrev main_v26_3 : Ref sig .tc := ⟨.hbm, 41, rfl⟩
abbrev main_v26_4 : Ref sig .tc := ⟨.hbm, 42, rfl⟩
abbrev main_v26_5 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_10 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_11 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_12 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x512x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S1x512x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S1x512x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== Reference4Ideal.lean ====
abbrev S128x1x1024 : Shape := ⟨3, ![128, 1, 1024]⟩
abbrev S1x1024 : Shape := ⟨2, ![1, 1024]⟩
abbrev S1x1024x2560 : Shape := ⟨3, ![1, 1024, 2560]⟩
abbrev S1x64 : Shape := ⟨2, ![1, 64]⟩
abbrev S1024 : Shape := ⟨1, ![1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S1024x2560 : Shape := ⟨2, ![1024, 2560]⟩
abbrev S128x1x2560 : Shape := ⟨3, ![128, 1, 2560]⟩
abbrev S128x1x512 : Shape := ⟨3, ![128, 1, 512]⟩
abbrev S128x1x8x64 : Shape := ⟨4, ![128, 1, 8, 64]⟩
abbrev S64 : Shape := ⟨1, ![64]⟩
abbrev S128x1x8 : Shape := ⟨3, ![128, 1, 8]⟩
abbrev S128x1x8x1 : Shape := ⟨4, ![128, 1, 8, 1]⟩
abbrev S1x1x1x64 : Shape := ⟨4, ![1, 1, 1, 64]⟩
abbrev S1x8x64x128 : Shape := ⟨4, ![1, 8, 64, 128]⟩
abbrev S1x512x128 : Shape := ⟨3, ![1, 512, 128]⟩
abbrev S128x512 : Shape := ⟨2, ![128, 512]⟩

abbrev nBuf : Space → Nat
  | .hbm => 64
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1x1024, .f32⟩
  | .hbm, ⟨2, _⟩ => ⟨S1x1024x2560, .f32⟩
  | .hbm, ⟨3, _⟩ => ⟨S1x64, .f32⟩
  | .hbm, ⟨4, _⟩ => ⟨S1x64, .f32⟩
  | .hbm, ⟨5, _⟩ => ⟨S1024, .f32⟩
  | .hbm, ⟨6, _⟩ => ⟨S128x1x1024, .f32⟩
  | .hbm, ⟨7, _⟩ => ⟨S_, .f32⟩
  | .hbm, ⟨8, _⟩ => ⟨S128x1, .f32⟩
  | .hbm, ⟨9, _⟩ => ⟨S128x1x1, .f32⟩
  | .hbm, ⟨10, _⟩ => ⟨S_, .f32⟩
  | .hbm, ⟨11, _⟩ => ⟨S128x1x1, .f32⟩
  | .hbm, ⟨12, _⟩ => ⟨S128x1x1, .f32⟩
  | .hbm, ⟨13, _⟩ => ⟨S_, .f32⟩
  | .hbm, ⟨14, _⟩ => ⟨S128x1x1, .f32⟩
  | .hbm, ⟨15, _⟩ => ⟨S128x1x1, .f32⟩
  | .hbm, ⟨16, _⟩ => ⟨S128x1x1, .f32⟩
  | .hbm, ⟨17, _⟩ => ⟨S128x1x1024, .f32⟩
  | .hbm, ⟨18, _⟩ => ⟨S128x1x1024, .f32⟩
  | .hbm, ⟨19, _⟩ => ⟨S1x1x1024, .f32⟩
  | .hbm, ⟨20, _⟩ => ⟨S128x1x1024, .f32⟩
  | .hbm, ⟨21, _⟩ => ⟨S128x1x1024, .f32⟩
  | .hbm, ⟨22, _⟩ => ⟨S1024x2560, .f32⟩
  | .hbm, ⟨23, _⟩ => ⟨S128x1x2560, .f32⟩
  | .hbm, ⟨24, _⟩ => ⟨S128x1x512, .f32⟩
  | .hbm, ⟨25, _⟩ => ⟨S128x1x512, .f32⟩
  | .hbm, ⟨26, _⟩ => ⟨S128x1x512, .f32⟩
  | .hbm, ⟨27, _⟩ => ⟨S128x1x512, .f32⟩
  | .hbm, ⟨28, _⟩ => ⟨S128x1x512, .f32⟩
  | .hbm, ⟨29, _⟩ => ⟨S128x1x512, .f32⟩
  | .hbm, ⟨30, _⟩ => ⟨S128x1x512, .f32⟩
  | .hbm, ⟨31, _⟩ => ⟨S_, .f32⟩
  | .hbm, ⟨32, _⟩ => ⟨S128x1x512, .f32⟩
  | .hbm, ⟨33, _⟩ => ⟨S128x1x512, .f32⟩
  | .hbm, ⟨34, _⟩ => ⟨S_, .f32⟩
  | .hbm, ⟨35, _⟩ => ⟨S128x1x512, .f32⟩
  | .hbm, ⟨36, _⟩ => ⟨S128x1x512, .f32⟩
  | .hbm, ⟨37, _⟩ => ⟨S128x1x512, .f32⟩
  | .hbm, ⟨38, _⟩ => ⟨S128x1x8x64, .f32⟩
  | .hbm, ⟨39, _⟩ => ⟨S64, .f32⟩
  | .hbm, ⟨40, _⟩ => ⟨S128x1x8x64, .f32⟩
  | .hbm, ⟨41, _⟩ => ⟨S_, .f32⟩
  | .hbm, ⟨42, _⟩ => ⟨S128x1x8, .f32⟩
  | .hbm, ⟨43, _⟩ => ⟨S128x1x8x1, .f32⟩
  | .hbm, ⟨44, _⟩ => ⟨S_, .f32⟩
  | .hbm, ⟨45, _⟩ => ⟨S128x1x8x1, .f32⟩
  | .hbm, ⟨46, _⟩ => ⟨S128x1x8x1, .f32⟩
  | .hbm, ⟨47, _⟩ => ⟨S_, .f32⟩
  | .hbm, ⟨48, _⟩ => ⟨S128x1x8x1, .f32⟩
  | .hbm, ⟨49, _⟩ => ⟨S128x1x8x1, .f32⟩
  | .hbm, ⟨50, _⟩ => ⟨S128x1x8x1, .f32⟩
  | .hbm, ⟨51, _⟩ => ⟨S128x1x8x64, .f32⟩
  | .hbm, ⟨52, _⟩ => ⟨S128x1x8x64, .f32⟩
  | .hbm, ⟨53, _⟩ => ⟨S1x1x1x64, .f32⟩
  | .hbm, ⟨54, _⟩ => ⟨S128x1x8x64, .f32⟩
  | .hbm, ⟨55, _⟩ => ⟨S128x1x8x64, .f32⟩
  | .hbm, ⟨56, _⟩ => ⟨S128x1x8x64, .f32⟩
  | .hbm, ⟨57, _⟩ => ⟨S1x8x64x128, .f32⟩
  | .hbm, ⟨58, _⟩ => ⟨S1x512x128, .f32⟩
  | .hbm, ⟨59, _⟩ => ⟨S1x8x64x128, .f32⟩
  | .hbm, ⟨60, _⟩ => ⟨S1x512x128, .f32⟩
  | .hbm, ⟨61, _⟩ => ⟨S128x512, .f32⟩
  | .hbm, ⟨62, _⟩ => ⟨S1x512x128, .bf16⟩
  | .hbm, ⟨63, _⟩ => ⟨S1x512x128, .bf16⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩

abbrev nD : Nat := 1
abbrev τ : Topo := Topo.v7x

variable {F : FTy → Type} [FloatOps F]
-- ==== Kernel5.lean ====
abbrev S8x2048x1024 : Shape := ⟨3, ![8, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2816x1024 : Shape := ⟨2, ![2816, 1024]⟩
abbrev S16384x1024 : Shape := ⟨2, ![16384, 1024]⟩
abbrev S1024 : Shape := ⟨1, ![1024]⟩
abbrev S1024x1024 : Shape := ⟨2, ![1024, 1024]⟩
abbrev S1024x256 : Shape := ⟨2, ![1024, 256]⟩
abbrev S256x1024 : Shape := ⟨2, ![256, 1024]⟩
abbrev S1024x1 : Shape := ⟨2, ![1024, 1]⟩

abbrev nBuf : Space → Nat
  | .hbm => 15
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024x2816, .f32⟩
  | .hbm, ⟨6, _⟩ => ⟨S1024x2816, .bf16⟩
  | .hbm, ⟨7, _⟩ => ⟨S1024x2816, .f32⟩
  | .hbm, ⟨8, _⟩ => ⟨S1024x2816, .bf16⟩
  | .hbm, ⟨9, _⟩ => ⟨S2816x1024, .f32⟩
  | .hbm, ⟨10, _⟩ => ⟨S2816x1024, .bf16⟩
  | .hbm, ⟨11, _⟩ => ⟨S16384x1024, .f32⟩
  | .hbm, ⟨12, _⟩ => ⟨S1024, .f32⟩
  | .hbm, ⟨13, _⟩ => ⟨S1x1024, .f32⟩
  | .hbm, ⟨14, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S256x1024, .bf16⟩
  | .local _ .vmem, ⟨8, _⟩ => ⟨S256x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference5Ideal.lean ====
abbrev S8x2048x1024 : Shape := ⟨3, ![8, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x2816 : Shape := ⟨2, ![1024, 2816]⟩
abbrev S2816x1024 : Shape := ⟨2, ![2816, 1024]⟩
abbrev S8x2048x2816 : Shape := ⟨3, ![8, 2048, 2816]⟩
abbrev S16384x1024 : Shape := ⟨2, ![16384, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S1024x2816, .f32⟩
  | .hbm, ⟨23, _⟩ => ⟨S1024x2816, .f32⟩
  | .hbm, ⟨24, _⟩ => ⟨S2816x1024, .f32⟩
  | .hbm, ⟨25, _⟩ => ⟨S8x2048x2816, .f32⟩
  | .hbm, ⟨26, _⟩ => ⟨S8x2048x2816, .f32⟩
  | .hbm, ⟨27, _⟩ => ⟨S8x2048x2816, .f32⟩
  | .hbm, ⟨28, _⟩ => ⟨S_, .f32⟩
  | .hbm, ⟨29, _⟩ => ⟨S8x2048x2816, .f32⟩
  | .hbm, ⟨30, _⟩ => ⟨S8x2048x2816, .f32⟩
  | .hbm, ⟨31, _⟩ => ⟨S_, .f32⟩
  | .hbm, ⟨32, _⟩ => ⟨S8x2048x2816, .f32⟩
  | .hbm, ⟨33, _⟩ => ⟨S8x2048x2816, .f32⟩
  | .hbm, ⟨34, _⟩ => ⟨S8x2048x2816, .f32⟩
  | .hbm, ⟨35, _⟩ => ⟨S8x2048x2816, .f32⟩
  | .hbm, ⟨36, _⟩ => ⟨S8x2048x2816, .f32⟩
  | .hbm, ⟨37, _⟩ => ⟨S8x2048x1024, .f32⟩
  | .hbm, ⟨38, _⟩ => ⟨S8x2048x1024, .f32⟩
  | .hbm, ⟨39, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== Kernel6.lean ====
abbrev S8x2048x1024 : Shape := ⟨3, ![8, 2048, 1024]⟩
abbrev S8x2048x512 : Shape := ⟨3, ![8, 2048, 512]⟩
abbrev S1x1024x1024 : Shape := ⟨3, ![1, 1024, 1024]⟩
abbrev S1024x1024 : Shape := ⟨2, ![1024, 1024]⟩
abbrev S16384x1024 : Shape := ⟨2, ![16384, 1024]⟩
abbrev S16384x512 : Shape := ⟨2, ![16384, 512]⟩
abbrev S512x1024 : Shape := ⟨2, ![512, 1024]⟩
abbrev S1024x512 : Shape := ⟨2, ![1024, 512]⟩

abbrev nBuf : Space → Nat
  | .hbm => 12
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S1x1024x1024, .f32⟩
  | .hbm, ⟨4, _⟩ => ⟨S1024x1024, .f32⟩
  | .hbm, ⟨5, _⟩ => ⟨S1024x1024, .bf16⟩
  | .hbm, ⟨6, _⟩ => ⟨S16384x1024, .f32⟩
  | .hbm, ⟨7, _⟩ => ⟨S16384x512, .bf16⟩
  | .hbm, ⟨8, _⟩ => ⟨S16384x512, .bf16⟩
  | .hbm, ⟨9, _⟩ => ⟨S512x1024, .bf16⟩
  | .hbm, ⟨10, _⟩ => ⟨S512x1024, .bf16⟩
  | .hbm, ⟨11, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .f32⟩
  | .local _ .vmem, ⟨9, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S8x2048x1024 : Shape := ⟨3, ![8, 2048, 1024]⟩
abbrev S8x2048x512 : Shape := ⟨3, ![8, 2048, 512]⟩
abbrev S1x1024x1024 : Shape := ⟨3, ![1, 1024, 1024]⟩
abbrev S1024x1024 : Shape := ⟨2, ![1024, 1024]⟩
abbrev S16384x1024 : Shape := ⟨2, ![16384, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S1x1024x1024, .f32⟩
  | .hbm, ⟨4, _⟩ => ⟨S8x2048x512, .f32⟩
  | .hbm, ⟨5, _⟩ => ⟨S8x2048x512, .f32⟩
  | .hbm, ⟨6, _⟩ => ⟨S8x2048x1024, .f32⟩
  | .hbm, ⟨7, _⟩ => ⟨S1024x1024, .f32⟩
  | .hbm, ⟨8, _⟩ => ⟨S8x2048x1024, .f32⟩
  | .hbm, ⟨9, _⟩ => ⟨S8x2048x1024, .f32⟩
  | .hbm, ⟨10, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel7.lean ====
abbrev S8x2048x1024 : Shape := ⟨3, ![8, 2048, 1024]⟩
abbrev S8x2048x2048 : Shape := ⟨3, ![8, 2048, 2048]⟩
abbrev S1x2048x1024 : Shape := ⟨3, ![1, 2048, 1024]⟩
abbrev S16384x1024 : Shape := ⟨2, ![16384, 1024]⟩
abbrev S16384x2048 : Shape := ⟨2, ![16384, 2048]⟩
abbrev S2048x1024 : Shape := ⟨2, ![2048, 1024]⟩
abbrev S1024x1024 : Shape := ⟨2, ![1024, 1024]⟩
abbrev S1024x2048 : Shape := ⟨2, ![1024, 2048]⟩

abbrev nBuf : Space → Nat
  | .hbm => 8
  | .vmem => 7
  | .smem => 0
  | _ => 0

abbrev bufTy : (tb : Table) → Fin (tcTables nBuf tb) → BufTy
  | .hbm, ⟨0, _⟩ => ⟨S8x2048x1024, .f32⟩
  | .hbm, ⟨1, _⟩ => ⟨S8x2048x2048, .bf16⟩
  | .hbm, ⟨2, _⟩ => ⟨S1x2048x1024, .f32⟩
  | .hbm, ⟨3, _⟩ => ⟨S16384x1024, .f32⟩
  | .hbm, ⟨4, _⟩ => ⟨S16384x2048, .bf16⟩
  | .hbm, ⟨5, _⟩ => ⟨S2048x1024, .f32⟩
  | .hbm, ⟨6, _⟩ => ⟨S2048x1024, .bf16⟩
  | .hbm, ⟨7, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S8x2048x1024 : Shape := ⟨3, ![8, 2048, 1024]⟩
abbrev S8x2048x2048 : Shape := ⟨3, ![8, 2048, 2048]⟩
abbrev S1x2048x1024 : Shape := ⟨3, ![1, 2048, 1024]⟩
abbrev S2048x1024 : Shape := ⟨2, ![2048, 1024]⟩
abbrev S16384x1024 : Shape := ⟨2, ![16384, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x2048, .bf16⟩
  | .hbm, ⟨2, _⟩ => ⟨S1x2048x1024, .f32⟩
  | .hbm, ⟨3, _⟩ => ⟨S8x2048x2048, .f32⟩
  | .hbm, ⟨4, _⟩ => ⟨S2048x1024, .f32⟩
  | .hbm, ⟨5, _⟩ => ⟨S8x2048x1024, .f32⟩
  | .hbm, ⟨6, _⟩ => ⟨S8x2048x1024, .f32⟩
  | .hbm, ⟨7, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S8x2048x1024 : Shape := ⟨3, ![8, 2048, 1024]⟩
abbrev S1x1024 : Shape := ⟨2, ![1, 1024]⟩
abbrev S1x1024x6144 : Shape := ⟨3, ![1, 1024, 6144]⟩
abbrev S1024x6144 : Shape := ⟨2, ![1024, 6144]⟩
abbrev S1024x2048 : Shape := ⟨2, ![1024, 2048]⟩
abbrev S16384x1024 : Shape := ⟨2, ![16384, 1024]⟩
abbrev S1024 : Shape := ⟨1, ![1024]⟩
abbrev S16384x4096 : Shape := ⟨2, ![16384, 4096]⟩
abbrev S16384x2048 : Shape := ⟨2, ![16384, 2048]⟩
abbrev S1024x1024 : Shape := ⟨2, ![1024, 1024]⟩
abbrev S1024x1 : Shape := ⟨2, ![1024, 1]⟩

abbrev nBuf : Space → Nat
  | .hbm => 14
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x6144, .f32⟩
  | .hbm, ⟨3, _⟩ => ⟨S1024x6144, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x6144, .f32⟩
  | .hbm, ⟨8, _⟩ => ⟨S1024x6144, .bf16⟩
  | .hbm, ⟨9, _⟩ => ⟨S16384x1024, .f32⟩
  | .hbm, ⟨10, _⟩ => ⟨S1024, .f32⟩
  | .hbm, ⟨11, _⟩ => ⟨S1x1024, .f32⟩
  | .hbm, ⟨12, _⟩ => ⟨S16384x4096, .f32⟩
  | .hbm, ⟨13, _⟩ => ⟨S16384x2048, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2048, .bf16⟩
  | .local _ .vmem, ⟨4, _⟩ => ⟨S1024x2048, .bf16⟩
  | .local _ .vmem, ⟨5, _⟩ => ⟨S1024x2048, .f32⟩
  | .local _ .vmem, ⟨6, _⟩ => ⟨S1024x2048, .f32⟩
  | .local _ .vmem, ⟨7, _⟩ => ⟨S1024x2048, .bf16⟩
  | .local _ .vmem, ⟨8, _⟩ => ⟨S1024x2048, .bf16⟩
  | .local _ .vmem, ⟨9, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 3], ![false, false]⟩

def k0_cond2 (i : grid0.Coords) : BitVec 1 :=
  let arg1 : BitVec 32 := BitVec.ofNat 32 (i 1).val
  let c2_i32 : BitVec 32 := 2#32
  let v3 : BitVec 1 := Scalar.cmpi .slt arg1 c2_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32_2 : BitVec 32 := 2#32
  let v6 : BitVec 1 := Scalar.cmpi .sge arg1 c2_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  ![arg0.toNat, v1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference8Ideal.lean ====
abbrev S8x2048x1024 : Shape := ⟨3, ![8, 2048, 1024]⟩
abbrev S1x1024 : Shape := ⟨2, ![1, 1024]⟩
abbrev S1x1024x6144 : Shape := ⟨3, ![1, 1024, 6144]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x6144 : Shape := ⟨2, ![1024, 6144]⟩
abbrev S8x2048x6144 : Shape := ⟨3, ![8, 2048, 6144]⟩
abbrev S8x2048x2048 : Shape := ⟨3, ![8, 2048, 2048]⟩
abbrev S8x2048x4096 : Shape := ⟨3, ![8, 2048, 4096]⟩
abbrev S16384x4096 : Shape := ⟨2, ![16384, 4096]⟩
abbrev S16384x2048 : Shape := ⟨2, ![16384, 2048]⟩

abbrev nBuf : Space → Nat
  | .hbm => 30
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x6144, .f32⟩
  | .hbm, ⟨3, _⟩ => ⟨S1024, .f32⟩
  | .hbm, ⟨4, _⟩ => ⟨S8x2048x1024, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x1024, .f32⟩
  | .hbm, ⟨16, _⟩ => ⟨S8x2048x1024, .f32⟩
  | .hbm, ⟨17, _⟩ => ⟨S1x1x1024, .f32⟩
  | .hbm, ⟨18, _⟩ => ⟨S8x2048x1024, .f32⟩
  | .hbm, ⟨19, _⟩ => ⟨S8x2048x1024, .f32⟩
  | .hbm, ⟨20, _⟩ => ⟨S1024x6144, .f32⟩
  | .hbm, ⟨21, _⟩ => ⟨S8x2048x6144, .f32⟩
  | .hbm, ⟨22, _⟩ => ⟨S8x2048x1024, .f32⟩
  | .hbm, ⟨23, _⟩ => ⟨S8x2048x1024, .f32⟩
  | .hbm, ⟨24, _⟩ => ⟨S8x2048x2048, .f32⟩
  | .hbm, ⟨25, _⟩ => ⟨S8x2048x2048, .f32⟩
  | .hbm, ⟨26, _⟩ => ⟨S8x2048x4096, .f32⟩
  | .hbm, ⟨27, _⟩ => ⟨S16384x4096, .f32⟩
  | .hbm, ⟨28, _⟩ => ⟨S16384x2048, .f32⟩
  | .hbm, ⟨29, _⟩ => ⟨S16384x2048, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Proof.Block.lean ====
/-
  One grid point of the retention kernel, read index by index: the state block it leaves and the output block it writes,
  as functions of the point's input blocks and of the state the point starts from.
-/
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Block

open Cert.KernelIdeal Cert.KernelIdeal.Gen Idealize.ShloMosaic Idealize.ShloMosaic.TcCoe Idealize.SL.Sem
open Idealize.ShloMosaic.Pipeline (Dat)

/-- Row `n`, lane `d` of head `h` of a block, rotated by the position tables: the lane times the cosine plus the lane half a
    head away times the signed sine. -/
def rot (X : FVec Ideal S128x1024 .f32) (C S : FVec Ideal S128x128 .f32) (h : Fin 8) (n d : Fin 128) : EReal :=
  X (ix2 n ⟨h * 128 + d, by omega⟩) * C (ix2 n d) + X (ix2 n ⟨h * 128 + (d + 128 - 64) % 128, by omega⟩) * S (ix2 n d)

/-- The rotated key, scaled by the reciprocal square root of the head's width. -/
def key (X : FVec Ideal S128x1024 .f32) (C S : FVec Ideal S128x128 .f32) (h : Fin 8) (n d : Fin 128) : EReal :=
  rot X C S h n d * Ideal.ofBits FTy.f32 0x3DB504F3#32

/-- The state a point leaves: the decayed state it starts from plus the chunk's keys, decayed, against its values. -/
def newS (g : FVec Ideal S8 .f32) (K : FVec Ideal S128x1024 .f32) (W : FVec Ideal S128x2048 .bf16)
    (C S : FVec Ideal S128x128 .f32) (KD : FVec Ideal S8x128x128 .f32) (s : FVec Ideal S1x8x128x256 .f32)
    (h : Fin 8) (d : Fin 128) (e : Fin 256) : EReal :=
  g (ix1 h) * s (ix4 0 h d e) + ∑ n : Fin 128, key K C S h n d * KD (ix3 h n d) * W (ix2 n ⟨h * 256 + e, by omega⟩)

/-- The chunk's output before its normalization: the masked, decayed scores against the values, plus the queries against the
    state the point starts from, decayed. -/
def out (Q K : FVec Ideal S128x1024 .f32) (W : FVec Ideal S128x2048 .bf16)
    (C S : FVec Ideal S128x128 .f32) (D : FVec Ideal S8x128x128 .f32) (QD : FVec Ideal S8x128x256 .f32)
    (s : FVec Ideal S1x8x128x256 .f32) (h : Fin 8) (n : Fin 128) (e : Fin 256) : EReal :=
  (∑ l : Fin 128, (∑ d : Fin 128, rot Q C S h n d * key K C S h l d) * D (ix3 h n l) * W (ix2 l ⟨h * 256 + e, by omega⟩))
    + (∑ d : Fin 128, rot Q C S h n d * s (ix4 0 h d e)) * QD (ix3 h n e)

/-- A row of 256 lanes, less its mean, times the reciprocal square root of its variance plus the small constant. -/
def norm (o : Fin 256 → EReal) (e : Fin 256) : EReal :=
  (o e - Ideal.div (∑ a : Fin 256, o a) (Ideal.ofBits FTy.f32 0x43800000#32))
    * Ideal.rsqrt (Ideal.div (∑ a : Fin 256, (o a - Ideal.div (∑ b : Fin 256, o b) (Ideal.ofBits FTy.f32 0x43800000#32))
          * (o a - Ideal.div (∑ b : Fin 256, o b) (Ideal.ofBits FTy.f32 0x43800000#32))) (Ideal.ofBits FTy.f32 0x43800000#32)
        + Ideal.ofBits FTy.f32 0x358637BD#32)

/-- A normalized row, scaled and shifted, under its gate. -/
def gated (g a b : EReal) (o : Fin 256 → EReal) (e : Fin 256) : EReal :=
  g * Ideal.logistic g * (norm o e * a + b)

/-- Earlier stores do not matter at an index that one of the later stores covers. -/
theorem canon_later {Val : EltTy → Type} [∀ e, Nonempty (Val e)] {S : Shape} {e : EltTy} (L' L : List (View.Piece Val S e)) (y : S.Idx)
    (hc : ∃ p ∈ L, y ∈ p.1.set) : View.canon (L ++ L') y = View.canon L y := by
  induction L with
  | nil => obtain ⟨p, hp, _⟩ := hc; exact absurd hp List.not_mem_nil
  | cons p L ih =>
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      obtain ⟨q, hq, hyq⟩ := hc
      rcases List.mem_cons.mp hq with rfl | hq'
      · exact absurd hyq hm
      · exact ih ⟨q, hq', hyq⟩

variable (m : (ℓ : Loc nD τ sig) → Buf (Elt Ideal) ℓ)

set_option maxHeartbeats 2000000 in
/-- A point that goes on from the point before: its state block. -/
theorem state_B (c : Dev nD) (t : Fin cfg0.N) (h0 : ¬ t.val % 16 = 0) (y : S1x8x128x256.Idx) :
    (outsAt0 m c t.val t.isLt).2 y = newS (iblk m c 0 t) (iblk m c 2 t) (iblk m c 3 t) (iblk m c 5 t) (iblk m c 6 t) (iblk m c 9 t)
      (outsAt0 m c (t.val - 1) (by omega)).2 (y 1) (y 2) (y 3) := by
  rw [outsAt0_B m c t h0]
  frame_out
  canon_tiles x h
  case' piece0 => obtain rfl : y = ix4 0 7 (x 2) (x 3) := by blk_ext
  case' piece1 => obtain rfl : y = ix4 0 6 (x 2) (x 3) := by blk_ext
  case' piece2 => obtain rfl : y = ix4 0 5 (x 2) (x 3) := by blk_ext
  case' piece3 => obtain rfl : y = ix4 0 4 (x 2) (x 3) := by blk_ext
  case' piece4 => obtain rfl : y = ix4 0 3 (x 2) (x 3) := by blk_ext
  case' piece5 => obtain rfl : y = ix4 0 2 (x 2) (x 3) := by blk_ext
  case' piece6 => obtain rfl : y = ix4 0 1 (x 2) (x 3) := by blk_ext
  case' piece7 => obtain rfl : y = ix4 0 0 (x 2) (x 3) := by blk_ext
  all_goals (open_payloads; pointwise [newS, key, rot])

set_option maxHeartbeats 2000000 in
/-- A point that starts a sequence: its state block. -/
theorem state_A (c : Dev nD) (t : Fin cfg0.N) (h0 : t.val % 16 = 0) (y : S1x8x128x256.Idx) :
    (outsAt0 m c t.val t.isLt).2 y = newS (iblk m c 0 t) (iblk m c 2 t) (iblk m c 3 t) (iblk m c 5 t) (iblk m c 6 t) (iblk m c 9 t)
      (fun _ => 0) (y 1) (y 2) (y 3) := by
  rw [outsAt0_A m c t h0]
  frame_out
  refine (canon_later [_] [_, _, _, _, _, _, _, _] y ?_).trans ?_
  · exact View.cover_of_tiled_head _ _ _ rfl y
  canon_tiles x h
  case' piece0 => obtain rfl : y = ix4 0 7 (x 2) (x 3) := by blk_ext
  case' piece1 => obtain rfl : y = ix4 0 6 (x 2) (x 3) := by blk_ext
  case' piece2 => obtain rfl : y = ix4 0 5 (x 2) (x 3) := by blk_ext
  case' piece3 => obtain rfl : y = ix4 0 4 (x 2) (x 3) := by blk_ext
  case' piece4 => obtain rfl : y = ix4 0 3 (x 2) (x 3) := by blk_ext
  case' piece5 => obtain rfl : y = ix4 0 2 (x 2) (x 3) := by blk_ext
  case' piece6 => obtain rfl : y = ix4 0 1 (x 2) (x 3) := by blk_ext
  case' piece7 => obtain rfl : y = ix4 0 0 (x 2) (x 3) := by blk_ext
  all_goals (rw [View.readCov_fill (h := (by decide))])
  all_goals (open_payloads; pointwise [newS, key, rot])

set_option maxHeartbeats 2000000 in
/-- A point that goes on from the point before: its output block, lane `e` of head `h` of row `n`. -/
theorem out_B (c : Dev nD) (t : Fin cfg0.N) (h0 : ¬ t.val % 16 = 0) (y : S128x2048.Idx) (n : Fin 128) (h : Fin 8) (e : Fin 256)
    (hn : (y 0 : ℕ) = n) (he : (y 1 : ℕ) = h * 256 + e) :
    (outsAt0 m c t.val t.isLt).1 y = gated ((show FVec Ideal S128x2048 .f32 from iblk m c 4 t) (ix2 n ⟨h * 256 + e, by omega⟩))
      ((show FVec Ideal S1x2048 .f32 from iblk m c 10 t) (ix2 0 ⟨h * 256 + e, by omega⟩))
      ((show FVec Ideal S1x2048 .f32 from iblk m c 11 t) (ix2 0 ⟨h * 256 + e, by omega⟩))
      (out (iblk m c 1 t) (iblk m c 2 t) (iblk m c 3 t) (iblk m c 5 t) (iblk m c 6 t) (iblk m c 7 t) (iblk m c 8 t)
        (outsAt0 m c (t.val - 1) (by omega)).2 h n) e := by
  rw [outsAt0_B m c t h0]
  frame_out
  canon_tiles x hx
  case' piece0 => obtain rfl : h = 7 := by omega
  case' piece1 => obtain rfl : h = 6 := by omega
  case' piece2 => obtain rfl : h = 5 := by omega
  case' piece3 => obtain rfl : h = 4 := by omega
  case' piece4 => obtain rfl : h = 3 := by omega
  case' piece5 => obtain rfl : h = 2 := by omega
  case' piece6 => obtain rfl : h = 1 := by omega
  case' piece7 => obtain rfl : h = 0 := by omega
  all_goals obtain rfl : n = x 0 := by omega
  all_goals obtain rfl : e = x 1 := by omega
  all_goals (open_payloads; pointwise [gated, norm, out, key, rot])

set_option maxHeartbeats 2000000 in
/-- A point that starts a sequence: its output block, lane `e` of head `h` of row `n`. -/
theorem out_A (c : Dev nD) (t : Fin cfg0.N) (h0 : t.val % 16 = 0) (y : S128x2048.Idx) (n : Fin 128) (h : Fin 8) (e : Fin 256)
    (hn : (y 0 : ℕ) = n) (he : (y 1 : ℕ) = h * 256 + e) :
    (outsAt0 m c t.val t.isLt).1 y = gated ((show FVec Ideal S128x2048 .f32 from iblk m c 4 t) (ix2 n ⟨h * 256 + e, by omega⟩))
      ((show FVec Ideal S1x2048 .f32 from iblk m c 10 t) (ix2 0 ⟨h * 256 + e, by omega⟩))
      ((show FVec Ideal S1x2048 .f32 from iblk m c 11 t) (ix2 0 ⟨h * 256 + e, by omega⟩))
      (out (iblk m c 1 t) (iblk m c 2 t) (iblk m c 3 t) (iblk m c 5 t) (iblk m c 6 t) (iblk m c 7 t) (iblk m c 8 t)
        (fun _ => 0) h n) e := by
  rw [outsAt0_A m c t h0]
  frame_out
  canon_tiles x hx
  case' piece0 => obtain rfl : h = 7 := by omega
  case' piece1 => obtain rfl : h = 6 := by omega
  case' piece2 => obtain rfl : h = 5 := by omega
  case' piece3 => obtain rfl : h = 4 := by omega
  case' piece4 => obtain rfl : h = 3 := by omega
  case' piece5 => obtain rfl : h = 2 := by omega
  case' piece6 => obtain rfl : h = 1 := by omega
  case' piece7 => obtain rfl : h = 0 := by omega
  all_goals obtain rfl : n = x 0 := by omega
  all_goals obtain rfl : e = x 1 := by omega
  all_goals (rw [View.readCov_fill (h := (by decide))])
  all_goals (open_payloads; pointwise [gated, norm, out, key, rot])

end Cert.KernelIdeal.Block
end
-- ==== Proof.Entry.lean ====
/- What the arrays the kernel stages hold when its grid starts: the tables of the rotation and of the decay, and the
    argument's columns. -/
module

public import proofs.«01_k».proof.Proof.Gen.KernelIdeal.Value
public import proofs.«01_k».proof.Proof.Gen.ReferenceIdeal.Step
public import Idealize.ShloMosaic.Lib.Pipeline.ValueKit
public import Idealize.ShloMosaic.Lib.StableHlo.RunRead

@[expose] public section

set_option maxRecDepth 16384

noncomputable section

namespace Cert.KernelIdeal.Entry

open Idealize.ShloMosaic Idealize.ShloMosaic.TcCoe Idealize.ShloMosaic.ValueKit Cert.KernelIdeal Cert.KernelIdeal.Gen
open Cert.ReferenceIdeal.Step (K_main_v16 K_main_v18 b18 b19 b20 b21 b22 b23 b24 b25 b26 b27 b28 b57 b58 b59 b60 b61 b62 b63 b64 b65 b71 b72 b73 b74 b75 b76 b77 b78 b79 b50 b83)

variable (m : (ℓ : Loc nD τ sig) → Buf (Elt Ideal) ℓ)

set_option maxHeartbeats 1000000 in
/-- The kernel's cosine table: the reference's, twice along the lanes. -/
theorem cos_arr (c : Dev nD) : (V m c main_v13 : FVec Ideal S2048x128 .f32) = concatenate S2048x128 1 [⟨S2048x64, K_main_v16 (F := Ideal)⟩, ⟨S2048x64, K_main_v16 (F := Ideal)⟩] concatenates_S2048x64_S2048x64_S2048x128_d1 := by
  simp only [V, List.flatten_cons, List.flatten_nil, List.append_nil]; after_reads_simp
  rfl

set_option maxHeartbeats 1000000 in
/-- The kernel's sine table: the reference's negated, then the reference's. -/
theorem sin_arr (c : Dev nD) : (V m c main_v15 : FVec Ideal S2048x128 .f32) = concatenate S2048x128 1 [⟨S2048x64, (Host.negf (show FVec Ideal S2048x64 .f32 from K_main_v18 (F := Ideal)) : FVec Ideal S2048x64 .f32)⟩, ⟨S2048x64, K_main_v18 (F := Ideal)⟩] concatenates_S2048x64_S2048x64_S2048x128_d1 := by
  simp only [V, List.flatten_cons, List.flatten_nil, List.append_nil]; after_reads_simp
  rfl

/-- A lane of the cosine table, in either half. -/
theorem cos_lo (c : Dev nD) (p : Fin 2048) (d : Fin 64) : (V m c main_v13 : FVec Ideal S2048x128 .f32) (ix2 p ⟨d, by omega⟩) = (K_main_v16 (F := Ideal) : FVec Ideal S2048x64 .f32) (ix2 p d) := by
  rw [cos_arr]; pointwise []
theorem cos_hi (c : Dev nD) (p : Fin 2048) (d : Fin 64) : (V m c main_v13 : FVec Ideal S2048x128 .f32) (ix2 p ⟨64 + d, by omega⟩) = (K_main_v16 (F := Ideal) : FVec Ideal S2048x64 .f32) (ix2 p d) := by
  rw [cos_arr]; pointwise []

/-- A lane of the sine table, in either half. -/
theorem sin_lo (c : Dev nD) (p : Fin 2048) (d : Fin 64) : (V m c main_v15 : FVec Ideal S2048x128 .f32) (ix2 p ⟨d, by omega⟩) = -(K_main_v18 (F := Ideal) : FVec Ideal S2048x64 .f32) (ix2 p d) := by
  rw [sin_arr]; pointwise []
theorem sin_hi (c : Dev nD) (p : Fin 2048) (d : Fin 64) : (V m c main_v15 : FVec Ideal S2048x128 .f32) (ix2 p ⟨64 + d, by omega⟩) = (K_main_v18 (F := Ideal) : FVec Ideal S2048x64 .f32) (ix2 p d) := by
  rw [sin_arr]; pointwise []

set_option maxHeartbeats 1000000 in
/-- The decay inside a chunk. -/
theorem dec_at (c : Dev nD) (j : ℕ) (s : Cert.ReferenceIdeal.Step.State Ideal) : V m c main_v40 = b50 j s := by
  simp only [V, List.flatten_cons, List.flatten_nil, List.append_nil]; after_reads_simp
  rfl

set_option maxHeartbeats 1000000 in
/-- The decay of a whole chunk. -/
theorem gamma_at (c : Dev nD) (j : ℕ) (s : Cert.ReferenceIdeal.Step.State Ideal) : V m c main_v63 = b83 j s := by
  simp only [V, List.flatten_cons, List.flatten_nil, List.append_nil]; after_reads_simp
  rfl

set_option maxHeartbeats 1000000 in
/-- The decay of the state where a row reads it. -/
theorem qdec_at (c : Dev nD) (j : ℕ) (s : Cert.ReferenceIdeal.Step.State Ideal) (h : Fin 8) (n : Fin 128) (e : Fin 256) : (V m c main_v58 : FVec Ideal S8x128x256 .f32) (ix3 h n e) = (b65 j s : FVec Ideal Cert.ReferenceIdeal.S128x8 .f32) (ix2 n h) := by
  simp only [V, List.flatten_cons, List.flatten_nil, List.append_nil]; after_reads_simp
  pointwise [b18, b19, b20, b21, b22, b23, b24, b25, b26, b27, b28, b65, b64, b63, b62, b61, b60, b59, b58, b57]

set_option maxHeartbeats 1000000 in
/-- The decay of a row's share of the state. -/
theorem kdec_at (c : Dev nD) (j : ℕ) (s : Cert.ReferenceIdeal.Step.State Ideal) (h : Fin 8) (n : Fin 128) (d : Fin 128) : (V m c main_v60 : FVec Ideal S8x128x128 .f32) (ix3 h n d) = (b79 j s : FVec Ideal Cert.ReferenceIdeal.S128x8 .f32) (ix2 n h) := by
  simp only [V, List.flatten_cons, List.flatten_nil, List.append_nil]; after_reads_simp
  pointwise [b18, b19, b20, b21, b22, b23, b24, b25, b26, b27, b28, b79, b78, b77, b76, b75, b74, b73, b72, b71]

set_option maxHeartbeats 1000000 in
/-- The scale of the normalization. -/
theorem scale_at (c : Dev nD) (e : Fin 2048) : (V m c main_v66 : FVec Ideal S1x2048 .f32) (ix2 0 e) = (m ((c : Thread nD τ).loc main_arg1) : FVec Ideal S1x2048 .f32) (ix2 0 e) := by
  simp only [V, List.flatten_cons, List.flatten_nil, List.append_nil]; after_reads_simp
  pointwise []

set_option maxHeartbeats 1000000 in
/-- The shift of the normalization. -/
theorem shift_at (c : Dev nD) (e : Fin 2048) : (V m c main_v68 : FVec Ideal S1x2048 .f32) (ix2 0 e) = (m ((c : Thread nD τ).loc main_arg2) : FVec Ideal S1x2048 .f32) (ix2 0 e) := by
  simp only [V, List.flatten_cons, List.flatten_nil, List.append_nil]; after_reads_simp
  pointwise []

set_option maxHeartbeats 1000000 in
/-- A lane of the values' columns. -/
theorem v_at (c : Dev nD) (b : Fin 8) (p : Fin 2048) (e : Fin 2048) : (V m c main_v74 : FVec Ideal S16384x2048 .bf16) (ix2 ⟨b * 2048 + p, by omega⟩ e) = (m ((c : Thread nD τ).loc main_arg0) : FVec Ideal S8x2048x6144 .f32) (ix3 b p ⟨2048 + e, by omega⟩) := by
  simp only [V, List.flatten_cons, List.flatten_nil, List.append_nil]; after_reads_simp
  pointwise []
  blk_point []

set_option maxHeartbeats 1000000 in
/-- A lane of the queries' and keys' columns. -/
theorem qk_at (c : Dev nD) (b : Fin 8) (p : Fin 2048) (e : Fin 2048) : (V m c main_v72 : FVec Ideal S16384x4096 .f32) (ix2 ⟨b * 2048 + p, by omega⟩ ⟨e, by omega⟩) = (m ((c : Thread nD τ).loc main_arg0) : FVec Ideal S8x2048x6144 .f32) (ix3 b p ⟨e, by omega⟩) := by
  simp only [V, List.flatten_cons, List.flatten_nil, List.append_nil]; after_reads_simp
  pointwise []
  blk_point []

set_option maxHeartbeats 1000000 in
/-- A lane of the gate's columns. -/
theorem gate_at (c : Dev nD) (b : Fin 8) (p : Fin 2048) (e : Fin 2048) : (V m c main_v72 : FVec Ideal S16384x4096 .f32) (ix2 ⟨b * 2048 + p, by omega⟩ ⟨2048 + e, by omega⟩) = (m ((c : Thread nD τ).loc main_arg0) : FVec Ideal S8x2048x6144 .f32) (ix3 b p ⟨4096 + e, by omega⟩) := by
  simp only [V, List.flatten_cons, List.flatten_nil, List.append_nil]; after_reads_simp
  pointwise []
  blk_point []

end Cert.KernelIdeal.Entry
end
-- ==== Proof.RefRun.lean ====
/- The run of the reference: its results are fields of the sixteenth state of the scan, whatever sequence of states starts
    where the lines before the scan leave it and goes on by one trip. -/
module

public import proofs.«01_k».proof.Proof.Gen.ReferenceIdeal.Run
public import proofs.«01_k».proof.Proof.Gen.ReferenceIdeal.Step

@[expose] public section

noncomputable section

namespace Cert.ReferenceIdeal.Scan

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The state a valuation holds at the carried buffers. -/
def stateOf (W : Valuation τ sig (Elt F)) : State F :=
  ⟨W (Proc.devRef .tc main_v71_4), W (Proc.devRef .tc main_v71_5), W (Proc.devRef .tc main_v71_0), W (Proc.devRef .tc main_v71_1),
    W (Proc.devRef .tc main_v71_2)⟩

/-- The trip's number, at the counter. -/
abbrev num (j : ℕ) : (⟨Cert.ReferenceIdeal.S_, .i32⟩ : BufTy).Contents (Elt F) := constantI Cert.ReferenceIdeal.S_ 32 (BitVec.ofNat 32 j)

variable (W : Valuation τ sig (Elt F)) (j : ℕ)

set_option maxRecDepth 16384 in
set_option maxHeartbeats 1000000 in
/-- One trip makes the carried state the step's. -/
theorem trip_state (hn : W (Proc.devRef .tc main_v71_3) = num j) : step_main_v71_4 W = Step.b91 j (stateOf W) := by
  unfold step_main_v71_4 res_main_while0b_v116 res_main_while0b_v107 res_main_while0b_v108
  rw [hn]
  rfl

set_option maxRecDepth 16384 in
set_option maxHeartbeats 1000000 in
/-- One trip writes its chunk of outputs as the step does. -/
theorem trip_out (hn : W (Proc.devRef .tc main_v71_3) = num j) : step_main_v71_5 W = Step.b98 j (stateOf W) := by
  unfold step_main_v71_5 res_main_while0b_v106 res_main_while0b_v107 res_main_while0b_v108
  rw [hn]
  rfl

/-- One trip raises the number. -/
theorem trip_num (hn : W (Proc.devRef .tc main_v71_3) = num j) : step_main_v71_3 W = num (j + 1) := by
  unfold step_main_v71_3
  rw [hn]
  funext i
  show BitVec.ofNat 32 j + 1#32 = BitVec.ofNat 32 (j + 1)
  simp only [BitVec.ofNat_add]

/-- One trip of the run is one step of the state. -/
theorem trip (hn : W (Proc.devRef .tc main_v71_3) = num j) : stateOf (STEP W) = step j (stateOf W) := by
  unfold stateOf
  rw [STEP_main_v71_4, STEP_main_v71_5, STEP_main_v71_0, STEP_main_v71_1, STEP_main_v71_2, trip_state W j hn, trip_out W j hn]
  rfl

variable (m : (ℓ : Loc nD τ sig) → Buf (Elt F) ℓ) (c : Dev nD)

set_option maxRecDepth 65536 in
set_option maxHeartbeats 2000000 in
/-- The lines before the scan leave number zero … -/
theorem entry_num : entryContents preI m c (Proc.devRef .tc main_v71_3) = num 0 := by
  simp only [entryContents, afterL_cons, afterL_nil]; after_reads_simp; rfl

set_option maxRecDepth 65536 in
set_option maxHeartbeats 2000000 in
/-- … and the scan's first state. -/
theorem entry_state : stateOf (entryContents preI m c) = init (m ((c.tc : Thread nD τ).loc main_arg0)) := by
  unfold stateOf
  simp only [entryContents, afterL_cons, afterL_nil]; after_reads_simp; rfl

end Cert.ReferenceIdeal.Scan
end
-- ==== Proof.RefIter.lean ====
/- The reference's results as fields of the sixteenth state of the scan over the chunks. -/
module

public import proofs.«01_k».proof.Proof.RefRun

@[expose] public section

noncomputable section

namespace Cert.ReferenceIdeal.Scan

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The states of the scan: the first from the argument, then chunk by chunk. -/
def iter (X : (⟨S8x2048x6144, .f32⟩ : BufTy).Contents (Elt F)) : ℕ → State F
  | 0 => init X
  | n + 1 => step n (iter X n)

variable (m : (ℓ : Loc nD τ sig) → Buf (Elt F) ℓ) (c : Dev nD)

/-- After `k` trips the run holds the `k`-th state and the number `k`. -/
theorem after_trips : ∀ k, stateOf (STEP^[k] (entryContents preI m c)) = iter (m ((c.tc : Thread nD τ).loc main_arg0)) k
      ∧ (STEP^[k] (entryContents preI m c)) (Proc.devRef .tc main_v71_3) = num k
  | 0 => ⟨entry_state m c, entry_num m c⟩
  | k + 1 => by
    obtain ⟨hs, hn⟩ := after_trips k
    rw [Function.iterate_succ_apply', STEP_main_v71_3]
    exact ⟨by rw [trip _ k hn, hs]; rfl, trip_num _ k hn⟩

set_option maxRecDepth 16384 in
/-- The lines after the scan, of the state they read. -/
theorem tail_eq (W : Valuation τ sig (Elt F)) : out_main_v105 W = Step.R_main_v105 (stateOf W) (W (Proc.devRef .tc main_arg0))
    (W (Proc.devRef .tc main_arg1)) (W (Proc.devRef .tc main_arg2)) := by
  unfold out_main_v105 Step.R_main_v105
  rfl

/-- Every execution ends with the outputs and the state of the sixteenth state of the scan, the arguments unchanged. -/
theorem run_state (ρ : Dev nD → PrngReg) :
    θ_run (defs (F := F)) (onTc (τ := τ) (main (F := F))) ⟨m, fun _ => 0, ρ⟩ fun r => ∀ c : Dev nD,
      r.2.mem ((c.tc : Thread nD τ).loc main_v105) = Step.R_main_v105 (iter (m ((c.tc : Thread nD τ).loc main_arg0)) 16)
          (m ((c.tc : Thread nD τ).loc main_arg0)) (m ((c.tc : Thread nD τ).loc main_arg1)) (m ((c.tc : Thread nD τ).loc main_arg2))
      ∧ r.2.mem ((c.tc : Thread nD τ).loc main_v71_4) = (iter (m ((c.tc : Thread nD τ).loc main_arg0)) 16).main_v71_4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c).1.trans (by rw [tail_eq, (after_trips m c 16).1, iter_main_arg0 m c 16, iter_main_arg1 m c 16, iter_main_arg2 m c 16]),
      (h c).2.1.trans (congrArg State.main_v71_4 (after_trips m c 16).1), (h c).2.2⟩) (Value.run m ρ)

end Cert.ReferenceIdeal.Scan
end
-- ==== Proof.RefVal.lean ====
/- The reference's values at an index: the rotated queries and keys, one trip's state and outputs, and the lines after the scan. -/
module

public import proofs.«01_k».proof.Proof.RefIter
public import Idealize.ShloMosaic.Lib.Pipeline.ValueKit
public import Idealize.ShloMosaic.Lib.DynamicIndex

@[expose] public section

set_option maxRecDepth 16384

noncomputable section

namespace Cert.ReferenceIdeal.Scan

open Idealize.ShloMosaic Idealize.ShloMosaic.TcCoe Idealize.ShloMosaic.ValueKit Cert.ReferenceIdeal Cert.ReferenceIdeal.Gen Cert.ReferenceIdeal.Step

variable (X : FVec Ideal S8x2048x6144 .f32)

/-- A rotated query, in either half of its lanes. -/
theorem q_lo (b : Fin 8) (p : Fin 2048) (h : Fin 8) (d : Fin 64) : (A_main_v32 (F := Ideal) X : FVec Ideal S8x2048x8x128 .f32) (ix4 b p h ⟨d, by omega⟩)
    = X (ix3 b p ⟨h * 128 + d, by omega⟩) * (K_main_v16 (F := Ideal) : FVec Ideal S2048x64 .f32) (ix2 p d)
      - X (ix3 b p ⟨h * 128 + (64 + d), by omega⟩) * (K_main_v18 (F := Ideal) : FVec Ideal S2048x64 .f32) (ix2 p d) := by
  pointwise [A_main_v32, A_main_v26, A_main_v31, A_main_v23, A_main_v25, A_main_v28, A_main_v30, A_main_v20, A_main_v21, A_main_v5, A_main_v2,
    K_main_v22, K_main_v24, K_main_v27, K_main_v29, K_main_v17, K_main_v19]
theorem q_hi (b : Fin 8) (p : Fin 2048) (h : Fin 8) (d : Fin 64) : (A_main_v32 (F := Ideal) X : FVec Ideal S8x2048x8x128 .f32) (ix4 b p h ⟨64 + d, by omega⟩)
    = X (ix3 b p ⟨h * 128 + d, by omega⟩) * (K_main_v18 (F := Ideal) : FVec Ideal S2048x64 .f32) (ix2 p d)
      + X (ix3 b p ⟨h * 128 + (64 + d), by omega⟩) * (K_main_v16 (F := Ideal) : FVec Ideal S2048x64 .f32) (ix2 p d) := by
  pointwise [A_main_v32, A_main_v26, A_main_v31, A_main_v23, A_main_v25, A_main_v28, A_main_v30, A_main_v20, A_main_v21, A_main_v5, A_main_v2,
    K_main_v22, K_main_v24, K_main_v27, K_main_v29, K_main_v17, K_main_v19]

/-- A rotated, scaled key, in either half of its lanes; its tables are the queries'. -/
theorem kcos : K_main_v44 (F := Ideal) = K_main_v16 := rfl
theorem ksin : K_main_v46 (F := Ideal) = K_main_v18 := rfl
theorem k_lo (b : Fin 8) (p : Fin 2048) (h : Fin 8) (d : Fin 64) : (A_main_v62 (F := Ideal) X : FVec Ideal S8x2048x8x128 .f32) (ix4 b p h ⟨d, by omega⟩)
    = (X (ix3 b p ⟨1024 + (h * 128 + d), by omega⟩) * (K_main_v16 (F := Ideal) : FVec Ideal S2048x64 .f32) (ix2 p d)
      - X (ix3 b p ⟨1024 + (h * 128 + (64 + d)), by omega⟩) * (K_main_v18 (F := Ideal) : FVec Ideal S2048x64 .f32) (ix2 p d))
        * Ideal.ofBits FTy.f32 0x3DB504F3#32 := by
  rw [← kcos, ← ksin]
  pointwise [A_main_v62, A_main_v60, A_main_v54, A_main_v59, A_main_v51, A_main_v53, A_main_v56, A_main_v58, A_main_v48, A_main_v49, A_main_v33, A_main_v3,
    K_main_v50, K_main_v52, K_main_v55, K_main_v57, K_main_v45, K_main_v47, K_main_v61, K_main_cst_6]
theorem k_hi (b : Fin 8) (p : Fin 2048) (h : Fin 8) (d : Fin 64) : (A_main_v62 (F := Ideal) X : FVec Ideal S8x2048x8x128 .f32) (ix4 b p h ⟨64 + d, by omega⟩)
    = (X (ix3 b p ⟨1024 + (h * 128 + d), by omega⟩) * (K_main_v18 (F := Ideal) : FVec Ideal S2048x64 .f32) (ix2 p d)
      + X (ix3 b p ⟨1024 + (h * 128 + (64 + d)), by omega⟩) * (K_main_v16 (F := Ideal) : FVec Ideal S2048x64 .f32) (ix2 p d))
        * Ideal.ofBits FTy.f32 0x3DB504F3#32 := by
  rw [← kcos, ← ksin]
  pointwise [A_main_v62, A_main_v60, A_main_v54, A_main_v59, A_main_v51, A_main_v53, A_main_v56, A_main_v58, A_main_v48, A_main_v49, A_main_v33, A_main_v3,
    K_main_v50, K_main_v52, K_main_v55, K_main_v57, K_main_v45, K_main_v47, K_main_v61, K_main_cst_6]

/-- A value's lane. -/
theorem v_eq (b : Fin 8) (p : Fin 2048) (h : Fin 8) (e : Fin 256) : (A_main_v63 (F := Ideal) X : FVec Ideal S8x2048x8x256 .f32) (ix4 b p h e)
    = X (ix3 b p ⟨2048 + (h * 256 + e), by omega⟩) := by
  pointwise [A_main_v63, A_main_v4]

/-- Rows cut into chunks, the chunks outermost: row `j * 128 + n` is row `n` of chunk `j`. -/
theorem chunk_128 (Y : FVec Ideal S8x2048x8x128 .f32) (j : Fin 16) (b : Fin 8) (n : Fin 128) (h : Fin 8) (d : Fin 128) :
    (transpose S16x8x128x8x128 [1, 0, 2, 3, 4] (shapeCast S8x16x128x8x128 Y shapeCasts_S8x2048x8x128_S8x16x128x8x128)
      transposes_S8x16x128x8x128_S16x8x128x8x128_1_0_2_3_4) (ix5 j b n h d) = Y (ix4 b ⟨j * 128 + n, by omega⟩ h d) := by
  refine (transpose_apply _ _ _ _ (ix5 b j n h d) (fun a => ?_)).trans (shapeCast_apply _ _ _ (ix4 b ⟨j * 128 + n, by omega⟩ h d) ?_)
  · match a with
    | ⟨0, _⟩ => rfl
    | ⟨1, _⟩ => rfl
    | ⟨2, _⟩ => rfl
    | ⟨3, _⟩ => rfl
    | ⟨4, _⟩ => rfl
  · rw [Shape.rowMajor_val_four, Shape.rowMajor_val_five]
    show ((b.val * 2048 + (j.val * 128 + n.val)) * 8 + h.val) * 128 + d.val = (((b.val * 16 + j.val) * 128 + n.val) * 8 + h.val) * 128 + d.val
    omega

/-- Rows cut into chunks, the chunks outermost: row `j * 128 + n` is row `n` of chunk `j`. -/
theorem chunk_256 (Y : FVec Ideal S8x2048x8x256 .f32) (j : Fin 16) (b : Fin 8) (n : Fin 128) (h : Fin 8) (d : Fin 256) :
    (transpose S16x8x128x8x256 [1, 0, 2, 3, 4] (shapeCast S8x16x128x8x256 Y shapeCasts_S8x2048x8x256_S8x16x128x8x256)
      transposes_S8x16x128x8x256_S16x8x128x8x256_1_0_2_3_4) (ix5 j b n h d) = Y (ix4 b ⟨j * 128 + n, by omega⟩ h d) := by
  refine (transpose_apply _ _ _ _ (ix5 b j n h d) (fun a => ?_)).trans (shapeCast_apply _ _ _ (ix4 b ⟨j * 128 + n, by omega⟩ h d) ?_)
  · match a with
    | ⟨0, _⟩ => rfl
    | ⟨1, _⟩ => rfl
    | ⟨2, _⟩ => rfl
    | ⟨3, _⟩ => rfl
    | ⟨4, _⟩ => rfl
  · rw [Shape.rowMajor_val_four, Shape.rowMajor_val_five]
    show ((b.val * 2048 + (j.val * 128 + n.val)) * 8 + h.val) * 256 + d.val = (((b.val * 16 + j.val) * 128 + n.val) * 8 + h.val) * 256 + d.val
    omega

/-- A chunk's entry of the queries, of the keys, of the values. -/
theorem qc_eq (j : Fin 16) (b : Fin 8) (n : Fin 128) (h : Fin 8) (d : Fin 128) : (A_main_v65 (F := Ideal) X : FVec Ideal S16x8x128x8x128 .f32) (ix5 j b n h d)
    = (A_main_v32 (F := Ideal) X : FVec Ideal S8x2048x8x128 .f32) (ix4 b ⟨j * 128 + n, by omega⟩ h d) := by
  exact chunk_128 (A_main_v32 (F := Ideal) X) j b n h d
theorem kc_eq (j : Fin 16) (b : Fin 8) (n : Fin 128) (h : Fin 8) (d : Fin 128) : (A_main_v67 (F := Ideal) X : FVec Ideal S16x8x128x8x128 .f32) (ix5 j b n h d)
    = (A_main_v62 (F := Ideal) X : FVec Ideal S8x2048x8x128 .f32) (ix4 b ⟨j * 128 + n, by omega⟩ h d) := by
  exact chunk_128 (A_main_v62 (F := Ideal) X) j b n h d
theorem vc_eq (j : Fin 16) (b : Fin 8) (n : Fin 128) (h : Fin 8) (e : Fin 256) : (A_main_v69 (F := Ideal) X : FVec Ideal S16x8x128x8x256 .f32) (ix5 j b n h e)
    = (A_main_v63 (F := Ideal) X : FVec Ideal S8x2048x8x256 .f32) (ix4 b ⟨j * 128 + n, by omega⟩ h e) := by
  exact chunk_256 (A_main_v63 (F := Ideal) X) j b n h e

variable (s : State Ideal)

/-- A trip's slices start at its own chunk. -/
theorem start_eq (j : Fin 16) (z1 z2 z3 z4 : (⟨S_, .i32⟩ : BufTy).Contents (Elt Ideal)) (h1 : z1 = constantI S_ 32 0#32) (h2 : z2 = constantI S_ 32 0#32)
    (h3 : z3 = constantI S_ 32 0#32) (h4 : z4 = constantI S_ 32 0#32) (a : Fin 5) :
    ((![(constantI S_ 32 (BitVec.ofNat 32 j) : (⟨S_, .i32⟩ : BufTy).Contents (Elt Ideal)), z1, z2, z3, z4] : Fin 5 → (⟨S_, .i32⟩ : BufTy).Contents (Elt Ideal)) a
      (Shape.Idx.first h_S_)).toInt = ((![(j : ℕ), 0, 0, 0, 0] : Fin 5 → ℕ) a : ℤ) := by
  subst h1; subst h2; subst h3; subst h4
  match a with
  | ⟨0, _⟩ => exact toInt_ofNat_of_lt (k := j) (by omega)
  | ⟨1, _⟩ => rfl
  | ⟨2, _⟩ => rfl
  | ⟨3, _⟩ => rfl
  | ⟨4, _⟩ => rfl

theorem fits_q (j : Fin 16) : S16x8x128x8x128.Slices ![(j : ℕ), 0, 0, 0, 0] S1x8x128x8x128 :=
  (by decide : ∀ j : Fin 16, S16x8x128x8x128.Slices ![(j : ℕ), 0, 0, 0, 0] S1x8x128x8x128) j
theorem fits_v (j : Fin 16) : S16x8x128x8x256.Slices ![(j : ℕ), 0, 0, 0, 0] S1x8x128x8x256 :=
  (by decide : ∀ j : Fin 16, S16x8x128x8x256.Slices ![(j : ℕ), 0, 0, 0, 0] S1x8x128x8x256) j

/-- A trip reads its own chunk of the queries, the keys and the values … -/
theorem b5_at (j : Fin 16) (b : Fin 8) (n : Fin 128) (h : Fin 8) (d : Fin 128) : (b5 j s : FVec Ideal S8x128x8x128 .f32) (ix4 b n h d)
    = (s.main_v71_0 : FVec Ideal S16x8x128x8x128 .f32) (ix5 j b n h d) := by
  unfold b5 b4
  rw [Host.dynamicSlice_eq_extractStridedSlice _ _ _ ![(j : ℕ), 0, 0, 0, 0] _ (fits_q j) (start_eq j _ _ _ _ rfl rfl rfl rfl)]
  pointwise []
theorem b11_at (j : Fin 16) (b : Fin 8) (n : Fin 128) (h : Fin 8) (d : Fin 128) : (b11 j s : FVec Ideal S8x128x8x128 .f32) (ix4 b n h d)
    = (s.main_v71_1 : FVec Ideal S16x8x128x8x128 .f32) (ix5 j b n h d) := by
  unfold b11 b10
  rw [Host.dynamicSlice_eq_extractStridedSlice _ _ _ ![(j : ℕ), 0, 0, 0, 0] _ (fits_q j) (start_eq j _ _ _ _ rfl rfl rfl rfl)]
  pointwise []
theorem b17_at (j : Fin 16) (b : Fin 8) (n : Fin 128) (h : Fin 8) (e : Fin 256) : (b17 j s : FVec Ideal S8x128x8x256 .f32) (ix4 b n h e)
    = (s.main_v71_2 : FVec Ideal S16x8x128x8x256 .f32) (ix5 j b n h e) := by
  unfold b17 b16
  rw [Host.dynamicSlice_eq_extractStridedSlice _ _ _ ![(j : ℕ), 0, 0, 0, 0] _ (fits_v j) (start_eq j _ _ _ _ rfl rfl rfl rfl)]
  pointwise []

/-- An update at a start inside the operand is the update there. -/
theorem update_at {α : Type} {s u : Shape} (x : s.Idx → α) (upd : u.Idx → α) (start : Fin s.rank → Int) (h : s.Slices (fun _ => 0) u)
    (off : Fin s.rank → Nat) (hoff : s.Slices off u) (hs : ∀ a, start a = (off a : Int)) :
    Host.dynamicUpdateSlice x upd start h = updateSlice x upd off hoff :=
  Host.dynamicUpdateSlice_eq_updateSlice x upd start h off (fun a => by have := hoff.2 a; rw [hs a]; omega) hoff

/-- … and writes its own chunk of the outputs, leaving the others. -/
theorem b98_eq (j : Fin 16) : (b98 j s : FVec Ideal S16x8x128x8x256 .f32) = updateSlice (s.main_v71_5 : FVec Ideal S16x8x128x8x256 .f32) (b93 j s : FVec Ideal S1x8x128x8x256 .f32) ![(j : ℕ), 0, 0, 0, 0] (fits_v j) := by
  unfold b98
  exact update_at (s := S16x8x128x8x256) (u := S1x8x128x8x256) _ _ _ _ ![(j : ℕ), 0, 0, 0, 0] (fits_v j) (start_eq j _ _ _ _ rfl rfl rfl rfl)
theorem b98_own (j : Fin 16) (b : Fin 8) (n : Fin 128) (h : Fin 8) (e : Fin 256) : (b98 j s : FVec Ideal S16x8x128x8x256 .f32) (ix5 j b n h e)
    = (b92 j s : FVec Ideal S8x128x8x256 .f32) (ix4 b n h e) := by
  rw [b98_eq]
  pointwise [b93]
  rw [dif_pos (by omega)]
theorem b98_other (j i : Fin 16) (hi : i ≠ j) (b : Fin 8) (n : Fin 128) (h : Fin 8) (e : Fin 256) : (b98 j s : FVec Ideal S16x8x128x8x256 .f32) (ix5 i b n h e)
    = (s.main_v71_5 : FVec Ideal S16x8x128x8x256 .f32) (ix5 i b n h e) := by
  rw [b98_eq]
  have hv : (i : ℕ) ≠ j := fun h => hi (Fin.ext h)
  pointwise [b93]
  rw [dif_neg (by omega)]

/-- The state after a trip. -/
theorem b91_at (j : ℕ) (b h : Fin 8) (d : Fin 128) (e : Fin 256) : (b91 j s : FVec Ideal S8x8x128x256 .f32) (ix4 b h d e)
    = (b83 j s : FVec Ideal S8 .f32) (ix1 h) * (s.main_v71_4 : FVec Ideal S8x8x128x256 .f32) (ix4 b h d e)
      + ∑ n : Fin 128, (b11 j s : FVec Ideal S8x128x8x128 .f32) (ix4 b n h d) * (b79 j s : FVec Ideal S128x8 .f32) (ix2 n h)
        * (b17 j s : FVec Ideal S8x128x8x256 .f32) (ix4 b n h e) := by
  pointwise [b91, b90, b89, b88, b87, b86, b85, b84]

/-- The outputs of a trip. -/
theorem b92_at (j : ℕ) (b : Fin 8) (n : Fin 128) (h : Fin 8) (e : Fin 256) : (b92 j s : FVec Ideal S8x128x8x256 .f32) (ix4 b n h e)
    = (∑ l : Fin 128, (b17 j s : FVec Ideal S8x128x8x256 .f32) (ix4 b l h e)
        * ((∑ d : Fin 128, (b5 j s : FVec Ideal S8x128x8x128 .f32) (ix4 b n h d) * (b11 j s : FVec Ideal S8x128x8x128 .f32) (ix4 b l h d))
            * (b50 j s : FVec Ideal S8x128x128 .f32) (ix3 h n l)))
      + (∑ d : Fin 128, (s.main_v71_4 : FVec Ideal S8x8x128x256 .f32) (ix4 b h d e) * (b5 j s : FVec Ideal S8x128x8x128 .f32) (ix4 b n h d))
        * (b65 j s : FVec Ideal S128x8 .f32) (ix2 n h) := by
  pointwise [b92, b56, b55, b54, b53, b52, b51, b70, b69, b68, b67, b66]

/-- The lines after the scan: the row of a chunk's outputs, normalized head by head, under its gate. -/
theorem tail_at (a1 a2 : FVec Ideal S1x2048 .f32) (b : Fin 8) (j : Fin 16) (n : Fin 128) (h : Fin 8) (e : Fin 256) (g : EReal) (o : Fin 256 → EReal)
    (hg : X (ix3 b ⟨j * 128 + n, by omega⟩ ⟨4096 + (h * 256 + e), by omega⟩) = g)
    (ho : ∀ x, (s.main_v71_5 : FVec Ideal S16x8x128x8x256 .f32) (ix5 j b n h x) = o x) :
    (R_main_v105 s X a1 a2 : FVec Ideal S16384x2048 .bf16) (ix2 ⟨b * 2048 + (j * 128 + n), by omega⟩ ⟨h * 256 + e, by omega⟩)
      = g * Ideal.logistic g * ((o e - Ideal.div (∑ a : Fin 256, o a) (Ideal.ofBits FTy.f32 0x43800000#32))
          * Ideal.rsqrt (Ideal.div (∑ a : Fin 256, (o a - Ideal.div (∑ b : Fin 256, o b) (Ideal.ofBits FTy.f32 0x43800000#32))
            * (o a - Ideal.div (∑ b : Fin 256, o b) (Ideal.ofBits FTy.f32 0x43800000#32))) (Ideal.ofBits FTy.f32 0x43800000#32)
              + Ideal.ofBits FTy.f32 0x358637BD#32) * a1 (ix2 0 ⟨h * 256 + e, by omega⟩) + a2 (ix2 0 ⟨h * 256 + e, by omega⟩)) := by
  pointwise [R_main_v105]
  have hm : ((b : ℕ) * 2048 + (j * 128 + n)) % 2048 = j * 128 + n := by omega
  simp only [hm, hg, ho, Ideal.logistic]

end Cert.ReferenceIdeal.Scan
end
-- ==== Proof.Reads.lean ====
/- What a grid point reads of its blocks, in the argument's entries and the reference's tables. -/
module

public import proofs.«01_k».proof.Proof.Block
public import proofs.«01_k».proof.Proof.Entry
public import proofs.«01_k».proof.Proof.RefVal

@[expose] public section

set_option maxRecDepth 16384

noncomputable section

namespace Cert.KernelIdeal.Block

open Cert.KernelIdeal Cert.KernelIdeal.Gen Idealize.ShloMosaic Idealize.ShloMosaic.TcCoe Idealize.ShloMosaic.ValueKit

variable (m : (ℓ : Loc nD τ sig) → Buf (Elt Ideal) ℓ)

/-- The block each point stages of every input. -/
theorem idx : ∀ t : Fin cfg0.N, win0_0.index t = ![0] ∧ win0_1.index t = ![t.val, 0] ∧ win0_2.index t = ![t.val, 1]
    ∧ win0_3.index t = ![t.val, 0] ∧ win0_4.index t = ![t.val, 1] ∧ win0_5.index t = ![t.val % 16, 0] ∧ win0_6.index t = ![t.val % 16, 0]
    ∧ win0_7.index t = ![0, 0, 0] ∧ win0_8.index t = ![0, 0, 0] ∧ win0_9.index t = ![0, 0, 0] ∧ win0_10.index t = ![0, 0] ∧ win0_11.index t = ![0, 0]
    ∧ win0_12.index t = ![t.val, 0] ∧ win0_13.index t = ![t.val / 16, 0, 0, 0] :=
  (by decide +kernel : ∀ t : Fin grid0.N, win0_0.index t = ![0] ∧ win0_1.index t = ![t.val, 0] ∧ win0_2.index t = ![t.val, 1]
    ∧ win0_3.index t = ![t.val, 0] ∧ win0_4.index t = ![t.val, 1] ∧ win0_5.index t = ![t.val % 16, 0] ∧ win0_6.index t = ![t.val % 16, 0]
    ∧ win0_7.index t = ![0, 0, 0] ∧ win0_8.index t = ![0, 0, 0] ∧ win0_9.index t = ![0, 0, 0] ∧ win0_10.index t = ![0, 0] ∧ win0_11.index t = ![0, 0]
    ∧ win0_12.index t = ![t.val, 0] ∧ win0_13.index t = ![t.val / 16, 0, 0, 0])

/-- A lane of a head is in its first or in its second half. -/
theorem halves (d : Fin 128) : (∃ a : Fin 64, d = ⟨a, by omega⟩) ∨ (∃ a : Fin 64, d = ⟨64 + a, by omega⟩) := by
  by_cases h : d.val < 64
  · exact Or.inl ⟨⟨d, h⟩, rfl⟩
  · exact Or.inr ⟨⟨d - 64, by omega⟩, Fin.ext (by show d.val = 64 + (d.val - 64); omega)⟩

/-- A rotated lane of the first half. -/
theorem rot_lo (X : FVec Ideal S128x1024 .f32) (C S : FVec Ideal S128x128 .f32) (h : Fin 8) (n : Fin 128) (a : Fin 64) :
    rot X C S h n ⟨a, by omega⟩ = X (ix2 n ⟨h * 128 + a, by omega⟩) * C (ix2 n ⟨a, by omega⟩) + X (ix2 n ⟨h * 128 + (64 + a), by omega⟩) * S (ix2 n ⟨a, by omega⟩) := by
  unfold rot
  congr 3
  apply congrArg
  apply Fin.ext
  dsimp only
  omega

/-- A rotated lane of the second half. -/
theorem rot_hi (X : FVec Ideal S128x1024 .f32) (C S : FVec Ideal S128x128 .f32) (h : Fin 8) (n : Fin 128) (a : Fin 64) :
    rot X C S h n ⟨64 + a, by omega⟩ = X (ix2 n ⟨h * 128 + (64 + a), by omega⟩) * C (ix2 n ⟨64 + a, by omega⟩) + X (ix2 n ⟨h * 128 + a, by omega⟩) * S (ix2 n ⟨64 + a, by omega⟩) := by
  unfold rot
  congr 3
  apply congrArg
  apply Fin.ext
  dsimp only
  omega

variable (c : Dev nD) (t : Fin cfg0.N) (b : Fin 8) (j : Fin 16) (ht : t.val = b * 16 + j)

/-- The argument's array. -/
abbrev arg : FVec Ideal S8x2048x6144 .f32 := m ((c : Thread nD τ).loc main_arg0)

/-- A point's queries. -/
theorem rd_q (ht : t.val = b * 16 + j) (n : Fin 128) (e : Fin 1024) : (iblk m c 1 t : FVec Ideal S128x1024 .f32) (ix2 n e) = arg m c (ix3 b ⟨j * 128 + n, by omega⟩ ⟨e, by omega⟩) := by
  blk_simp [iblk]
  refine (congrArg (V m c main_v72) ?_).trans (Entry.qk_at m c b ⟨j * 128 + n, by omega⟩ ⟨e, by omega⟩)
  blk_ext [idx t]

/-- A point's keys. -/
theorem rd_k (ht : t.val = b * 16 + j) (n : Fin 128) (e : Fin 1024) : (iblk m c 2 t : FVec Ideal S128x1024 .f32) (ix2 n e) = arg m c (ix3 b ⟨j * 128 + n, by omega⟩ ⟨1024 + e, by omega⟩) := by
  blk_simp [iblk]
  refine (congrArg (V m c main_v72) ?_).trans (Entry.qk_at m c b ⟨j * 128 + n, by omega⟩ ⟨1024 + e, by omega⟩)
  blk_ext [idx t]

/-- A point's values. -/
theorem rd_v (ht : t.val = b * 16 + j) (n : Fin 128) (e : Fin 2048) : (iblk m c 3 t : FVec Ideal S128x2048 .bf16) (ix2 n e) = arg m c (ix3 b ⟨j * 128 + n, by omega⟩ ⟨2048 + e, by omega⟩) := by
  blk_simp [iblk]
  refine (congrArg (V m c main_v74) ?_).trans (Entry.v_at m c b ⟨j * 128 + n, by omega⟩ e)
  blk_ext [idx t]

/-- A point's gates. -/
theorem rd_g (ht : t.val = b * 16 + j) (n : Fin 128) (e : Fin 2048) : (iblk m c 4 t : FVec Ideal S128x2048 .f32) (ix2 n e) = arg m c (ix3 b ⟨j * 128 + n, by omega⟩ ⟨4096 + e, by omega⟩) := by
  blk_simp [iblk]
  refine (congrArg (V m c main_v72) ?_).trans (Entry.gate_at m c b ⟨j * 128 + n, by omega⟩ e)
  blk_ext [idx t]

/-- A point's cosines, in either half of the lanes. -/
theorem rd_cos_lo (ht : t.val = b * 16 + j) (n : Fin 128) (d : Fin 64) : (iblk m c 5 t : FVec Ideal S128x128 .f32) (ix2 n ⟨d, by omega⟩) = (Cert.ReferenceIdeal.Step.K_main_v16 (F := Ideal) : FVec Ideal Cert.ReferenceIdeal.S2048x64 .f32) (ix2 ⟨j * 128 + n, by omega⟩ d) := by
  blk_simp [iblk]
  refine (congrArg (V m c main_v13) ?_).trans (Entry.cos_lo m c ⟨j * 128 + n, by omega⟩ d)
  blk_ext [idx t]

/-- A point's cosines in the second half. -/
theorem rd_cos_hi (ht : t.val = b * 16 + j) (n : Fin 128) (d : Fin 64) : (iblk m c 5 t : FVec Ideal S128x128 .f32) (ix2 n ⟨64 + d, by omega⟩) = (Cert.ReferenceIdeal.Step.K_main_v16 (F := Ideal) : FVec Ideal Cert.ReferenceIdeal.S2048x64 .f32) (ix2 ⟨j * 128 + n, by omega⟩ d) := by
  blk_simp [iblk]
  refine (congrArg (V m c main_v13) ?_).trans (Entry.cos_hi m c ⟨j * 128 + n, by omega⟩ d)
  blk_ext [idx t]

/-- A point's sines in the first half, negated. -/
theorem rd_sin_lo (ht : t.val = b * 16 + j) (n : Fin 128) (d : Fin 64) : (iblk m c 6 t : FVec Ideal S128x128 .f32) (ix2 n ⟨d, by omega⟩) = -(Cert.ReferenceIdeal.Step.K_main_v18 (F := Ideal) : FVec Ideal Cert.ReferenceIdeal.S2048x64 .f32) (ix2 ⟨j * 128 + n, by omega⟩ d) := by
  blk_simp [iblk]
  refine (congrArg (V m c main_v15) ?_).trans (Entry.sin_lo m c ⟨j * 128 + n, by omega⟩ d)
  blk_ext [idx t]

/-- A point's sines in the second half. -/
theorem rd_sin_hi (ht : t.val = b * 16 + j) (n : Fin 128) (d : Fin 64) : (iblk m c 6 t : FVec Ideal S128x128 .f32) (ix2 n ⟨64 + d, by omega⟩) = (Cert.ReferenceIdeal.Step.K_main_v18 (F := Ideal) : FVec Ideal Cert.ReferenceIdeal.S2048x64 .f32) (ix2 ⟨j * 128 + n, by omega⟩ d) := by
  blk_simp [iblk]
  refine (congrArg (V m c main_v15) ?_).trans (Entry.sin_hi m c ⟨j * 128 + n, by omega⟩ d)
  blk_ext [idx t]

/-- The decay of a chunk. -/
theorem rd_gamma (k : ℕ) (s : Cert.ReferenceIdeal.Step.State Ideal) (h : Fin 8) : (iblk m c 0 t : FVec Ideal S8 .f32) (ix1 h) = (Cert.ReferenceIdeal.Step.b83 k s : FVec Ideal Cert.ReferenceIdeal.S8 .f32) (ix1 h) := by
  blk_simp [iblk]
  refine (congrArg (V m c main_v63) ?_).trans (congrFun (Entry.gamma_at m c k s) (ix1 h))
  blk_ext [idx t]

/-- The decay inside a chunk. -/
theorem rd_dec (k : ℕ) (s : Cert.ReferenceIdeal.Step.State Ideal) (h : Fin 8) (n l : Fin 128) : (iblk m c 7 t : FVec Ideal S8x128x128 .f32) (ix3 h n l) = (Cert.ReferenceIdeal.Step.b50 k s : FVec Ideal Cert.ReferenceIdeal.S8x128x128 .f32) (ix3 h n l) := by
  blk_simp [iblk]
  refine (congrArg (V m c main_v40) ?_).trans (congrFun (Entry.dec_at m c k s) (ix3 h n l))
  blk_ext [idx t]

/-- The decay of the state where a row reads it. -/
theorem rd_qdec (k : ℕ) (s : Cert.ReferenceIdeal.Step.State Ideal) (h : Fin 8) (n : Fin 128) (e : Fin 256) : (iblk m c 8 t : FVec Ideal S8x128x256 .f32) (ix3 h n e) = (Cert.ReferenceIdeal.Step.b65 k s : FVec Ideal Cert.ReferenceIdeal.S128x8 .f32) (ix2 n h) := by
  blk_simp [iblk]
  refine (congrArg (V m c main_v58) ?_).trans (Entry.qdec_at m c k s h n e)
  blk_ext [idx t]

/-- The decay of a row's share of the state. -/
theorem rd_kdec (k : ℕ) (s : Cert.ReferenceIdeal.Step.State Ideal) (h : Fin 8) (n d : Fin 128) : (iblk m c 9 t : FVec Ideal S8x128x128 .f32) (ix3 h n d) = (Cert.ReferenceIdeal.Step.b79 k s : FVec Ideal Cert.ReferenceIdeal.S128x8 .f32) (ix2 n h) := by
  blk_simp [iblk]
  refine (congrArg (V m c main_v60) ?_).trans (Entry.kdec_at m c k s h n d)
  blk_ext [idx t]

/-- The scale of the normalization. -/
theorem rd_scale (e : Fin 2048) : (iblk m c 10 t : FVec Ideal S1x2048 .f32) (ix2 0 e) = (m ((c : Thread nD τ).loc main_arg1) : FVec Ideal S1x2048 .f32) (ix2 0 e) := by
  blk_simp [iblk]
  refine (congrArg (V m c main_v66) ?_).trans (Entry.scale_at m c e)
  blk_ext [idx t]

/-- The shift of the normalization. -/
theorem rd_shift (e : Fin 2048) : (iblk m c 11 t : FVec Ideal S1x2048 .f32) (ix2 0 e) = (m ((c : Thread nD τ).loc main_arg2) : FVec Ideal S1x2048 .f32) (ix2 0 e) := by
  blk_simp [iblk]
  refine (congrArg (V m c main_v68) ?_).trans (Entry.shift_at m c e)
  blk_ext [idx t]

/-- A point's rotated query is the reference's. -/
theorem query_at (ht : t.val = b * 16 + j) (h : Fin 8) (n d : Fin 128) : rot (iblk m c 1 t) (iblk m c 5 t) (iblk m c 6 t) h n d
    = (Cert.ReferenceIdeal.Step.A_main_v32 (F := Ideal) (arg m c) : FVec Ideal Cert.ReferenceIdeal.S8x2048x8x128 .f32) (ix4 b ⟨j * 128 + n, by omega⟩ h d) := by
  rcases halves d with ⟨a, rfl⟩ | ⟨a, rfl⟩
  · rw [Cert.ReferenceIdeal.Scan.q_lo, rot_lo, rd_q m c t b j ht, rd_q m c t b j ht, rd_cos_lo m c t b j ht, rd_sin_lo m c t b j ht, mul_neg, sub_eq_add_neg]
  · rw [Cert.ReferenceIdeal.Scan.q_hi, rot_hi, rd_q m c t b j ht, rd_q m c t b j ht, rd_cos_hi m c t b j ht, rd_sin_hi m c t b j ht, add_comm]

/-- A point's rotated and scaled key is the reference's. -/
theorem key_at (ht : t.val = b * 16 + j) (h : Fin 8) (n d : Fin 128) : key (iblk m c 2 t) (iblk m c 5 t) (iblk m c 6 t) h n d
    = (Cert.ReferenceIdeal.Step.A_main_v62 (F := Ideal) (arg m c) : FVec Ideal Cert.ReferenceIdeal.S8x2048x8x128 .f32) (ix4 b ⟨j * 128 + n, by omega⟩ h d) := by
  rcases halves d with ⟨a, rfl⟩ | ⟨a, rfl⟩
  · rw [Cert.ReferenceIdeal.Scan.k_lo, key, rot_lo, rd_k m c t b j ht, rd_k m c t b j ht, rd_cos_lo m c t b j ht, rd_sin_lo m c t b j ht, mul_neg, sub_eq_add_neg]
  · rw [Cert.ReferenceIdeal.Scan.k_hi, key, rot_hi, rd_k m c t b j ht, rd_k m c t b j ht, rd_cos_hi m c t b j ht, rd_sin_hi m c t b j ht, add_comm]

end Cert.KernelIdeal.Block
end
-- ==== Proof.Chain.lean ====
/- The chunks in turn: each grid point leaves the state and the outputs of its trip of the reference's scan. -/
module

public import proofs.«01_k».proof.Proof.Reads

@[expose] public section

set_option maxRecDepth 16384

noncomputable section

namespace Cert.ReferenceIdeal.Scan

open Idealize.ShloMosaic Idealize.ShloMosaic.TcCoe Idealize.ShloMosaic.ValueKit Cert.ReferenceIdeal Cert.ReferenceIdeal.Gen Cert.ReferenceIdeal.Step

variable (X : FVec Ideal S8x2048x6144 .f32)

/-- The chunked operands pass through the trips unchanged. -/
theorem iter_q : ∀ k, (iter (F := Ideal) X k).main_v71_0 = A_main_v65 X
  | 0 => rfl
  | k + 1 => iter_q k
theorem iter_k : ∀ k, (iter (F := Ideal) X k).main_v71_1 = A_main_v67 X
  | 0 => rfl
  | k + 1 => iter_k k
theorem iter_v : ∀ k, (iter (F := Ideal) X k).main_v71_2 = A_main_v69 X
  | 0 => rfl
  | k + 1 => iter_v k

/-- The scan starts from no state. -/
theorem iter_zero (b h : Fin 8) (d : Fin 128) (e : Fin 256) : ((iter (F := Ideal) X 0).main_v71_4 : FVec Ideal S8x8x128x256 .f32) (ix4 b h d e) = 0 := by
  show (K_main_v1 (F := Ideal) : FVec Ideal S8x8x128x256 .f32) (ix4 b h d e) = 0
  pointwise [K_main_v1, K_main_cst]

/-- A chunk's outputs are written by its own trip and stay. -/
theorem outputs_at (j : Fin 16) (b : Fin 8) (n : Fin 128) (h : Fin 8) (e : Fin 256) : ∀ k, j.val < k → k ≤ 16 →
    ((iter (F := Ideal) X k).main_v71_5 : FVec Ideal S16x8x128x8x256 .f32) (ix5 j b n h e) = (b92 j (iter (F := Ideal) X j) : FVec Ideal S8x128x8x256 .f32) (ix4 b n h e)
  | 0, hk, _ => absurd hk (Nat.not_lt_zero _)
  | k + 1, hk, h16 => by
    by_cases hj : j.val = k
    · subst hj
      exact b98_own (iter (F := Ideal) X j) j b n h e
    · exact (b98_other (iter (F := Ideal) X k) ⟨k, h16⟩ j (fun hh => hj (congrArg Fin.val hh)) b n h e).trans (outputs_at j b n h e k (by omega) (by omega))

end Cert.ReferenceIdeal.Scan

namespace Cert.KernelIdeal.Block

open Cert.KernelIdeal Cert.KernelIdeal.Gen Idealize.ShloMosaic Idealize.ShloMosaic.TcCoe Idealize.ShloMosaic.ValueKit
open Cert.ReferenceIdeal.Scan (iter iter_q iter_k iter_v iter_zero outputs_at)
open Cert.ReferenceIdeal.Step (b5 b11 b17 b50 b65 b79 b83 b91 b92)

variable (m : (ℓ : Loc nD τ sig) → Buf (Elt Ideal) ℓ) (c : Dev nD)

/-- A point that starts from its trip's state leaves the next one. -/
theorem newS_at (t : Fin cfg0.N) (b : Fin 8) (j : Fin 16) (ht : t.val = b * 16 + j) (s : FVec Ideal S1x8x128x256 .f32)
    (hs : ∀ h d e, s (ix4 0 h d e) = ((iter (F := Ideal) (arg m c) j).main_v71_4 : FVec Ideal Cert.ReferenceIdeal.S8x8x128x256 .f32) (ix4 b h d e))
    (h : Fin 8) (d : Fin 128) (e : Fin 256) :
    newS (iblk m c 0 t) (iblk m c 2 t) (iblk m c 3 t) (iblk m c 5 t) (iblk m c 6 t) (iblk m c 9 t) s h d e
      = ((iter (F := Ideal) (arg m c) (j + 1)).main_v71_4 : FVec Ideal Cert.ReferenceIdeal.S8x8x128x256 .f32) (ix4 b h d e) := by
  refine Eq.trans ?_ (Cert.ReferenceIdeal.Scan.b91_at (iter (F := Ideal) (arg m c) j) j b h d e).symm
  unfold newS
  rw [hs, rd_gamma m c t j (iter (F := Ideal) (arg m c) j)]
  refine congrArg _ (Finset.sum_congr rfl fun n _ => ?_)
  rw [key_at m c t b j ht, rd_kdec m c t j (iter (F := Ideal) (arg m c) j), rd_v m c t b j ht, Cert.ReferenceIdeal.Scan.b11_at, iter_k, Cert.ReferenceIdeal.Scan.kc_eq,
    Cert.ReferenceIdeal.Scan.b17_at, iter_v, Cert.ReferenceIdeal.Scan.vc_eq, Cert.ReferenceIdeal.Scan.v_eq]

/-- The chunk's operands of the reference, as a point reads them. -/
theorem b5_rd (t : Fin cfg0.N) (b : Fin 8) (j : Fin 16) (ht : t.val = b * 16 + j) (n : Fin 128) (h : Fin 8) (d : Fin 128) :
    (b5 j (iter (F := Ideal) (arg m c) j) : FVec Ideal Cert.ReferenceIdeal.S8x128x8x128 .f32) (ix4 b n h d) = rot (iblk m c 1 t) (iblk m c 5 t) (iblk m c 6 t) h n d := by
  rw [Cert.ReferenceIdeal.Scan.b5_at, iter_q, Cert.ReferenceIdeal.Scan.qc_eq]
  exact (query_at m c t b j ht h n d).symm
theorem b11_rd (t : Fin cfg0.N) (b : Fin 8) (j : Fin 16) (ht : t.val = b * 16 + j) (n : Fin 128) (h : Fin 8) (d : Fin 128) :
    (b11 j (iter (F := Ideal) (arg m c) j) : FVec Ideal Cert.ReferenceIdeal.S8x128x8x128 .f32) (ix4 b n h d) = key (iblk m c 2 t) (iblk m c 5 t) (iblk m c 6 t) h n d := by
  rw [Cert.ReferenceIdeal.Scan.b11_at, iter_k, Cert.ReferenceIdeal.Scan.kc_eq]
  exact (key_at m c t b j ht h n d).symm
theorem b17_rd (t : Fin cfg0.N) (b : Fin 8) (j : Fin 16) (ht : t.val = b * 16 + j) (n : Fin 128) (h : Fin 8) (e : Fin 256) :
    (b17 j (iter (F := Ideal) (arg m c) j) : FVec Ideal Cert.ReferenceIdeal.S8x128x8x256 .f32) (ix4 b n h e)
      = (iblk m c 3 t : FVec Ideal S128x2048 .bf16) (ix2 n ⟨h * 256 + e, by omega⟩) := by
  rw [Cert.ReferenceIdeal.Scan.b17_at, iter_v, Cert.ReferenceIdeal.Scan.vc_eq, Cert.ReferenceIdeal.Scan.v_eq]
  exact (rd_v m c t b j ht n ⟨h * 256 + e, by omega⟩).symm

/-- The two orders of a chunk's products, whatever the operands. -/
theorem out_comm (q : Fin 128 → EReal) (k : Fin 128 → Fin 128 → EReal) (D w s : Fin 128 → EReal) (g : EReal) :
    (∑ l : Fin 128, (∑ d : Fin 128, q d * k l d) * D l * w l) + (∑ d : Fin 128, q d * s d) * g
      = (∑ l : Fin 128, w l * ((∑ d : Fin 128, q d * k l d) * D l)) + (∑ d : Fin 128, s d * q d) * g := by
  refine congrArg₂ (· + ·) (Finset.sum_congr rfl fun l _ => mul_comm _ _) (congrArg (· * g) (Finset.sum_congr rfl fun d _ => mul_comm _ _))

/-- … and computes its trip's outputs. -/
theorem out_at (t : Fin cfg0.N) (b : Fin 8) (j : Fin 16) (ht : t.val = b * 16 + j) (s : FVec Ideal S1x8x128x256 .f32)
    (hs : ∀ h d e, s (ix4 0 h d e) = ((iter (F := Ideal) (arg m c) j).main_v71_4 : FVec Ideal Cert.ReferenceIdeal.S8x8x128x256 .f32) (ix4 b h d e))
    (h : Fin 8) (n : Fin 128) (e : Fin 256) :
    out (iblk m c 1 t) (iblk m c 2 t) (iblk m c 3 t) (iblk m c 5 t) (iblk m c 6 t) (iblk m c 7 t) (iblk m c 8 t) s h n e
      = (b92 j (iter (F := Ideal) (arg m c) j) : FVec Ideal Cert.ReferenceIdeal.S8x128x8x256 .f32) (ix4 b n h e) := by
  refine Eq.trans ?_ (Cert.ReferenceIdeal.Scan.b92_at (iter (F := Ideal) (arg m c) j) j b n h e).symm
  simp only [b5_rd m c t b j ht, b11_rd m c t b j ht, b17_rd m c t b j ht, ← hs, ← rd_dec m c t j (iter (F := Ideal) (arg m c) j),
    ← rd_qdec m c t j (iter (F := Ideal) (arg m c) j) h n e]
  exact out_comm _ _ _ _ _ _

/-- The state each point leaves is the scan's after its trip. -/
theorem state_at (b : Fin 8) : ∀ (j : ℕ) (hj : j < 16) (t : Fin cfg0.N) (_ : t.val = b * 16 + j) (h : Fin 8) (d : Fin 128) (e : Fin 256),
    ((outsAt0 m c t.val t.isLt).2 : FVec Ideal S1x8x128x256 .f32) (ix4 0 h d e)
      = ((iter (F := Ideal) (arg m c) (j + 1)).main_v71_4 : FVec Ideal Cert.ReferenceIdeal.S8x8x128x256 .f32) (ix4 b h d e)
  | 0, hj, t, ht, h, d, e => (state_A m c t (by omega) (ix4 0 h d e)).trans
      (newS_at m c t b ⟨0, hj⟩ ht (fun _ => 0) (fun h d e => (iter_zero (arg m c) b h d e).symm) h d e)
  | j + 1, hj, t, ht, h, d, e => (state_B m c t (by omega) (ix4 0 h d e)).trans
      (newS_at m c t b ⟨j + 1, hj⟩ ht _ (fun h d e => state_at b j (by omega) ⟨t.val - 1, by omega⟩ (by show t.val - 1 = _; omega) h d e) h d e)

/-- The row a point writes: the reference's. -/
theorem row_at (t : Fin cfg0.N) (b : Fin 8) (j : Fin 16) (ht : t.val = b * 16 + j) (y : S128x2048.Idx) (n : Fin 128) (h : Fin 8) (e : Fin 256)
    (hn : (y 0 : ℕ) = n) (he : (y 1 : ℕ) = h * 256 + e) :
    ((outsAt0 m c t.val t.isLt).1 : FVec Ideal S128x2048 .bf16) y
      = (Cert.ReferenceIdeal.Step.R_main_v105 (iter (F := Ideal) (arg m c) 16) (arg m c) (m ((c : Thread nD τ).loc main_arg1)) (m ((c : Thread nD τ).loc main_arg2))
          : FVec Ideal Cert.ReferenceIdeal.S16384x2048 .bf16) (ix2 ⟨b * 2048 + (j * 128 + n), by omega⟩ ⟨h * 256 + e, by omega⟩) := by
  have hj16 := j.isLt
  have key : ∀ s : FVec Ideal S1x8x128x256 .f32,
      (∀ h d e, s (ix4 0 h d e) = ((iter (F := Ideal) (arg m c) j).main_v71_4 : FVec Ideal Cert.ReferenceIdeal.S8x8x128x256 .f32) (ix4 b h d e)) →
      gated ((iblk m c 4 t : FVec Ideal S128x2048 .f32) (ix2 n ⟨h * 256 + e, by omega⟩)) ((iblk m c 10 t : FVec Ideal S1x2048 .f32) (ix2 0 ⟨h * 256 + e, by omega⟩))
        ((iblk m c 11 t : FVec Ideal S1x2048 .f32) (ix2 0 ⟨h * 256 + e, by omega⟩))
        (out (iblk m c 1 t) (iblk m c 2 t) (iblk m c 3 t) (iblk m c 5 t) (iblk m c 6 t) (iblk m c 7 t) (iblk m c 8 t) s h n) e
      = (Cert.ReferenceIdeal.Step.R_main_v105 (iter (F := Ideal) (arg m c) 16) (arg m c) (m ((c : Thread nD τ).loc main_arg1)) (m ((c : Thread nD τ).loc main_arg2))
          : FVec Ideal Cert.ReferenceIdeal.S16384x2048 .bf16) (ix2 ⟨b * 2048 + (j * 128 + n), by omega⟩ ⟨h * 256 + e, by omega⟩) := by
    intro s hs
    rw [Cert.ReferenceIdeal.Scan.tail_at (arg m c) (iter (F := Ideal) (arg m c) 16) _ _ b j n h e _ _ rfl
      (fun x => outputs_at (arg m c) j b n h x 16 hj16 le_rfl), rd_g m c t b j ht, rd_scale, rd_shift,
      show out (iblk m c 1 t) (iblk m c 2 t) (iblk m c 3 t) (iblk m c 5 t) (iblk m c 6 t) (iblk m c 7 t) (iblk m c 8 t) s h n
        = fun x => (b92 j (iter (F := Ideal) (arg m c) j) : FVec Ideal Cert.ReferenceIdeal.S8x128x8x256 .f32) (ix4 b n h x) from
        funext fun x => out_at m c t b j ht s hs h n x]
    rfl
  by_cases h0 : t.val % 16 = 0
  · have hj : j = 0 := Fin.ext (by show j.val = 0; omega)
    refine (out_A m c t h0 y n h e hn he).trans (key (fun _ => 0) fun h d e => ?_)
    subst hj
    exact (iter_zero (arg m c) b h d e).symm
  · refine (out_B m c t h0 y n h e hn he).trans (key _ fun h d e => ?_)
    have hj : 1 ≤ j.val := by omega
    have := state_at m c b (j.val - 1) (by omega) ⟨t.val - 1, by omega⟩ (by show t.val - 1 = _; omega) h d e
    rwa [Nat.sub_add_cancel hj] at this

end Cert.KernelIdeal.Block
end
-- ==== Proof.Final.lean ====
/- The two result arrays after the run are the reference's. -/
module

public import proofs.«01_k».proof.Proof.Chain

@[expose] public section

set_option maxRecDepth 16384

noncomputable section

namespace Cert.KernelIdeal.Block

open Cert.KernelIdeal Cert.KernelIdeal.Gen Idealize.ShloMosaic Idealize.ShloMosaic.TcCoe Idealize.ShloMosaic.ValueKit
open Cert.ReferenceIdeal.Scan (iter)

variable (m : (ℓ : Loc nD τ sig) → Buf (Elt Ideal) ℓ) (c : Dev nD)

/-- The gated outputs. -/
theorem final_rows : (dats m 0 c).arrAt 12 cfg0.N
    = (Cert.ReferenceIdeal.Step.R_main_v105 (iter (F := Ideal) (arg m c) 16) (arg m c) (m ((c : Thread nD τ).loc main_arg1)) (m ((c : Thread nD τ).loc main_arg2))
          : FVec Ideal Cert.ReferenceIdeal.S16384x2048 .bf16) := by
  refine (dats m 0 c).arrAt_eq_of_covers 12 _ (by decide +kernel) fun t _ y => ?_
  blk_simp
  rw [after0_12]
  have ht : t.val < 128 := t.isLt
  have hy0 : (y 0 : ℕ) < 128 := (y 0).isLt
  have hy1 : (y 1 : ℕ) < 2048 := (y 1).isLt
  refine (row_at m c t ⟨t.val / 16, by omega⟩ ⟨t.val % 16, by omega⟩ (by show t.val = t.val / 16 * 16 + t.val % 16; omega) y
    ⟨(y 0 : ℕ), hy0⟩ ⟨(y 1 : ℕ) / 256, by omega⟩ ⟨(y 1 : ℕ) % 256, by omega⟩ rfl (by show (y 1 : ℕ) = (y 1 : ℕ) / 256 * 256 + (y 1 : ℕ) % 256; omega)).trans ?_
  refine congrArg (Cert.ReferenceIdeal.Step.R_main_v105 (iter (F := Ideal) (arg m c) 16) (arg m c) (m ((c : Thread nD τ).loc main_arg1)) (m ((c : Thread nD τ).loc main_arg2))) ?_
  blk_ext [idx t]

/-- The last state. -/
theorem final_state : (dats m 0 c).arrAt 13 cfg0.N
    = ((iter (F := Ideal) (arg m c) 16).main_v71_4 : FVec Ideal Cert.ReferenceIdeal.S8x8x128x256 .f32) := by
  refine (dats m 0 c).arrAt_eq_of_covers 13 _ (by decide +kernel) fun t hf y => ?_
  have h15 : t.val % 16 = 15 := (flush0_13 t).mp hf
  blk_simp
  rw [after0_13]
  have ht : t.val < 128 := t.isLt
  have hy : y = ix4 0 (y 1) (y 2) (y 3) := by blk_ext []
  rw [hy]
  refine (state_at m c ⟨t.val / 16, by omega⟩ 15 (by omega) t (by show t.val = t.val / 16 * 16 + 15; omega) (y 1) (y 2) (y 3)).trans ?_
  refine congrArg ((iter (F := Ideal) (arg m c) 16).main_v71_4) ?_
  blk_ext [idx t]

end Cert.KernelIdeal.Block
end
-- ==== Proof.ExpertsRun.lean ====
/-
  The body of the experts' kernel, run once on each of its four control paths: a tile in use or not, the first half of
  the inner columns or the second.
-/
module

public import proofs.«01_k».proof.Proof.Gen.Kernel2Ideal.Skeleton
public import proofs.«01_k».proof.Proof.Gen.Kernel2Ideal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Kernel2Ideal.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

abbrev tbM0_0 : Memref sig .tc .smem S72 .i32 := Memref.whole main_arg1
abbrev tbM0_1 : Memref sig .tc .smem S1 .i32 := Memref.whole main_arg2
abbrev scM0_0 : Memref sig .tc .vmem S512x1024 .bf16 := Memref.whole cc0_scratch0
abbrev scM0_1 : Memref sig .tc .vmem S512x1024 .f32 := Memref.whole cc0_scratch1

/-- The number of tiles in use, as the body reads it. -/
abbrev word (T1 : S1.Idx → Elt F .i32) : BitVec 32 :=
  View.readAt (Elt F) (tbM0_1).view (Rect.unit (s := S1) ![0] S1.size inb_S1_S1_0).toLoadRect T1 (Shape.Idx.first (numel1_S1.symm ▸ Nat.one_pos))

set_option backward.proofsInPublic true in
set_option maxHeartbeats 8000000 in
noncomputable def kernelRun0_A (c : Dev nD) (i : grid0.Coords) (arg4 : Memref sig .tc .vmem S512x1024 .f32) (harg4 : arg4.IsWhole) (arg5 : Memref sig .tc .vmem S1x1024x1792 .f32) (harg5 : arg5.IsWhole) (arg6 : Memref sig .tc .vmem S1x1024x1792 .f32) (harg6 : arg6.IsWhole) (arg7 : Memref sig .tc .vmem S1x1792x1024 .f32) (harg7 : arg7.IsWhole) (arg8 : Memref sig .tc .vmem S512x1024 .f32) (harg8 : arg8.IsWhole) (T0 : (S72.Idx → Elt F .i32)) (T1 : (S1.Idx → Elt F .i32))
     (x0 : (S512x1024.Idx → Elt F .f32)) (x1 : (S1x1024x1792.Idx → Elt F .f32)) (x2 : (S1x1024x1792.Idx → Elt F .f32)) (x3 : (S1x1792x1024.Idx → Elt F .f32)) (hc0 : (Scalar.cmpi .ne (Scalar.extui (Scalar.andi (Scalar.cmpi .slt (BitVec.ofNat 32 (i 0).val) (word T1)) (Scalar.cmpi .eq (BitVec.ofNat 32 (i 1).val) 0#32))) 0#32) = 1#1) (hc1 : (Scalar.cmpi .ne (Scalar.extui (Scalar.cmpi .slt (BitVec.ofNat 32 (i 0).val) (word T1))) 0#32) = 1#1) (k0_h3 : ¬(k0_cond3 i (word T1) = 1#1)) (k0_h4 : ¬(k0_cond4 i (word T1) = 1#1)) :
    Σ' (out0 : Buf (Elt F) ((c : Thread nD τ).loc cc0_scratch0)), { out1 : Buf (Elt F) ((c : Thread nD τ).loc cc0_scratch1) //
      ∀ (y4 : (S512x1024.Idx → Elt F .f32)) (xa0 : Buf (Elt F) ((c : Thread nD τ).loc cc0_scratch0)) (xa1 : Buf (Elt F) ((c : Thread nD τ).loc cc0_scratch1)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ owns (c : Thread nD τ) arg8 fullShare y4
          ∗ (scM0_0.view.loc (c : Thread nD τ) ↦{fullShare} xa0)
          ∗ (scM0_1.view.loc (c : Thread nD τ) ↦{fullShare} xa1)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ owns (c : Thread nD τ) arg8 fullShare y4
              ∗ (scM0_0.view.loc (c : Thread nD τ) ↦{fullShare} out0)
              ∗ (scM0_1.view.loc (c : Thread nD τ) ↦{fullShare} out1)) -∗ K ⟨⟩))
          ⊢ wp frame (wpE (defs₀ (F := F)) Variants.none c none) Set.univ (cc0_moe_experts i tbM0_0 (Memref.isWhole_whole _) tbM0_1 (Memref.isWhole_whole _) arg4 harg4 arg5 harg5 arg6 harg6 arg7 harg7 arg8 harg8 scM0_0 (Memref.isWhole_whole _) scM0_1 (Memref.isWhole_whole _)) K } :=
  ⟨_, _, fun (y4 : (S512x1024.Idx → Elt F .f32)) (xa0 : Buf (Elt F) ((c : Thread nD τ).loc cc0_scratch0)) (xa1 : Buf (Elt F) ((c : Thread nD τ).loc cc0_scratch1)) K => by
    unfold owns
    rw [cc0_moe_experts_eq_skeleton]; unfold cc0_moe_experts_skel
    iintro ⟨H0, H1, H2, H3, HT0, HT1, ⟨%f4, %hf4, HO4⟩, HS0, HS1, Hk⟩
    obtain rfl := harg8.eq_unread hf4
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = Scalar.cmpi = _; exact hc1) | (guard_target = ¬(k0_cond3 _ _ = _); exact k0_h3) | (guard_target = ¬(k0_cond4 _ _ = _); exact k0_h4))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; · ipureintro; exact harg8.read_unread _
      iexact HO4
    isplitl [HS0]; · iexact HS0
    iexact HS1⟩

set_option backward.proofsInPublic true in
set_option maxHeartbeats 8000000 in
noncomputable def kernelRun0_B (c : Dev nD) (i : grid0.Coords) (arg4 : Memref sig .tc .vmem S512x1024 .f32) (harg4 : arg4.IsWhole) (arg5 : Memref sig .tc .vmem S1x1024x1792 .f32) (harg5 : arg5.IsWhole) (arg6 : Memref sig .tc .vmem S1x1024x1792 .f32) (harg6 : arg6.IsWhole) (arg7 : Memref sig .tc .vmem S1x1792x1024 .f32) (harg7 : arg7.IsWhole) (arg8 : Memref sig .tc .vmem S512x1024 .f32) (harg8 : arg8.IsWhole) (T0 : (S72.Idx → Elt F .i32)) (T1 : (S1.Idx → Elt F .i32))
     (x0 : (S512x1024.Idx → Elt F .f32)) (x1 : (S1x1024x1792.Idx → Elt F .f32)) (x2 : (S1x1024x1792.Idx → Elt F .f32)) (x3 : (S1x1792x1024.Idx → Elt F .f32)) (xa0 : Buf (Elt F) ((c : Thread nD τ).loc cc0_scratch0)) (xa1 : Buf (Elt F) ((c : Thread nD τ).loc cc0_scratch1)) (hc0 : ¬((Scalar.cmpi .ne (Scalar.extui (Scalar.andi (Scalar.cmpi .slt (BitVec.ofNat 32 (i 0).val) (word T1)) (Scalar.cmpi .eq (BitVec.ofNat 32 (i 1).val) 0#32))) 0#32) = 1#1)) (hc1 : (Scalar.cmpi .ne (Scalar.extui (Scalar.cmpi .slt (BitVec.ofNat 32 (i 0).val) (word T1))) 0#32) = 1#1) (k0_h3 : k0_cond3 i (word T1) = 1#1) (k0_h4 : ¬(k0_cond4 i (word T1) = 1#1)) :
    Σ' (out0 : List (View.Piece (Elt F) S512x1024 .f32)) (out1 : Buf (Elt F) ((c : Thread nD τ).loc cc0_scratch0)), { out2 : Buf (Elt F) ((c : Thread nD τ).loc cc0_scratch1) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ (∃ d, owns (c : Thread nD τ) arg8 fullShare d)
          ∗ (scM0_0.view.loc (c : Thread nD τ) ↦{fullShare} xa0)
          ∗ (scM0_1.view.loc (c : Thread nD τ) ↦{fullShare} xa1)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ (∃ f, arg8.view.loc (c : Thread nD τ) ↦[arg8.view.set]{fullShare} arg8.view.writes (Elt F) f out0)
              ∗ (scM0_0.view.loc (c : Thread nD τ) ↦{fullShare} out1)
              ∗ (scM0_1.view.loc (c : Thread nD τ) ↦{fullShare} out2)) -∗ K ⟨⟩))
          ⊢ wp frame (wpE (defs₀ (F := F)) Variants.none c none) Set.univ (cc0_moe_experts i tbM0_0 (Memref.isWhole_whole _) tbM0_1 (Memref.isWhole_whole _) arg4 harg4 arg5 harg5 arg6 harg6 arg7 harg7 arg8 harg8 scM0_0 (Memref.isWhole_whole _) scM0_1 (Memref.isWhole_whole _)) K } :=
  ⟨_, _, _, fun K => by
    unfold owns
    rw [cc0_moe_experts_eq_skeleton]; unfold cc0_moe_experts_skel
    iintro ⟨H0, H1, H2, H3, HT0, HT1, ⟨%d4, %f4, -, HO4⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = Scalar.cmpi = _; exact hc1) | (guard_target = k0_cond3 _ _ = _; exact k0_h3) | (guard_target = ¬(k0_cond4 _ _ = _); exact k0_h4))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    iexact HS1⟩

set_option backward.proofsInPublic true in
set_option maxHeartbeats 8000000 in
noncomputable def kernelRun0_C (c : Dev nD) (i : grid0.Coords) (arg4 : Memref sig .tc .vmem S512x1024 .f32) (harg4 : arg4.IsWhole) (arg5 : Memref sig .tc .vmem S1x1024x1792 .f32) (harg5 : arg5.IsWhole) (arg6 : Memref sig .tc .vmem S1x1024x1792 .f32) (harg6 : arg6.IsWhole) (arg7 : Memref sig .tc .vmem S1x1792x1024 .f32) (harg7 : arg7.IsWhole) (arg8 : Memref sig .tc .vmem S512x1024 .f32) (harg8 : arg8.IsWhole) (T0 : (S72.Idx → Elt F .i32)) (T1 : (S1.Idx → Elt F .i32))
     (x0 : (S512x1024.Idx → Elt F .f32)) (x1 : (S1x1024x1792.Idx → Elt F .f32)) (x2 : (S1x1024x1792.Idx → Elt F .f32)) (x3 : (S1x1792x1024.Idx → Elt F .f32)) (xa0 : Buf (Elt F) ((c : Thread nD τ).loc cc0_scratch0)) (xa1 : Buf (Elt F) ((c : Thread nD τ).loc cc0_scratch1)) (hc0 : ¬((Scalar.cmpi .ne (Scalar.extui (Scalar.andi (Scalar.cmpi .slt (BitVec.ofNat 32 (i 0).val) (word T1)) (Scalar.cmpi .eq (BitVec.ofNat 32 (i 1).val) 0#32))) 0#32) = 1#1)) (hc1 : ¬((Scalar.cmpi .ne (Scalar.extui (Scalar.cmpi .slt (BitVec.ofNat 32 (i 0).val) (word T1))) 0#32) = 1#1)) (k0_h3 : ¬(k0_cond3 i (word T1) = 1#1)) (k0_h4 : ¬(k0_cond4 i (word T1) = 1#1)) :
    Σ' (out0 : Buf (Elt F) ((c : Thread nD τ).loc cc0_scratch0)), { out1 : Buf (Elt F) ((c : Thread nD τ).loc cc0_scratch1) //
      ∀ (y4 : (S512x1024.Idx → Elt F .f32)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ owns (c : Thread nD τ) arg8 fullShare y4
          ∗ (scM0_0.view.loc (c : Thread nD τ) ↦{fullShare} xa0)
          ∗ (scM0_1.view.loc (c : Thread nD τ) ↦{fullShare} xa1)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ owns (c : Thread nD τ) arg8 fullShare y4
              ∗ (scM0_0.view.loc (c : Thread nD τ) ↦{fullShare} out0)
              ∗ (scM0_1.view.loc (c : Thread nD τ) ↦{fullShare} out1)) -∗ K ⟨⟩))
          ⊢ wp frame (wpE (defs₀ (F := F)) Variants.none c none) Set.univ (cc0_moe_experts i tbM0_0 (Memref.isWhole_whole _) tbM0_1 (Memref.isWhole_whole _) arg4 harg4 arg5 harg5 arg6 harg6 arg7 harg7 arg8 harg8 scM0_0 (Memref.isWhole_whole _) scM0_1 (Memref.isWhole_whole _)) K } :=
  ⟨_, _, fun (y4 : (S512x1024.Idx → Elt F .f32)) K => by
    unfold owns
    rw [cc0_moe_experts_eq_skeleton]; unfold cc0_moe_experts_skel
    iintro ⟨H0, H1, H2, H3, HT0, HT1, ⟨%f4, %hf4, HO4⟩, HS0, HS1, Hk⟩
    obtain rfl := harg8.eq_unread hf4
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(Scalar.cmpi = _); exact hc1) | (guard_target = ¬(k0_cond3 _ _ = _); exact k0_h3) | (guard_target = ¬(k0_cond4 _ _ = _); exact k0_h4))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; · ipureintro; exact harg8.read_unread _
      iexact HO4
    isplitl [HS0]; · iexact HS0
    iexact HS1⟩

set_option backward.proofsInPublic true in
set_option maxHeartbeats 8000000 in
noncomputable def kernelRun0_D (c : Dev nD) (i : grid0.Coords) (arg4 : Memref sig .tc .vmem S512x1024 .f32) (harg4 : arg4.IsWhole) (arg5 : Memref sig .tc .vmem S1x1024x1792 .f32) (harg5 : arg5.IsWhole) (arg6 : Memref sig .tc .vmem S1x1024x1792 .f32) (harg6 : arg6.IsWhole) (arg7 : Memref sig .tc .vmem S1x1792x1024 .f32) (harg7 : arg7.IsWhole) (arg8 : Memref sig .tc .vmem S512x1024 .f32) (harg8 : arg8.IsWhole) (T0 : (S72.Idx → Elt F .i32)) (T1 : (S1.Idx → Elt F .i32))
     (x0 : (S512x1024.Idx → Elt F .f32)) (x1 : (S1x1024x1792.Idx → Elt F .f32)) (x2 : (S1x1024x1792.Idx → Elt F .f32)) (x3 : (S1x1792x1024.Idx → Elt F .f32)) (xa0 : Buf (Elt F) ((c : Thread nD τ).loc cc0_scratch0)) (xa1 : Buf (Elt F) ((c : Thread nD τ).loc cc0_scratch1)) (hc0 : ¬((Scalar.cmpi .ne (Scalar.extui (Scalar.andi (Scalar.cmpi .slt (BitVec.ofNat 32 (i 0).val) (word T1)) (Scalar.cmpi .eq (BitVec.ofNat 32 (i 1).val) 0#32))) 0#32) = 1#1)) (hc1 : ¬((Scalar.cmpi .ne (Scalar.extui (Scalar.cmpi .slt (BitVec.ofNat 32 (i 0).val) (word T1))) 0#32) = 1#1)) (k0_h3 : ¬(k0_cond3 i (word T1) = 1#1)) (k0_h4 : k0_cond4 i (word T1) = 1#1) :
    Σ' (out0 : List (View.Piece (Elt F) S512x1024 .f32)) (out1 : Buf (Elt F) ((c : Thread nD τ).loc cc0_scratch0)), { out2 : Buf (Elt F) ((c : Thread nD τ).loc cc0_scratch1) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ (∃ d, owns (c : Thread nD τ) arg8 fullShare d)
          ∗ (scM0_0.view.loc (c : Thread nD τ) ↦{fullShare} xa0)
          ∗ (scM0_1.view.loc (c : Thread nD τ) ↦{fullShare} xa1)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ (∃ f, arg8.view.loc (c : Thread nD τ) ↦[arg8.view.set]{fullShare} arg8.view.writes (Elt F) f out0)
              ∗ (scM0_0.view.loc (c : Thread nD τ) ↦{fullShare} out1)
              ∗ (scM0_1.view.loc (c : Thread nD τ) ↦{fullShare} out2)) -∗ K ⟨⟩))
          ⊢ wp frame (wpE (defs₀ (F := F)) Variants.none c none) Set.univ (cc0_moe_experts i tbM0_0 (Memref.isWhole_whole _) tbM0_1 (Memref.isWhole_whole _) arg4 harg4 arg5 harg5 arg6 harg6 arg7 harg7 arg8 harg8 scM0_0 (Memref.isWhole_whole _) scM0_1 (Memref.isWhole_whole _)) K } :=
  ⟨_, _, _, fun K => by
    unfold owns
    rw [cc0_moe_experts_eq_skeleton]; unfold cc0_moe_experts_skel
    iintro ⟨H0, H1, H2, H3, HT0, HT1, ⟨%d4, %f4, -, HO4⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(Scalar.cmpi = _); exact hc1) | (guard_target = ¬(k0_cond3 _ _ = _); exact k0_h3) | (guard_target = k0_cond4 _ _ = _; exact k0_h4))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    iexact HS1⟩

end Cert.Kernel2Ideal.Experts

end
-- ==== Proof.ExpertsLeft.lean ====
/-
What the four paths of the experts' body leave in the scratches and in the output's block.
-/
module

public import proofs.«01_k».proof.Proof.ExpertsRun
public import Idealize.ShloMosaic.Lib.Pipeline.ValueKit

@[expose] public section

set_option maxRecDepth 16384
noncomputable section

namespace Cert.Kernel2Ideal.Experts

open Cert.Kernel2Ideal Cert.Kernel2Ideal.Gen
open Idealize.ShloMosaic
open Idealize.ShloMosaic.TcCoe Idealize.ShloMosaic.Tactic
open Idealize.SL Idealize.SL.RA Idealize.SL.BI
open Idealize.SL.Sem

variable {F : FTy → Type} [FloatOps F]

/-- A store of the whole shape, last, is what the view then reads. -/
theorem read_last {Val : EltTy → Type} {sig : RefSig} {κ : Kind} {sp : Space} {S : Shape} {e : EltTy} (v : View sig κ sp S e) (f : v.ty.Contents Val)
    {off : Fin S.rank → ℕ} (h : ∀ a, off a = 0) (inb : ∀ a, off a + S.size a ≤ S.size a) (w : S.Idx → Val e)
    (L : List (View.Piece Val S e)) :
    v.read Val (v.writes Val f (⟨Rect.unit off S.size inb, w⟩ :: L)) = w := by
  funext y
  have hr := View.read_writes_cons_emb (v := v) (f := f) (Rect.unit off S.size inb) w L y
  have hy : (Rect.unit off S.size inb).emb y = y := by
    funext a
    refine Fin.ext ?_
    rw [ValueKit.rect_emb_unit_val, h a, Nat.zero_add]
  rwa [hy] at hr

/-! ## What the paths leave -/

section
variable (c : Dev nD) (i : grid0.Coords) (a4 : Memref sig .tc .vmem S512x1024 .f32) (h4 : a4.IsWhole) (a5 : Memref sig .tc .vmem S1x1024x1792 .f32) (h5 : a5.IsWhole)
  (a6 : Memref sig .tc .vmem S1x1024x1792 .f32) (h6 : a6.IsWhole) (a7 : Memref sig .tc .vmem S1x1792x1024 .f32) (h7 : a7.IsWhole) (a8 : Memref sig .tc .vmem S512x1024 .f32) (h8 : a8.IsWhole)
  (T0 : S72.Idx → Elt F .i32) (T1 : S1.Idx → Elt F .i32)
  (x0 : S512x1024.Idx → Elt F .f32) (x1 x2 : S1x1024x1792.Idx → Elt F .f32) (x3 : S1x1792x1024.Idx → Elt F .f32)

/-- The first half of a tile in use leaves the rounded rows … -/
theorem runA_rows (g0 g1 g2 g3) : (kernelRun0_A (F := F) c i a4 h4 a5 h5 a6 h6 a7 h7 a8 h8 T0 T1 x0 x1 x2 x3 g0 g1 g2 g3).1 = k0_pay1 x0 := by
  refine (View.read_whole (Val := Elt F) cc0_scratch0 _).symm.trans ?_
  unfold kernelRun0_A; dsimp only; frame_out [View.read_rep]
  exact View.canon_cons_unit_lit (S := S512x1024) inb_S512x1024_S512x1024_0_0 _ _ (by decide)

/-- … and the first half's sum. -/
theorem runA_acc (g0 g1 g2 g3) : (kernelRun0_A (F := F) c i a4 h4 a5 h5 a6 h6 a7 h7 a8 h8 T0 T1 x0 x1 x2 x3 g0 g1 g2 g3).2.1 = k0_pay3 k0_pay2 (k0_pay1 x0) x1 x2 x3 := by
  refine (View.read_whole (Val := Elt F) cc0_scratch1 _).symm.trans ?_
  unfold kernelRun0_A; dsimp only; frame_out [View.read_rep]
  exact View.canon_cons_unit_lit (S := S512x1024) inb_S512x1024_S512x1024_0_0 _ _ (by decide)

/-- The second half of a tile in use writes the sum of both. -/
theorem runB_out (s0 s1 g0 g1 g2 g3) (f) :
    a8.view.read (Elt F) (a8.view.writes (Elt F) f (kernelRun0_B (F := F) c i a4 h4 a5 h5 a6 h6 a7 h7 a8 h8 T0 T1 x0 x1 x2 x3 s0 s1 g0 g1 g2 g3).1) = k0_pay3 s1 s0 x1 x2 x3 := by
  unfold kernelRun0_B; dsimp only; frame_out
  refine (read_last _ _ (by decide) _ _ _).trans ?_
  simp only [View.read_rep, View.read_whole]

/-- The second half of a tile not in use writes zeros. -/
theorem runD_out (s0 s1 g0 g1 g2 g3) (f) :
    a8.view.read (Elt F) (a8.view.writes (Elt F) f (kernelRun0_D (F := F) c i a4 h4 a5 h5 a6 h6 a7 h7 a8 h8 T0 T1 x0 x1 x2 x3 s0 s1 g0 g1 g2 g3).1) = k0_pay4 (F := F) := by
  unfold kernelRun0_D; dsimp only; frame_out
  refine (read_last _ _ (by decide) _ _ _).trans ?_
  rfl
end

end Cert.Kernel2Ideal.Experts

end
-- ==== Proof.ExpertsFrame.lean ====
/-
  The experts' pipeline at any tables whose experts exist: its data, the body's obligation by control path, and the run
  of the whole program.
-/
module

public import proofs.«01_k».proof.Proof.ExpertsLeft

@[expose] public section

set_option maxRecDepth 16384
set_option Elab.async false

noncomputable section

namespace Cert.Kernel2Ideal.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (a : (pcfg0 (F := F)).Adm)

/-- The two tables: the expert of each tile, and how many tiles are in use. -/
abbrev T0 : S72.Idx → Elt F .i32 := a.1 0
abbrev T1 : S1.Idx → Elt F .i32 := a.1 1

abbrev cfgA : Pipeline.Cfg sig Λ₀ := cfg0 (F := F) a
abbrev pcs : Fin 1 → Pipeline.Cfg sig Λ₀ := Pipeline.pin (pcfgs (F := F)) fun _ => a

abbrev EP : Emb (UR sig nD τ) 𝕄 := emb₁

variable (m : (ℓ : Loc nD τ sig) → Buf (Elt F) ℓ) (ρ : Dev nD → PrngReg)

/-! ## A point's coordinates and buffers -/

abbrev crd (t : Fin (cfgA a).N) : (cfgA a).grid.Coords := (cfgA a).grid.coords t

abbrev ms0_0 (t : Fin (cfgA a).N) : Memref sig .tc .vmem S512x1024 .f32 := spec0_0.stage ((cfgA a).slots t (0 : Fin 5))
abbrev hs0_0 (t : Fin (cfgA a).N) : (ms0_0 a t).IsWhole := hstage0_0 (((cfgA a).slots t (0 : Fin 5)).cast nbuf0_0)
abbrev ms0_1 (t : Fin (cfgA a).N) : Memref sig .tc .vmem S1x1024x1792 .f32 := spec0_1.stage ((cfgA a).slots t (1 : Fin 5))
abbrev hs0_1 (t : Fin (cfgA a).N) : (ms0_1 a t).IsWhole := hstage0_1 (((cfgA a).slots t (1 : Fin 5)).cast nbuf0_1)
abbrev ms0_2 (t : Fin (cfgA a).N) : Memref sig .tc .vmem S1x1024x1792 .f32 := spec0_2.stage ((cfgA a).slots t (2 : Fin 5))
abbrev hs0_2 (t : Fin (cfgA a).N) : (ms0_2 a t).IsWhole := hstage0_2 (((cfgA a).slots t (2 : Fin 5)).cast nbuf0_2)
abbrev ms0_3 (t : Fin (cfgA a).N) : Memref sig .tc .vmem S1x1792x1024 .f32 := spec0_3.stage ((cfgA a).slots t (3 : Fin 5))
abbrev hs0_3 (t : Fin (cfgA a).N) : (ms0_3 a t).IsWhole := hstage0_3 (((cfgA a).slots t (3 : Fin 5)).cast nbuf0_3)
abbrev ms0_4 (t : Fin (cfgA a).N) : Memref sig .tc .vmem S512x1024 .f32 := spec0_4.stage ((cfgA a).slots t (4 : Fin 5))
abbrev hs0_4 (t : Fin (cfgA a).N) : (ms0_4 a t).IsWhole := hstage0_4 (((cfgA a).slots t (4 : Fin 5)).cast nbuf0_4)

theorem N_A : (cfgA a).N = 144 := N_0

theorem crd0 (t : Fin (cfgA a).N) : ((crd a t) 0).val = t.val / 2 :=
  (by decide +kernel : ∀ t : Fin grid0.N, ((grid0.coords t) 0).val = t.val / 2) t
theorem crd1 (t : Fin (cfgA a).N) : ((crd a t) 1).val = t.val % 2 :=
  (by decide +kernel : ∀ t : Fin grid0.N, ((grid0.coords t) 1).val = t.val % 2) t

/-- Window `w`'s block at point `t`, read off its array at launch. -/
def iblk (c : Dev nD) (w : Fin (cfgA a).W) (t : Fin (cfgA a).N) : (((cfgA a).win w).xblock (crd a t)).Idx → Elt F ((cfgA a).win w).elt :=
  (((cfgA a).win w).blk t).view.read (Elt F) ((s₀ m ρ).mem (((cfgA a).win w).arr.view.loc (c : Thread nD τ)))

/-! ## The control -/

/-- Tile `n` is in use. -/
abbrev act (n : ℕ) : Prop := Scalar.cmpi .slt (BitVec.ofNat 32 n) (word (F := F) (T1 a)) = 1#1

/-- The body's four conditions at `i`, with `w` tiles in use. -/
abbrev G0 (i : grid0.Coords) (w : BitVec 32) : Prop := (Scalar.cmpi .ne (Scalar.extui (Scalar.andi (Scalar.cmpi .slt (BitVec.ofNat 32 (i 0).val) w) (Scalar.cmpi .eq (BitVec.ofNat 32 (i 1).val) 0#32))) 0#32) = 1#1
abbrev G1 (i : grid0.Coords) (w : BitVec 32) : Prop := (Scalar.cmpi .ne (Scalar.extui (Scalar.cmpi .slt (BitVec.ofNat 32 (i 0).val) w)) 0#32) = 1#1

theorem bit_cases (b : BitVec 1) : b = 1#1 ∨ b = 0#1 := by revert b; decide
theorem bit_zero {b : BitVec 1} (h : ¬b = 1#1) : b = 0#1 := (bit_cases b).resolve_left h

theorem ctl_A (i : grid0.Coords) (w : BitVec 32) (hs : Scalar.cmpi .slt (BitVec.ofNat 32 (i 0).val) w = 1#1) (hj : (i 1).val = 0) :
    G0 i w ∧ G1 i w ∧ ¬k0_cond3 i w = 1#1 ∧ ¬k0_cond4 i w = 1#1 := by
  unfold k0_cond3 k0_cond4 G0 G1; simp only [hs, hj]; decide
theorem ctl_B (i : grid0.Coords) (w : BitVec 32) (hs : Scalar.cmpi .slt (BitVec.ofNat 32 (i 0).val) w = 1#1) (hj : (i 1).val = 1) :
    ¬G0 i w ∧ G1 i w ∧ k0_cond3 i w = 1#1 ∧ ¬k0_cond4 i w = 1#1 := by
  unfold k0_cond3 k0_cond4 G0 G1; simp only [hs, hj]; decide
theorem ctl_C (i : grid0.Coords) (w : BitVec 32) (hs : ¬Scalar.cmpi .slt (BitVec.ofNat 32 (i 0).val) w = 1#1) (hj : (i 1).val = 0) :
    ¬G0 i w ∧ ¬G1 i w ∧ ¬k0_cond3 i w = 1#1 ∧ ¬k0_cond4 i w = 1#1 := by
  unfold k0_cond3 k0_cond4 G0 G1; simp only [bit_zero hs, hj]; decide
theorem ctl_D (i : grid0.Coords) (w : BitVec 32) (hs : ¬Scalar.cmpi .slt (BitVec.ofNat 32 (i 0).val) w = 1#1) (hj : (i 1).val = 1) :
    ¬G0 i w ∧ ¬G1 i w ∧ ¬k0_cond3 i w = 1#1 ∧ k0_cond4 i w = 1#1 := by
  unfold k0_cond3 k0_cond4 G0 G1; simp only [bit_zero hs, hj]; decide

/-- The output's buffer is stored at the second halves alone, … -/
theorem idle_4 (t : Fin (cfgA a).N) : (cfgA a).idle (4 : Fin 5) ((cfgA a).grid.coords t) = decide (t.val % 2 = 0) := by
  show (!(k0_cond3 (crd a t) (a.1.atD 1 ![0]) == 1#1) && !(k0_cond4 (crd a t) (a.1.atD 1 ![0]) == 1#1)) = _
  have h1 := crd1 a t
  by_cases hs : Scalar.cmpi .slt (BitVec.ofNat 32 ((crd a t) 0).val) (a.1.atD 1 ![0]) = 1#1
  · rcases Nat.mod_two_eq_zero_or_one t.val with h | h
    · obtain ⟨-, -, h3, h4⟩ := ctl_A (crd a t) _ hs (h1.trans h)
      simp [h3, h4, h]
    · obtain ⟨-, -, h3, h4⟩ := ctl_B (crd a t) _ hs (h1.trans h)
      simp [h3, h4, h]
  · rcases Nat.mod_two_eq_zero_or_one t.val with h | h
    · obtain ⟨-, -, h3, h4⟩ := ctl_C (crd a t) _ hs (h1.trans h)
      simp [h3, h4, h]
    · obtain ⟨-, -, h3, h4⟩ := ctl_D (crd a t) _ hs (h1.trans h)
      simp [h3, h4, h]

/-- … and written back there, … -/
theorem flush_4 (t : Fin (cfgA a).N) : ((cfgA a).win (4 : Fin 5)).flush t = decide (t.val % 2 = 1) :=
  (by decide +kernel : ∀ t : Fin grid0.N, spec0_4.flushAt cc0_transform_4 t = decide (t.val % 2 = 1)) t

/-- … so that it never holds anything when the body starts. -/
theorem fresh_4 (n : ℕ) (h : n ≤ (cfgA a).N) : (cfgA a).fresh (4 : Fin 5) n = true :=
  Pipeline.Cfg.fresh_tab (cfgA a) (4 : Fin 5) (fun _ => true) rfl (fun t => by
    rw [flush_4, idle_4]
    rcases Nat.mod_two_eq_zero_or_one t.val with h | h <;> simp [h]) n h

/-! ## What the body computes -/

/-- The tile's rows, rounded. -/
def rows0 (c : Dev nD) (t : Fin (cfgA a).N) : Vec F S512x1024 .bf16 := k0_pay1 (iblk a m ρ c (0 : Fin 5) t)
/-- The sum of the first half of the inner columns. -/
def acc1 (c : Dev nD) (t : Fin (cfgA a).N) : Vec F S512x1024 .f32 :=
  k0_pay3 k0_pay2 (rows0 a m ρ c t) (iblk a m ρ c (1 : Fin 5) t) (iblk a m ρ c (2 : Fin 5) t) (iblk a m ρ c (3 : Fin 5) t)
/-- The point before. -/
def prev (t : Fin (cfgA a).N) : Fin (cfgA a).N := ⟨t.val - 1, Nat.lt_of_le_of_lt (Nat.sub_le _ _) t.isLt⟩
open Classical in
/-- The block written back after the second half at `t`. -/
def out4 (c : Dev nD) (t : Fin (cfgA a).N) : Vec F S512x1024 .f32 :=
  if act a (t.val / 2) then
    k0_pay3 (acc1 a m ρ c (prev a t)) (rows0 a m ρ c (prev a t)) (iblk a m ρ c (1 : Fin 5) t) (iblk a m ρ c (2 : Fin 5) t) (iblk a m ρ c (3 : Fin 5) t)
  else k0_pay4

theorem before_lt {N : ℕ} (t : Fin (N + 1)) (h : t.val % 2 = 1) : t.val - 1 < N := by have := t.isLt; omega

/-- Before a second half of a tile in use the scratches hold what the first half left. -/
def Phi (m : (ℓ : Loc nD τ sig) → Buf (Elt F) ℓ) (ρ : Dev nD → PrngReg) (c : Dev nD) (t : Fin ((cfgA a).N + 1)) : sProp 𝕄 :=
  iprop((∃ s : Buf (Elt F) ((c : Thread nD τ).loc cc0_scratch0), ⌜∀ h : t.val % 2 = 1, act a ((t.val - 1) / 2) → s = rows0 a m ρ c ⟨t.val - 1, before_lt t h⟩⌝ ∗ (scM0_0.view.loc (c : Thread nD τ) ↦{fullShare} s))
    ∗ (∃ s : Buf (Elt F) ((c : Thread nD τ).loc cc0_scratch1), ⌜∀ h : t.val % 2 = 1, act a ((t.val - 1) / 2) → s = acc1 a m ρ c ⟨t.val - 1, before_lt t h⟩⌝ ∗ (scM0_1.view.loc (c : Thread nD τ) ↦{fullShare} s))
    ∗ (tbM0_0.view.loc (c : Thread nD τ) ↦{fullShare.right} T0 a) ∗ (tbM0_1.view.loc (c : Thread nD τ) ↦{fullShare.right} T1 a))

def dats (_ : Fin 1) (c : Dev nD) : Dat τ (Elt F) Unit ℕ (UR sig nD τ) ℕ (cfgA a) c where
  A w := (s₀ m ρ).mem (((cfgA a).win w).arr.view.loc (c : Thread nD τ))
  after w t := match w with
    | ⟨0, _⟩ => iblk a m ρ c (0 : Fin 5) t
    | ⟨1, _⟩ => iblk a m ρ c (1 : Fin 5) t
    | ⟨2, _⟩ => iblk a m ρ c (2 : Fin 5) t
    | ⟨3, _⟩ => iblk a m ρ c (3 : Fin 5) t
    | ⟨4, _⟩ => out4 a m ρ c t
  Φ t := Phi a m ρ c t
  q _ := fullShare
  owed _ := 0

theorem after0_0 (c : Dev nD) (t : Fin (cfgA a).N) : (dats a m ρ 0 c).after (0 : Fin 5) t = iblk a m ρ c (0 : Fin 5) t := rfl
theorem after0_1 (c : Dev nD) (t : Fin (cfgA a).N) : (dats a m ρ 0 c).after (1 : Fin 5) t = iblk a m ρ c (1 : Fin 5) t := rfl
theorem after0_2 (c : Dev nD) (t : Fin (cfgA a).N) : (dats a m ρ 0 c).after (2 : Fin 5) t = iblk a m ρ c (2 : Fin 5) t := rfl
theorem after0_3 (c : Dev nD) (t : Fin (cfgA a).N) : (dats a m ρ 0 c).after (3 : Fin 5) t = iblk a m ρ c (3 : Fin 5) t := rfl
theorem after0_4 (c : Dev nD) (t : Fin (cfgA a).N) : (dats a m ρ 0 c).after (4 : Fin 5) t = out4 a m ρ c t := rfl

theorem before0_0 (c : Dev nD) (t : Fin (cfgA a).N) (d) : (dats a m ρ 0 c).before (0 : Fin 5) t d = iblk a m ρ c (0 : Fin 5) t :=
  ((dats a m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA a).N) (d) : (dats a m ρ 0 c).before (1 : Fin 5) t d = iblk a m ρ c (1 : Fin 5) t :=
  ((dats a m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA a).N) (d) : (dats a m ρ 0 c).before (2 : Fin 5) t d = iblk a m ρ c (2 : Fin 5) t :=
  ((dats a m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA a).N) (d) : (dats a m ρ 0 c).before (3 : Fin 5) t d = iblk a m ρ c (3 : Fin 5) t :=
  ((dats a m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

theorem before0_4 (c : Dev nD) (t : Fin (cfgA a).N) (d) : (dats a m ρ 0 c).before (4 : Fin 5) t d = d := by
  rw [(dats a m ρ 0 c).before_out_traj (4 : Fin 5) rfl (fun _ _ => rfl)
    (fun t _ _ hf => by rw [fresh_4 a t.val (Nat.le_of_lt t.isLt)] at hf; exact absurd hf (by decide)) t.val t rfl d,
    fresh_4 a t.val (Nat.le_of_lt t.isLt)]
  rfl

/-! ## The body's obligation -/

abbrev bodyAt0 (t : Fin (cfgA a).N) : Prog (TpuEff nD τ sig (Elt F) Λ₀ .tc) PUnit :=
  cc0_moe_experts (crd a t) (Memref.whole main_arg1) (Memref.isWhole_whole _) (Memref.whole main_arg2) (Memref.isWhole_whole _) (ms0_0 a t) (hs0_0 a t) (ms0_1 a t) (hs0_1 a t) (ms0_2 a t) (hs0_2 a t) (ms0_3 a t) (hs0_3 a t) (ms0_4 a t) (hs0_4 a t) (Memref.whole cc0_scratch0) (Memref.isWhole_whole _) (Memref.whole cc0_scratch1) (Memref.isWhole_whole _)

set_option maxHeartbeats 4000000 in
/-- The body at a point, by its control path. -/
theorem sound_body (c : Dev nD) (t : Fin (cfgA a).N) :
    iprop((dats a m ρ 0 c).Φ t.castSucc ∗ (dats a m ρ 0 c).owesAt () t.castSucc
        ∗ (∃ d, owns (c : Thread nD τ) (ms0_0 a t) fullShare ((dats a m ρ 0 c).before (0 : Fin 5) t d))
        ∗ (∃ d, owns (c : Thread nD τ) (ms0_1 a t) fullShare ((dats a m ρ 0 c).before (1 : Fin 5) t d))
        ∗ (∃ d, owns (c : Thread nD τ) (ms0_2 a t) fullShare ((dats a m ρ 0 c).before (2 : Fin 5) t d))
        ∗ (∃ d, owns (c : Thread nD τ) (ms0_3 a t) fullShare ((dats a m ρ 0 c).before (3 : Fin 5) t d))
        ∗ (∃ d, owns (c : Thread nD τ) (ms0_4 a t) fullShare ((dats a m ρ 0 c).before (4 : Fin 5) t d)))
      ⊢ wp frame (wpE (defs₀ (F := F)) Variants.none c none) Set.univ (bodyAt0 a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0]
  have i4 := idle_4 a t
  have f4 := flush_4 a t
  have h0 := crd0 a t
  have h1 := crd1 a t
  by_cases hs : Scalar.cmpi .slt (BitVec.ofNat 32 ((crd a t) 0).val) (word (F := F) (T1 a)) = 1#1
  · rcases Nat.mod_two_eq_zero_or_one t.val with hj | hj
    · obtain ⟨g0, g1, g2, g3⟩ := ctl_A (crd a t) _ hs (h1.trans hj)
      have i4' : (cfgA a).idle (4 : Fin 5) ((cfgA a).grid.coords t) = true := by rw [i4, hj]; rfl
      have f4' : ((cfgA a).win (4 : Fin 5)).flush t = false := by rw [f4, hj]; rfl
      rewrite [i4']
      simp only [before0_0, before0_1, before0_2, before0_3, before0_4, after0_0, after0_1, after0_2, after0_3, after0_4, f4']
      rewrite [show (dats a m ρ 0 c).Φ t.succ = Phi a m ρ c t.succ from rfl, show (dats a m ρ 0 c).Φ t.castSucc = Phi a m ρ c t.castSucc from rfl,
        show (dats a m ρ 0 c).owesAt () t.succ = (dats a m ρ 0 c).owesAt () t.castSucc from rfl]
      unfold Phi; simp only [Fin.val_castSucc, Fin.val_succ]
      iintro ⟨⟨⟨%s0, %hs0, HS0⟩, ⟨%s1, %hs1, HS1⟩, HT0, HT1⟩, Ho, ⟨%d0, H0⟩, ⟨%d1, H1⟩, ⟨%d2, H2⟩, ⟨%d3, H3⟩, ⟨%d4, H4⟩⟩
      iapply ((kernelRun0_A (F := F) c (crd a t) (ms0_0 a t) (hs0_0 a t) (ms0_1 a t) (hs0_1 a t) (ms0_2 a t) (hs0_2 a t) (ms0_3 a t) (hs0_3 a t) (ms0_4 a t) (hs0_4 a t) (T0 a) (T1 a) (iblk a m ρ c (0 : Fin 5) t) (iblk a m ρ c (1 : Fin 5) t) (iblk a m ρ c (2 : Fin 5) t) (iblk a m ρ c (3 : Fin 5) t) g0 g1 g2 g3).2.2 _ s0 s1 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      isplitl [HS1]; · iexact HS1
      iintro ⟨H0, H1, H2, H3, HT0, HT1, H4, HS0, HS1⟩
      isplitl [HS0 HS1 HT0 HT1]
      · isplitl [HS0]
        · iexists _; isplitr; swap
          · iexact HS0
          · ipureintro; intro h _; exact runA_rows (F := F) c (crd a t) (ms0_0 a t) (hs0_0 a t) (ms0_1 a t) (hs0_1 a t) (ms0_2 a t) (hs0_2 a t) (ms0_3 a t) (hs0_3 a t) (ms0_4 a t) (hs0_4 a t) (T0 a) (T1 a) (iblk a m ρ c (0 : Fin 5) t) (iblk a m ρ c (1 : Fin 5) t) (iblk a m ρ c (2 : Fin 5) t) (iblk a m ρ c (3 : Fin 5) t) g0 g1 g2 g3
        isplitl [HS1]
        · iexists _; isplitr; swap
          · iexact HS1
          · ipureintro; intro h _; exact runA_acc (F := F) c (crd a t) (ms0_0 a t) (hs0_0 a t) (ms0_1 a t) (hs0_1 a t) (ms0_2 a t) (hs0_2 a t) (ms0_3 a t) (hs0_3 a t) (ms0_4 a t) (hs0_4 a t) (T0 a) (T1 a) (iblk a m ρ c (0 : Fin 5) t) (iblk a m ρ c (1 : Fin 5) t) (iblk a m ρ c (2 : Fin 5) t) (iblk a m ρ c (3 : Fin 5) t) g0 g1 g2 g3
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      iexists d4; iexact H4
    · obtain ⟨g0, g1, g2, g3⟩ := ctl_B (crd a t) _ hs (h1.trans hj)
      have i4' : (cfgA a).idle (4 : Fin 5) ((cfgA a).grid.coords t) = false := by rw [i4, hj]; rfl
      have f4' : ((cfgA a).win (4 : Fin 5)).flush t = true := by rw [f4, hj]; rfl
      rewrite [i4']
      simp only [before0_0, before0_1, before0_2, before0_3, before0_4, after0_0, after0_1, after0_2, after0_3, after0_4, f4']
      rewrite [show (dats a m ρ 0 c).Φ t.succ = Phi a m ρ c t.succ from rfl, show (dats a m ρ 0 c).Φ t.castSucc = Phi a m ρ c t.castSucc from rfl,
        show (dats a m ρ 0 c).owesAt () t.succ = (dats a m ρ 0 c).owesAt () t.castSucc from rfl]
      unfold Phi; simp only [Fin.val_castSucc, Fin.val_succ]
      iintro ⟨⟨⟨%s0, %hs0, HS0⟩, ⟨%s1, %hs1, HS1⟩, HT0, HT1⟩, Ho, ⟨%d0, H0⟩, ⟨%d1, H1⟩, ⟨%d2, H2⟩, ⟨%d3, H3⟩, ⟨%d4, H4⟩⟩
      iapply ((kernelRun0_B (F := F) c (crd a t) (ms0_0 a t) (hs0_0 a t) (ms0_1 a t) (hs0_1 a t) (ms0_2 a t) (hs0_2 a t) (ms0_3 a t) (hs0_3 a t) (ms0_4 a t) (hs0_4 a t) (T0 a) (T1 a) (iblk a m ρ c (0 : Fin 5) t) (iblk a m ρ c (1 : Fin 5) t) (iblk a m ρ c (2 : Fin 5) t) (iblk a m ρ c (3 : Fin 5) t) s0 s1 g0 g1 g2 g3).2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      iintro ⟨H0, H1, H2, H3, HT0, HT1, ⟨%e4, H4⟩, HS0, HS1⟩
      isplitl [HS0 HS1 HT0 HT1]
      · isplitl [HS0]
        · iexists _; isplitr; swap
          · iexact HS0
          · ipureintro; intro h _; omega
        isplitl [HS1]
        · iexists _; isplitr; swap
          · iexact HS1
          · ipureintro; intro h _; omega
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; refine (runB_out (F := F) c (crd a t) (ms0_0 a t) (hs0_0 a t) (ms0_1 a t) (hs0_1 a t) (ms0_2 a t) (hs0_2 a t) (ms0_3 a t) (hs0_3 a t) (ms0_4 a t) (hs0_4 a t) (T0 a) (T1 a) (iblk a m ρ c (0 : Fin 5) t) (iblk a m ρ c (1 : Fin 5) t) (iblk a m ρ c (2 : Fin 5) t) (iblk a m ρ c (3 : Fin 5) t) s0 s1 g0 g1 g2 g3 _).trans ?_
        have ha : act a (t.val / 2) := by rw [h0] at hs; exact hs
        have hodd : ((t.val - 1) / 2) = t.val / 2 := by omega
        unfold out4; rw [if_pos ha, hs0 hj (by rw [hodd]; exact ha), hs1 hj (by rw [hodd]; exact ha)]; rfl
  · rcases Nat.mod_two_eq_zero_or_one t.val with hj | hj
    · obtain ⟨g0, g1, g2, g3⟩ := ctl_C (crd a t) _ hs (h1.trans hj)
      have i4' : (cfgA a).idle (4 : Fin 5) ((cfgA a).grid.coords t) = true := by rw [i4, hj]; rfl
      have f4' : ((cfgA a).win (4 : Fin 5)).flush t = false := by rw [f4, hj]; rfl
      rewrite [i4']
      simp only [before0_0, before0_1, before0_2, before0_3, before0_4, after0_0, after0_1, after0_2, after0_3, after0_4, f4']
      rewrite [show (dats a m ρ 0 c).Φ t.succ = Phi a m ρ c t.succ from rfl, show (dats a m ρ 0 c).Φ t.castSucc = Phi a m ρ c t.castSucc from rfl,
        show (dats a m ρ 0 c).owesAt () t.succ = (dats a m ρ 0 c).owesAt () t.castSucc from rfl]
      unfold Phi; simp only [Fin.val_castSucc, Fin.val_succ]
      iintro ⟨⟨⟨%s0, %hs0, HS0⟩, ⟨%s1, %hs1, HS1⟩, HT0, HT1⟩, Ho, ⟨%d0, H0⟩, ⟨%d1, H1⟩, ⟨%d2, H2⟩, ⟨%d3, H3⟩, ⟨%d4, H4⟩⟩
      iapply ((kernelRun0_C (F := F) c (crd a t) (ms0_0 a t) (hs0_0 a t) (ms0_1 a t) (hs0_1 a t) (ms0_2 a t) (hs0_2 a t) (ms0_3 a t) (hs0_3 a t) (ms0_4 a t) (hs0_4 a t) (T0 a) (T1 a) (iblk a m ρ c (0 : Fin 5) t) (iblk a m ρ c (1 : Fin 5) t) (iblk a m ρ c (2 : Fin 5) t) (iblk a m ρ c (3 : Fin 5) t) s0 s1 g0 g1 g2 g3).2.2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      isplitl [HS1]; · iexact HS1
      iintro ⟨H0, H1, H2, H3, HT0, HT1, H4, HS0, HS1⟩
      isplitl [HS0 HS1 HT0 HT1]
      · isplitl [HS0]
        · iexists _; isplitr; swap
          · iexact HS0
          · ipureintro; intro h hx; exact absurd (by rw [h0]; exact hx) hs
        isplitl [HS1]
        · iexists _; isplitr; swap
          · iexact HS1
          · ipureintro; intro h hx; exact absurd (by rw [h0]; exact hx) hs
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      iexists d4; iexact H4
    · obtain ⟨g0, g1, g2, g3⟩ := ctl_D (crd a t) _ hs (h1.trans hj)
      have i4' : (cfgA a).idle (4 : Fin 5) ((cfgA a).grid.coords t) = false := by rw [i4, hj]; rfl
      have f4' : ((cfgA a).win (4 : Fin 5)).flush t = true := by rw [f4, hj]; rfl
      rewrite [i4']
      simp only [before0_0, before0_1, before0_2, before0_3, before0_4, after0_0, after0_1, after0_2, after0_3, after0_4, f4']
      rewrite [show (dats a m ρ 0 c).Φ t.succ = Phi a m ρ c t.succ from rfl, show (dats a m ρ 0 c).Φ t.castSucc = Phi a m ρ c t.castSucc from rfl,
        show (dats a m ρ 0 c).owesAt () t.succ = (dats a m ρ 0 c).owesAt () t.castSucc from rfl]
      unfold Phi; simp only [Fin.val_castSucc, Fin.val_succ]
      iintro ⟨⟨⟨%s0, %hs0, HS0⟩, ⟨%s1, %hs1, HS1⟩, HT0, HT1⟩, Ho, ⟨%d0, H0⟩, ⟨%d1, H1⟩, ⟨%d2, H2⟩, ⟨%d3, H3⟩, ⟨%d4, H4⟩⟩
      iapply ((kernelRun0_D (F := F) c (crd a t) (ms0_0 a t) (hs0_0 a t) (ms0_1 a t) (hs0_1 a t) (ms0_2 a t) (hs0_2 a t) (ms0_3 a t) (hs0_3 a t) (ms0_4 a t) (hs0_4 a t) (T0 a) (T1 a) (iblk a m ρ c (0 : Fin 5) t) (iblk a m ρ c (1 : Fin 5) t) (iblk a m ρ c (2 : Fin 5) t) (iblk a m ρ c (3 : Fin 5) t) s0 s1 g0 g1 g2 g3).2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      iintro ⟨H0, H1, H2, H3, HT0, HT1, ⟨%e4, H4⟩, HS0, HS1⟩
      isplitl [HS0 HS1 HT0 HT1]
      · isplitl [HS0]
        · iexists _; isplitr; swap
          · iexact HS0
          · ipureintro; intro h _; omega
        isplitl [HS1]
        · iexists _; isplitr; swap
          · iexact HS1
          · ipureintro; intro h _; omega
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; refine (runD_out (F := F) c (crd a t) (ms0_0 a t) (hs0_0 a t) (ms0_1 a t) (hs0_1 a t) (ms0_2 a t) (hs0_2 a t) (ms0_3 a t) (hs0_3 a t) (ms0_4 a t) (hs0_4 a t) (T0 a) (T1 a) (iblk a m ρ c (0 : Fin 5) t) (iblk a m ρ c (1 : Fin 5) t) (iblk a m ρ c (2 : Fin 5) t) (iblk a m ρ c (3 : Fin 5) t) s0 s1 g0 g1 g2 g3 _).trans ?_
        have ha : ¬act a (t.val / 2) := by rw [h0] at hs; exact hs
        unfold out4; rw [if_neg ha]

theorem body_obligation (c : Dev nD) : BodyObligation (dats a m ρ 0 c) (defs₀ (F := F)) Variants.none () Set.univ := fun t => by
  rw [bigSep_W0]
  exact sound_body a m ρ c t

/-! ## The launch -/

def u₀ : UR sig nD τ :=
  initOf (Pipeline.cells (pcs a) ((launch0 (F := F)).cellOf_inj fun _ => a))
    (Pipeline.launchToks (pcs a) ((launch0 (F := F)).cellOf_inj fun _ => a))

theorem share_eq (c : Dev nD) (w : Fin (cfgA a).W) : (dats a m ρ 0 c).share w = fullShare := by unfold Dat.share; split <;> rfl

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a m ρ c 0 from rfl]
  unfold Phi
  iintro ⟨-, ⟨HT0, HT1⟩, ⟨%a0, HS0⟩, ⟨%a1, HS1⟩⟩
  isplitl [HS0]
  · iexists a0; isplitr; swap
    · iexact HS0
    · ipureintro; intro h; exact absurd (show (0 : ℕ) % 2 = 1 from h) (by decide)
  isplitl [HS1]
  · iexists a1; isplitr; swap
    · iexact HS1
    · ipureintro; intro h; exact absurd (show (0 : ℕ) % 2 = 1 from h) (by decide)
  isplitl [HT0]
  · iexact HT0
  iexact HT1

theorem phiN_exit (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a m ρ c (Fin.last _) from rfl]
  unfold Phi
  iintro ⟨⟨%a0, -, HS0⟩, ⟨%a1, -, HS1⟩, -, -⟩
  isplitr; · iempintro
  isplitl [HS0]
  · iexists a0; iexact HS0
  iexists a1; iexact HS1

/-- Every array at what the pipeline computes, every table as it was. -/
def QC : PUnit × MemSt nD τ sig (Elt F) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

set_option backward.isDefEq.respectTransparency.types false in
set_option maxHeartbeats 4000000 in
theorem run_main_quiescent (hp : ∀ (c : Dev nD) (j : Fin 2), m ((c : Thread nD τ).loc (pre0.ref j)) = a.1 j) :
    θ_run (defs (F := F)) (onTc (τ := τ) (main (F := F))) (s₀ m ρ) (fun r => QC a m ρ r ∧ r.2.sem = fun _ => 0) :=
  Pipeline.θ_run_region_noSem_pf_quiescent pcfgs (fun _ => a) (dats a m ρ) () ((launch0 (F := F)).cellOf_inj fun _ => a) (0 : Fin 1)
    (launch0 (F := F)).win.to₀ (launch0 (F := F)).pre EP defs₀ Variants.none m ρ main
    (hbody := fun c => (body_obligation a m ρ c).loose) (hne := (launch0 (F := F)).block_pos)
    (harr := (launch0 (F := F)).arr_whole) (hstage := (launch0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := F)).win.arr_inj c (launch0 (F := F)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi0_intro a m ρ)
    (hout := phiN_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The run: the arguments as they were, the result the pipeline's array, no semaphore held. -/
theorem run_main (hp : ∀ (c : Dev nD) (j : Fin 2), m ((c : Thread nD τ).loc (pre0.ref j)) = a.1 j) :
    θ_run (defs (F := F)) (onTc (τ := τ) (main (F := F))) ⟨m, fun _ => 0, ρ⟩ (fun r => (∀ c : Dev nD,
      r.2.mem ((c.tc : Thread nD τ).loc main_v0) = (dats a m ρ 0 c).arrAt (4 : Fin 5) (cfgA a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 (4 : Fin 5), ((h.1 c).1 (0 : Fin 5)).trans ((dats a m ρ 0 c).arrAt_in (0 : Fin 5) rfl _),
    ((h.1 c).2 0).trans (hp c 0).symm, ((h.1 c).2 1).trans (hp c 1).symm,
    ((h.1 c).1 (1 : Fin 5)).trans ((dats a m ρ 0 c).arrAt_in (1 : Fin 5) rfl _),
    ((h.1 c).1 (2 : Fin 5)).trans ((dats a m ρ 0 c).arrAt_in (2 : Fin 5) rfl _),
    ((h.1 c).1 (3 : Fin 5)).trans ((dats a m ρ 0 c).arrAt_in (3 : Fin 5) rfl _)⟩, h.2⟩) (run_main_quiescent a m ρ hp)

end Cert.Kernel2Ideal.Experts

end
-- ==== Proof.ExpertsPre.lean ====
/-
  The precondition read word by word: every tile's expert is one of the eight. Then the tables place every block inside
  its array, and the experts' program runs.
-/
module

public import proofs.«01_k».proof.Defs
public import proofs.«01_k».proof.Proof.ExpertsFrame
public import proofs.«01_k».proof.Proof.Gen.Kernel2
public import proofs.«01_k».proof.Proof.Gen.Pre_experts_exist
public import Idealize.ShloMosaic.Lib.ReduceAll
public import Idealize.ShloMosaic.Lib.WordCmp

@[expose] public section

set_option maxRecDepth 16384

noncomputable section

namespace Cert.Kernel2Ideal.Experts

open Cert.Kernel2Ideal Cert.Kernel2Ideal.Gen Idealize.ShloMosaic Idealize.ShloMosaic.TcCoe
open Idealize.SL Idealize.SL.Sem

variable {F : FTy → Type} [FloatOps F]

/-- A word between 0 and 8, both signed, is below 8 unsigned. -/
theorem word_lt (x : BitVec 32) (h : IntOp.andi (IntOp.cmpi .sge x 0#32) (IntOp.cmpi .slt x 8#32) = 1#1) : x.toNat < 8 := by
  obtain ⟨h0, h8⟩ := IntOp.andi_eq_one.1 h
  have h0 := IntOp.cmpi_sge.1 h0
  have h8 := IntOp.cmpi_slt.1 h8
  have e0 : (0#32 : BitVec 32).toInt = 0 := by decide
  have e8 : (8#32 : BitVec 32).toInt = 8 := by decide
  rw [e0] at h0; rw [e8] at h8
  rw [BitVec.toInt_eq_toNat_cond] at h0 h8
  have := x.isLt
  split at h0 <;> omega

/-- Every expert of the table exists. -/
theorem experts_lt (x0 : FVec F S36864x1024 .f32) (x1 : IVec S72 32) (x2 : IVec S1 32) (x3 x4 : FVec F S8x1024x3584 .f32) (x5 : FVec F S8x3584x1024 .f32)
    (h : Cert.Pre_experts_exist.fn (F := F) x0 x1 x2 x3 x4 x5 = fun _ => 1#1) (n : S72.Idx) : (x1 n).toNat < 8 := by
  haveI : Subsingleton Cert.Pre_experts_exist.S_.Idx := ⟨fun a b => funext fun i => i.elim0⟩
  have e := congrFun h (fun i => i.elim0)
  exact word_lt _ (Host.reduce_andi_all _ _ _ _ _ e n)

/-- Three entries' bounds make a block's. -/
theorem okcons3 {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

/-- The half of the columns a point reads is the first or the second. -/
theorem half_le (b : BitVec 1) (j : Fin 2) : (Scalar.select b (BitVec.ofNat 32 j.val) 1#32).toNat ≤ 1 := by
  revert b j; decide

theorem ent8 {x : ℕ} (h : x < 8) : (x + 1) * 1 ≤ 8 := by omega
theorem ent2 {x : ℕ} (h : x ≤ 1) : (x + 1) * 1792 ≤ 3584 := by omega
theorem ent1 {x : ℕ} (h : x = 0) : (x + 1) * 1024 ≤ 1024 := by omega

/-- The tables place every block of the weights inside its array. -/
theorem ok_of_lt (pf : pre0.Contents (Elt F)) (h : ∀ n : S72.Idx, (pf 0 n : BitVec 32).toNat < 8) : ok0 pf :=
  ⟨fun i => ⟨okcons3 (ent8 (h _)) (okcons3 (ent1 rfl) (okcons3 (ent2 (half_le _ (i 1))) fun a => a.elim0)), .inl rfl⟩,
   fun i => ⟨okcons3 (ent8 (h _)) (okcons3 (ent1 rfl) (okcons3 (ent2 (half_le _ (i 1))) fun a => a.elim0)), .inl rfl⟩,
   fun i => ⟨okcons3 (ent8 (h _)) (okcons3 (ent2 (half_le _ (i 1))) (okcons3 (ent1 rfl) fun a => a.elim0)), .inl rfl⟩⟩

variable (m : (ℓ : Loc nD τ sig) → Buf (Elt F) ℓ)

/-- The launch memory's tables, on the one device. -/
def tables : pre0.Contents (Elt F) := fun j => m (((0 : Dev nD) : Thread nD τ).loc (pre0.ref j))

/-- The launch memory's tables, where its experts exist. -/
def adm (h : ∀ n : S72.Idx, (m (((0 : Dev nD) : Thread nD τ).loc main_arg1) n : BitVec 32).toNat < 8) : (pcfg0 (F := F)).Adm :=
  ⟨tables m, ok_of_lt _ h⟩

theorem adm_eq (h) (c : Dev nD) (j : Fin 2) : m ((c : Thread nD τ).loc (pre0.ref j)) = (adm m h).1 j := by
  have e : c = 0 := Subsingleton.elim _ _
  subst e; rfl

/-- The program runs, its arguments are unchanged and no semaphore is left counting. -/
theorem run_frame (ρ : Dev nD → PrngReg) (h : ∀ n : S72.Idx, (m (((0 : Dev nD) : Thread nD τ).loc main_arg1) n : BitVec 32).toNat < 8) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run _ _ _).mono (fun _ r => ⟨fun c => (r.1 c).2, r.2⟩) (run_main (adm m h) m ρ (adm_eq m h))

end Cert.Kernel2Ideal.Experts

namespace Cert

open Idealize.ShloMosaic Idealize.ShloMosaic.TcCoe Idealize.SL.Sem

theorem experts_of_pre {m : (ℓ : Loc Kernel2Ideal.nD Kernel2Ideal.τ Kernel2Ideal.sig) → Buf (Elt Ideal) ℓ} (h : Pre_Kernel2Ideal m) (n : Kernel2Ideal.S72.Idx) :
    (m (((0 : Dev Kernel2Ideal.nD) : Thread Kernel2Ideal.nD Kernel2Ideal.τ).loc Kernel2Ideal.main_arg1) n : BitVec 32).toNat < 8 :=
  Kernel2Ideal.Experts.experts_lt _ _ _ _ _ _ (h 0) n

theorem experts_frame_ideal : quiescent_Kernel2Ideal := fun m ρ h => Kernel2Ideal.Experts.run_frame m ρ (experts_of_pre h)

/-- The kernel's text is its ideal's: the bodies, … -/
theorem experts_body : @Kernel2.cc0_moe_experts Bits _ _ = @Kernel2Ideal.cc0_moe_experts Bits _ _ := rfl
theorem experts_defs₀ : Kernel2.defs₀ (F := Bits) = Kernel2Ideal.defs₀ (F := Bits) := by
  unfold Kernel2.defs₀ Kernel2Ideal.defs₀
  refine congrArg Defs.onTc ?_
  funext l x
  match l, x with
  | ⟨0, _⟩, (t, s) => rfl
theorem experts_defs : Kernel2.defs (F := Bits) = Kernel2Ideal.defs (F := Bits) := congrArg (Pipeline.defs (Kernel2.pcfgs (F := Bits))) experts_defs₀

/-- … so its run is the same one. -/
theorem experts_frame : quiescent_Kernel2 := fun m ρ h =>
  (congrArg (fun d => θ_run d (onTc (τ := Kernel2.τ) (Kernel2.main (F := Bits))) ⟨m, fun _ => 0, ρ⟩ _) experts_defs).mpr
    (Kernel2Ideal.Experts.run_frame (F := Bits) m ρ fun n => Kernel2Ideal.Experts.experts_lt _ _ _ _ _ _ (h 0) n)

end Cert
-- ==== Proof.ExpertsReads.lean ====
/-
  The blocks a point of the experts' grid reads, element by element.
-/
module

public import proofs.«01_k».proof.Proof.ExpertsPre
public import Idealize.ShloMosaic.Lib.Pipeline.ValueKit

@[expose] public section

set_option maxRecDepth 16384

noncomputable section

namespace Cert.Kernel2Ideal.Experts

open Cert.Kernel2Ideal Cert.Kernel2Ideal.Gen Idealize.ShloMosaic Idealize.ShloMosaic.TcCoe Idealize.ShloMosaic.ValueKit

variable (a : (pcfg0 (F := Ideal)).Adm) (m : (ℓ : Loc nD τ sig) → Buf (Elt Ideal) ℓ) (ρ : Dev nD → PrngReg) (c : Dev nD)

/-- The expert of a tile. -/
def te (i : Fin 72) : ℕ := (T0 a (ix1 i) : BitVec 32).toNat

theorem ix_0 (t : Fin (cfgA a).N) : (((cfgA a).win (0 : Fin 5)).index t) = ![t.val / 2, 0] :=
  (by decide +kernel : ∀ t : Fin grid0.N, cc0_transform_0 (grid0.coords t) = ![t.val / 2, 0]) t

theorem ix_4 (t : Fin (cfgA a).N) : (((cfgA a).win (4 : Fin 5)).index t) = ![t.val / 2, 0] :=
  (by decide +kernel : ∀ t : Fin grid0.N, cc0_transform_4 (grid0.coords t) = ![t.val / 2, 0]) t

/-- The table's element an index map reads at a point is its tile's. -/
theorem te_at (t : Fin (cfgA a).N) (i : Fin 72) (hi : i.val = t.val / 2) :
    (a.1.at 0 (Rect.unit (s := S72) ![(Scalar.indexCast (BitVec.ofNat 32 ((crd a t) 0).val)).toNat] S1.size (k0_off1_inb (crd a t))) numel1_S1 : BitVec 32).toNat = te a i := by
  have h0 := crd0 a t
  have ht : t.val < 144 := t.isLt
  refine congrArg BitVec.toNat (congrArg (a.1 0) (funext fun k => Fin.ext ?_))
  match k with
  | ⟨0, _⟩ =>
    show (BitVec.ofNat 32 ((crd a t) 0).val).toNat + 1 * 0 = i.val
    rw [h0, hi, BitVec.toNat_ofNat]
    omega

theorem half_at (t : Fin (cfgA a).N) (h : act a (t.val / 2)) :
    (Scalar.select (Scalar.cmpi .slt (BitVec.ofNat 32 ((crd a t) 0).val) (a.1.at 1 (Rect.unit (s := S1) ![0] S1.size inb_S1_S1_0) numel1_S1)) (BitVec.ofNat 32 ((crd a t) 1).val) 1#32).toNat
      = t.val % 2 := by
  have e : Scalar.cmpi .slt (BitVec.ofNat 32 ((crd a t) 0).val) (a.1.at 1 (Rect.unit (s := S1) ![0] S1.size inb_S1_S1_0) numel1_S1) = 1#1 := by
    rw [crd0 a t]; exact h
  rw [e, crd1 a t]
  rcases Nat.mod_two_eq_zero_or_one t.val with h | h <;> rw [h] <;> rfl

theorem ix_1 (t : Fin (cfgA a).N) (i : Fin 72) (hi : i.val = t.val / 2) (h : act a (t.val / 2)) : ((cfgA a).win (1 : Fin 5)).index t = ![te a i, 0, t.val % 2] := by
  rw [← te_at a t i hi, ← half_at a t h]; rfl
theorem ix_2 (t : Fin (cfgA a).N) (i : Fin 72) (hi : i.val = t.val / 2) (h : act a (t.val / 2)) : ((cfgA a).win (2 : Fin 5)).index t = ![te a i, 0, t.val % 2] := by
  rw [← te_at a t i hi, ← half_at a t h]; rfl
theorem ix_3 (t : Fin (cfgA a).N) (i : Fin 72) (hi : i.val = t.val / 2) (h : act a (t.val / 2)) : ((cfgA a).win (3 : Fin 5)).index t = ![te a i, t.val % 2, 0] := by
  rw [← te_at a t i hi, ← half_at a t h]; rfl

/-- A point's rows. -/
theorem rd_x (t : Fin (cfgA a).N) (n : Fin 512) (d : Fin 1024) (r : Fin 36864) (hr : r.val = t.val / 2 * 512 + n.val) :
    (iblk a m ρ c (0 : Fin 5) t : FVec Ideal S512x1024 .f32) (ix2 n d) = (m ((c : Thread nD τ).loc main_arg0) : FVec Ideal S36864x1024 .f32) (ix2 r d) := by
  blk_simp [iblk]
  refine congrArg (m ((c : Thread nD τ).loc main_arg0)) ?_
  blk_ext [ix_0 a t]

/-- A point's half of the expert's gate, … -/
theorem rd_g (t : Fin (cfgA a).N) (i : Fin 72) (hi : i.val = t.val / 2) (h : act a (t.val / 2)) (e : Fin 8) (he : e.val = te a i) (d : Fin 1024) (k : Fin 1792)
    (q : Fin 3584) (hq : q.val = t.val % 2 * 1792 + k.val) :
    (iblk a m ρ c (1 : Fin 5) t : FVec Ideal S1x1024x1792 .f32) (ix3 0 d k) = (m ((c : Thread nD τ).loc main_arg3) : FVec Ideal S8x1024x3584 .f32) (ix3 e d q) := by
  blk_simp [iblk]
  refine congrArg (m ((c : Thread nD τ).loc main_arg3)) ?_
  blk_ext [ix_1 a t i hi h]

/-- … of its input weights, … -/
theorem rd_u (t : Fin (cfgA a).N) (i : Fin 72) (hi : i.val = t.val / 2) (h : act a (t.val / 2)) (e : Fin 8) (he : e.val = te a i) (d : Fin 1024) (k : Fin 1792)
    (q : Fin 3584) (hq : q.val = t.val % 2 * 1792 + k.val) :
    (iblk a m ρ c (2 : Fin 5) t : FVec Ideal S1x1024x1792 .f32) (ix3 0 d k) = (m ((c : Thread nD τ).loc main_arg4) : FVec Ideal S8x1024x3584 .f32) (ix3 e d q) := by
  blk_simp [iblk]
  refine congrArg (m ((c : Thread nD τ).loc main_arg4)) ?_
  blk_ext [ix_2 a t i hi h]

/-- … and of its output weights. -/
theorem rd_d (t : Fin (cfgA a).N) (i : Fin 72) (hi : i.val = t.val / 2) (h : act a (t.val / 2)) (e : Fin 8) (he : e.val = te a i) (d : Fin 1024) (k : Fin 1792)
    (q : Fin 3584) (hq : q.val = t.val % 2 * 1792 + k.val) :
    (iblk a m ρ c (3 : Fin 5) t : FVec Ideal S1x1792x1024 .f32) (ix3 0 k d) = (m ((c : Thread nD τ).loc main_arg5) : FVec Ideal S8x3584x1024 .f32) (ix3 e q d) := by
  blk_simp [iblk]
  refine congrArg (m ((c : Thread nD τ).loc main_arg5)) ?_
  blk_ext [ix_3 a t i hi h]

/-- Tables of zeros. -/
def a0 : (pcfg0 (F := Ideal)).Adm :=
  ⟨fun | ⟨0, _⟩ => fun _ => 0#32 | ⟨1, _⟩ => fun _ => 0#32 | ⟨_ + 2, h⟩ => absurd h (Nat.not_lt.2 (Nat.le_add_left _ _)), ok_of_lt _ fun _ => (by decide : (0#32 : BitVec 32).toNat < 8)⟩

/-- The result's blocks, which no table places, cover it. -/
theorem covers_4 : ((cfgA a).win (4 : Fin 5)).Covers :=
  (by decide +kernel : ((cfgA a0).win (4 : Fin 5)).Covers)

end Cert.Kernel2Ideal.Experts
end
-- ==== Proof.ExpertsTile.lean ====
/-
  A tile's block at an element: the expert's two halves summed.
-/
module

public import proofs.«01_k».proof.Proof.ExpertsReads

@[expose] public section

set_option maxRecDepth 16384

noncomputable section

namespace Cert.Kernel2Ideal.Experts

open Cert.Kernel2Ideal Cert.Kernel2Ideal.Gen Idealize.ShloMosaic Idealize.ShloMosaic.TcCoe Idealize.ShloMosaic.ValueKit

/-- The gated product of a gate's and an input's sum. -/
def gated (g u : EReal) : EReal := g * Ideal.logistic g * u

theorem pay3_at (acc : FVec Ideal S512x1024 .f32) (h : FVec Ideal S512x1024 .bf16) (wg wu : FVec Ideal S1x1024x1792 .f32) (wd : FVec Ideal S1x1792x1024 .f32)
    (n : Fin 512) (j : Fin 1024) :
    k0_pay3 (F := Ideal) acc h wg wu wd (ix2 n j) = acc (ix2 n j) + ∑ k : Fin 1792, gated (∑ d : Fin 1024, h (ix2 n d) * wg (ix3 0 d k)) (∑ d : Fin 1024, h (ix2 n d) * wu (ix3 0 d k)) * wd (ix3 0 k j) := by
  unfold k0_pay3
  pointwise [gated]

variable (X : FVec Ideal S36864x1024 .f32) (G U : FVec Ideal S8x1024x3584 .f32) (D : FVec Ideal S8x3584x1024 .f32)

/-- An inner column's share of an expert's result. -/
def share (e : Fin 8) (r : Fin 36864) (j : Fin 1024) (q : Fin 3584) : EReal :=
  gated (∑ d : Fin 1024, X (ix2 r d) * G (ix3 e d q)) (∑ d : Fin 1024, X (ix2 r d) * U (ix3 e d q)) * D (ix3 e q j)

/-- An expert's result at a row. -/
def row (e : Fin 8) (r : Fin 36864) (j : Fin 1024) : EReal := ∑ q : Fin 3584, share X G U D e r j q

/-- The inner columns in halves. -/
theorem row_halves (e : Fin 8) (r : Fin 36864) (j : Fin 1024) :
    row X G U D e r j = (∑ k : Fin 1792, share X G U D e r j ⟨0 * 1792 + k.val, by omega⟩) + ∑ k : Fin 1792, share X G U D e r j ⟨1 * 1792 + k.val, by omega⟩ := by
  unfold row
  refine (Fin.sum_univ_add (a := 1792) (b := 1792) (fun q => share X G U D e r j q)).trans ?_
  refine congrArg₂ (· + ·) (Finset.sum_congr rfl fun k _ => congrArg _ (Fin.ext ?_)) (Finset.sum_congr rfl fun k _ => congrArg _ (Fin.ext ?_))
  · show k.val = 0 * 1792 + k.val; omega
  · show 1792 + k.val = 1 * 1792 + k.val; omega

variable (a : (pcfg0 (F := Ideal)).Adm) (m : (ℓ : Loc nD τ sig) → Buf (Elt Ideal) ℓ) (ρ : Dev nD → PrngReg) (c : Dev nD)

/-- A point's half added to what the accumulator holds. -/
theorem half_sum (t : Fin (cfgA a).N) (b : ℕ) (hb : t.val % 2 = b) (hb' : b < 2) (i : Fin 72) (hi : i.val = t.val / 2) (h : act a i.val) (e : Fin 8) (he : e.val = te a i)
    (n : Fin 512) (r : Fin 36864) (hr : r.val = i.val * 512 + n.val) (j : Fin 1024) (s : Fin (cfgA a).N) (hs : s.val / 2 = i.val) (acc : FVec Ideal S512x1024 .f32) :
    k0_pay3 (F := Ideal) acc (rows0 a m ρ c s) (iblk a m ρ c (1 : Fin 5) t) (iblk a m ρ c (2 : Fin 5) t) (iblk a m ρ c (3 : Fin 5) t) (ix2 n j)
      = acc (ix2 n j) + ∑ k : Fin 1792, share (m ((c : Thread nD τ).loc main_arg0)) (m ((c : Thread nD τ).loc main_arg3)) (m ((c : Thread nD τ).loc main_arg4)) (m ((c : Thread nD τ).loc main_arg5)) e r j
          ⟨b * 1792 + k.val, by omega⟩ := by
  rw [hi] at h
  have hx : ∀ d : Fin 1024, rows0 a m ρ c s (ix2 n d) = (m ((c : Thread nD τ).loc main_arg0) : FVec Ideal S36864x1024 .f32) (ix2 r d) := fun d => by
    refine Eq.trans ?_ (rd_x a m ρ c s n d r (by rw [hs, hr]))
    unfold rows0 k0_pay1
    pointwise
  refine (pay3_at acc _ _ _ _ n j).trans (congrArg _ (Finset.sum_congr rfl fun k _ => ?_))
  unfold share
  refine congrArg₂ (· * ·) (congrArg₂ gated (Finset.sum_congr rfl fun d _ => congrArg₂ (· * ·) (hx d) ?_) (Finset.sum_congr rfl fun d _ => congrArg₂ (· * ·) (hx d) ?_)) ?_
  · exact rd_g a m ρ c t i hi h e he d k _ (by rw [hb])
  · exact rd_u a m ρ c t i hi h e he d k _ (by rw [hb])
  · exact rd_d a m ρ c t i hi h e he j k _ (by rw [hb])

/-- What a second half writes back at an element: the expert's result at a tile in use, … -/
theorem out_used (t : Fin (cfgA a).N) (ht : t.val % 2 = 1) (i : Fin 72) (hi : i.val = t.val / 2) (h : act a i.val) (e : Fin 8) (he : e.val = te a i)
    (n : Fin 512) (r : Fin 36864) (hr : r.val = i.val * 512 + n.val) (j : Fin 1024) :
    out4 a m ρ c t (ix2 n j) = row (m ((c : Thread nD τ).loc main_arg0)) (m ((c : Thread nD τ).loc main_arg3)) (m ((c : Thread nD τ).loc main_arg4)) (m ((c : Thread nD τ).loc main_arg5)) e r j := by
  have hp : (prev a t).val = t.val - 1 := rfl
  unfold out4
  rw [if_pos (hi ▸ h), row_halves]
  refine (half_sum a m ρ c t 1 ht (by decide) i hi h e he n r hr j (prev a t) (by omega) _).trans (congrArg (· + _) ?_)
  unfold acc1
  refine (half_sum a m ρ c (prev a t) 0 (by omega) (by decide) i (by omega) h e he n r hr j (prev a t) (by omega) _).trans ?_
  refine Eq.trans (congrArg (· + _) ?_) (zero_add _)
  unfold k0_pay2
  pointwise

/-- … and zero past them. -/
theorem out_unused (t : Fin (cfgA a).N) (h : ¬act a (t.val / 2)) (n : Fin 512) (j : Fin 1024) : out4 a m ρ c t (ix2 n j) = 0 := by
  unfold out4
  rw [if_neg h]
  unfold k0_pay4
  pointwise

/-- The result's array: at a row of a tile in use its expert's result, elsewhere zero. -/
def result (e : Fin 72 → Fin 8) : FVec Ideal S36864x1024 .f32 := fun y =>
  if act a ((y 0).val / 512) then row (m ((c : Thread nD τ).loc main_arg0)) (m ((c : Thread nD τ).loc main_arg3)) (m ((c : Thread nD τ).loc main_arg4)) (m ((c : Thread nD τ).loc main_arg5))
    (e ⟨(y 0).val / 512, by have : (y 0).val < 36864 := (y 0).isLt; omega⟩) (y 0) (y 1) else 0

theorem final (e : Fin 72 → Fin 8) (he : ∀ i, (e i).val = te a i) : (dats a m ρ 0 c).arrAt (4 : Fin 5) (cfgA a).N = result a m c e := by
  refine (dats a m ρ 0 c).arrAt_eq_of_covers (4 : Fin 5) _ (covers_4 a) fun t hf y => ?_
  have h1 : t.val % 2 = 1 := by rw [flush_4] at hf; exact of_decide_eq_true hf
  have ht : t.val < 144 := t.isLt
  have hy0 : (y 0).val < 512 := (y 0).isLt
  have hy1 : (y 1).val < 1024 := (y 1).isLt
  blk_simp
  rw [after0_4]
  have hy : y = ix2 ⟨(y 0).val, hy0⟩ ⟨(y 1).val, hy1⟩ := by blk_ext []
  have hz : (((cfgA a).win (4 : Fin 5)).blk t).view.emb y = ix2 (⟨t.val / 2 * 512 + (y 0).val, by omega⟩ : Fin 36864) (⟨(y 1).val, hy1⟩ : Fin 1024) := by blk_ext [ix_4 a t]
  rw [hz]
  have hq : (t.val / 2 * 512 + (y 0).val) / 512 = t.val / 2 := by omega
  have hd : result a m c e (ix2 (⟨t.val / 2 * 512 + (y 0).val, by omega⟩ : Fin 36864) (⟨(y 1).val, hy1⟩ : Fin 1024))
      = if act a ((t.val / 2 * 512 + (y 0).val) / 512) then (row (m ((c : Thread nD τ).loc main_arg0)) (m ((c : Thread nD τ).loc main_arg3)) (m ((c : Thread nD τ).loc main_arg4)) (m ((c : Thread nD τ).loc main_arg5))
          (e ⟨(t.val / 2 * 512 + (y 0).val) / 512, by omega⟩) (⟨t.val / 2 * 512 + (y 0).val, by omega⟩ : Fin 36864) (⟨(y 1).val, hy1⟩ : Fin 1024)) else 0 := rfl
  rw [hd]
  by_cases h : act a ((t.val / 2 * 512 + (y 0).val) / 512)
  · rw [if_pos h]
    refine (congrArg (out4 a m ρ c t) hy).trans ?_
    exact out_used a m ρ c t h1 ⟨(t.val / 2 * 512 + (y 0).val) / 512, by omega⟩ hq h _ (he _) ⟨(y 0).val, hy0⟩ _
      (by show t.val / 2 * 512 + (y 0).val = (t.val / 2 * 512 + (y 0).val) / 512 * 512 + (y 0).val; omega) _
  · rw [if_neg h]
    rw [hq] at h
    exact (congrArg (out4 a m ρ c t) hy).trans (out_unused a m ρ c t h _ _)

end Cert.Kernel2Ideal.Experts
end
-- ==== Proof.ExpertsRef.lean ====
/-
  The experts' reference at an element: the sum over the experts, of which one counts.
-/
module

public import proofs.«01_k».proof.Proof.Gen.Reference2Ideal.Run
public import Idealize.ShloMosaic.Lib.Pipeline.ValueKit

@[expose] public section

set_option maxRecDepth 16384

noncomputable section

namespace Cert.Reference2Ideal.Experts

open Cert.Reference2Ideal Cert.Reference2Ideal.Gen Cert.Reference2Ideal.Value Idealize.ShloMosaic Idealize.ShloMosaic.TcCoe Idealize.ShloMosaic.ValueKit

/-- The gated product of a gate's and an input's sum. -/
def gated (g u : EReal) : EReal := g * Ideal.logistic g * u

variable (X : FVec Ideal S36864x1024 .f32) (G U : FVec Ideal S8x1024x3584 .f32) (D : FVec Ideal S8x3584x1024 .f32) (C : FVec Ideal S36864x8 .f32)

/-- Expert `o`'s feed-forward at a row. -/
def row (o : Fin 8) (r : Fin 36864) (j : Fin 1024) : EReal :=
  ∑ q : Fin 3584, gated (∑ d : Fin 1024, X (ix2 r d) * G (ix3 o d q)) (∑ d : Fin 1024, X (ix2 r d) * U (ix3 o d q)) * D (ix3 o q j)

section
variable (o : Fin 8) (hi : S8x1024x3584.Slices ![o.val, 0, 0] S1x1024x3584) (ho : S8x3584x1024.Slices ![o.val, 0, 0] S1x3584x1024)
variable (hc : S36864x8.Slices ![0, o.val] S36864x1)

def gate : FVec Ideal S36864x3584 .f32 :=
  Host.dotGeneral dot_S36864x1024_S1024x3584_S36864x3584_1_0_0_1_n_n none X (shapeCast S1024x3584 (extractStridedSlice S1x1024x3584 ![o.val, 0, 0] G hi) shapeCasts_S1x1024x3584_S1024x3584)

theorem gate_at (r : Fin 36864) (q : Fin 3584) : gate X G o hi (ix2 r q) = ∑ d : Fin 1024, X (ix2 r d) * G (ix3 o d q) := by
  pointwise [gate]

def swi : FVec Ideal S36864x1024 .f32 :=
  Host.dotGeneral dot_S36864x3584_S3584x1024_S36864x1024_1_0_0_1_n_n none
    (mulf (mulf (gate X G o hi) (Host.divf (broadcastInDim S36864x3584 ![] bcast_S_S36864x3584 (constant S_ .f32 0x3F800000#32)) (addf (broadcastInDim S36864x3584 ![] bcast_S_S36864x3584 (constant S_ .f32 0x3F800000#32)) (Host.exp (Host.negf (gate X G o hi)))))) (gate X U o hi))
    (shapeCast S3584x1024 (extractStridedSlice S1x3584x1024 ![o.val, 0, 0] D ho) shapeCasts_S1x3584x1024_S3584x1024)

theorem swi_at (r : Fin 36864) (j : Fin 1024) : swi X G U D o hi ho (ix2 r j) = row X G U D o r j := by
  unfold row gated
  simp only [← gate_at X G o hi, ← gate_at X U o hi, Ideal.logistic]
  pointwise [swi]

def term : FVec Ideal S36864x1024 .f32 :=
  mulf (broadcastInDim S36864x1024 ![0, 1] bcast_S36864x1_S36864x1024_0_1 (extractStridedSlice S36864x1 ![0, o.val] C hc)) (swi X G U D o hi ho)

theorem term_at (r : Fin 36864) (j : Fin 1024) : term X G U D C o hi ho hc (ix2 r j) = C (ix2 r o) * row X G U D o r j := by
  rw [← swi_at X G U D o hi ho]
  pointwise [term]

end

/-- Of the eight terms, the one whose weight is 1. -/
theorem one_of_eight (f : Fin 8 → EReal) (e : Fin 8) (w : Fin 8 → EReal) (u : Prop) [Decidable u] (hw : ∀ o, w o = if o = e ∧ u then 1 else 0) :
    0 + w 0 * f 0 + w 1 * f 1 + w 2 * f 2 + w 3 * f 3 + w 4 * f 4 + w 5 * f 5 + w 6 * f 6 + w 7 * f 7 = if u then f e else 0 := by
  simp only [hw]
  by_cases h : u
  · revert e; intro e; fin_cases e <;> simp [h]
  · simp [h]

variable (V : Valuation τ sig (Elt Ideal))

/-- A truth value as a number. -/
theorem bit_val (b : BitVec 1) : (FloatOps.uitofp (F := Ideal) FTy.f32 b : EReal) = if b = 1#1 then 1 else 0 := by
  have hb : b = 1#1 ∨ b = 0#1 := by revert b; decide
  rcases hb with rfl | rfl
  · show (((1#1 : BitVec 1).toNat : ℝ) : EReal) = 1
    norm_num
  · show (((0#1 : BitVec 1).toNat : ℝ) : EReal) = 0
    norm_num

theorem eq_word (x : BitVec 32) (o : Fin 8) : IntOp.cmpi .eq x (BitVec.ofNat 32 o.val) = 1#1 ↔ o.val = x.toNat := by
  rw [IntOp.cmpi_eq]
  constructor
  · rintro rfl; rw [BitVec.toNat_ofNat]; omega
  · intro h; rw [h, BitVec.ofNat_toNat]; simp

/-- The weight of expert `o` at a row. -/
theorem combine_at (r : Fin 36864) (o : Fin 8) (i : Fin 72) (hi : i.val = r.val / 512) :
    (res_main_v12 V : FVec Ideal S36864x8 .f32) (ix2 r o)
      = (if o.val = ((V (Proc.devRef .tc main_arg1) : IVec S72 32) (ix1 i)).toNat ∧ IntOp.cmpi .slt (BitVec.ofNat 32 i.val) ((V (Proc.devRef .tc main_arg2) : IVec S1 32) (ix1 0)) = 1#1 then 1 else 0 : EReal) := by
  pointwise [res_main_v12]
  rw [bit_val, bit_val]
  have e : (⟨r.val / 512, by omega⟩ : Fin 72) = i := Fin.ext hi.symm
  rw [e, ← hi]
  simp only [eq_word]
  by_cases h1 : o.val = ((V (Proc.devRef .tc main_arg1) : IVec S72 32) (ix1 i)).toNat <;>
  by_cases h2 : IntOp.cmpi .slt (BitVec.ofNat 32 i.val) ((V (Proc.devRef .tc main_arg2) : IVec S1 32) (ix1 0)) = 1#1 <;>
  simp [h1, h2]

/-- The reference's first five terms, … -/
theorem first_five : (res_main_v88 V : FVec Ideal S36864x1024 .f32) = (addf (addf (addf (addf (addf (broadcastInDim S36864x1024 ![] bcast_S_S36864x1024 (constant S_ .f32 0x00000000#32))
    (term (V (Proc.devRef .tc main_arg0)) (V (Proc.devRef .tc main_arg3)) (V (Proc.devRef .tc main_arg4)) (V (Proc.devRef .tc main_arg5)) (res_main_v12 V) 0 slices_S8x1024x3584_S1x1024x3584_0_0_0 slices_S8x3584x1024_S1x3584x1024_0_0_0 slices_S36864x8_S36864x1_0_0))
    (term (V (Proc.devRef .tc main_arg0)) (V (Proc.devRef .tc main_arg3)) (V (Proc.devRef .tc main_arg4)) (V (Proc.devRef .tc main_arg5)) (res_main_v12 V) 1 slices_S8x1024x3584_S1x1024x3584_1_0_0 slices_S8x3584x1024_S1x3584x1024_1_0_0 slices_S36864x8_S36864x1_0_1))
    (term (V (Proc.devRef .tc main_arg0)) (V (Proc.devRef .tc main_arg3)) (V (Proc.devRef .tc main_arg4)) (V (Proc.devRef .tc main_arg5)) (res_main_v12 V) 2 slices_S8x1024x3584_S1x1024x3584_2_0_0 slices_S8x3584x1024_S1x3584x1024_2_0_0 slices_S36864x8_S36864x1_0_2))
    (term (V (Proc.devRef .tc main_arg0)) (V (Proc.devRef .tc main_arg3)) (V (Proc.devRef .tc main_arg4)) (V (Proc.devRef .tc main_arg5)) (res_main_v12 V) 3 slices_S8x1024x3584_S1x1024x3584_3_0_0 slices_S8x3584x1024_S1x3584x1024_3_0_0 slices_S36864x8_S36864x1_0_3))
    (term (V (Proc.devRef .tc main_arg0)) (V (Proc.devRef .tc main_arg3)) (V (Proc.devRef .tc main_arg4)) (V (Proc.devRef .tc main_arg5)) (res_main_v12 V) 4 slices_S8x1024x3584_S1x1024x3584_4_0_0 slices_S8x3584x1024_S1x3584x1024_4_0_0 slices_S36864x8_S36864x1_0_4)) := rfl

/-- … and all eight. -/
def total : FVec Ideal S36864x1024 .f32 := addf (addf (addf (res_main_v88 V)
    (term (V (Proc.devRef .tc main_arg0)) (V (Proc.devRef .tc main_arg3)) (V (Proc.devRef .tc main_arg4)) (V (Proc.devRef .tc main_arg5)) (res_main_v12 V) 5 slices_S8x1024x3584_S1x1024x3584_5_0_0 slices_S8x3584x1024_S1x3584x1024_5_0_0 slices_S36864x8_S36864x1_0_5))
    (term (V (Proc.devRef .tc main_arg0)) (V (Proc.devRef .tc main_arg3)) (V (Proc.devRef .tc main_arg4)) (V (Proc.devRef .tc main_arg5)) (res_main_v12 V) 6 slices_S8x1024x3584_S1x1024x3584_6_0_0 slices_S8x3584x1024_S1x3584x1024_6_0_0 slices_S36864x8_S36864x1_0_6))
    (term (V (Proc.devRef .tc main_arg0)) (V (Proc.devRef .tc main_arg3)) (V (Proc.devRef .tc main_arg4)) (V (Proc.devRef .tc main_arg5)) (res_main_v12 V) 7 slices_S8x1024x3584_S1x1024x3584_7_0_0 slices_S8x3584x1024_S1x3584x1024_7_0_0 slices_S36864x8_S36864x1_0_7)

theorem zero_at (y : S36864x1024.Idx) : ((broadcastInDim S36864x1024 ![] bcast_S_S36864x1024 (constant S_ .f32 0x00000000#32)) : FVec Ideal S36864x1024 .f32) y = 0 := by
  pointwise

/-- The reference's result at a row: its tile's expert's, where the tile is in use. -/
theorem total_at (r : Fin 36864) (j : Fin 1024) (i : Fin 72) (hi : i.val = r.val / 512) (e : Fin 8) (he : e.val = ((V (Proc.devRef .tc main_arg1) : IVec S72 32) (ix1 i)).toNat) :
    total V (ix2 r j) = if IntOp.cmpi .slt (BitVec.ofNat 32 i.val) ((V (Proc.devRef .tc main_arg2) : IVec S1 32) (ix1 0)) = 1#1 then
      row (V (Proc.devRef .tc main_arg0)) (V (Proc.devRef .tc main_arg3)) (V (Proc.devRef .tc main_arg4)) (V (Proc.devRef .tc main_arg5)) e r j else 0 := by
  rw [← one_of_eight (fun o => row (V (Proc.devRef .tc main_arg0)) (V (Proc.devRef .tc main_arg3)) (V (Proc.devRef .tc main_arg4)) (V (Proc.devRef .tc main_arg5)) o r j) e
    (fun o => (res_main_v12 V : FVec Ideal S36864x8 .f32) (ix2 r o)) _ (fun o => by
      rw [combine_at V r o i hi, ← he]
      simp only [Fin.ext_iff])]
  unfold total
  rw [first_five]
  exact congrArg₂ (· + ·) (congrArg₂ (· + ·) (congrArg₂ (· + ·) (congrArg₂ (· + ·) (congrArg₂ (· + ·) (congrArg₂ (· + ·) (congrArg₂ (· + ·) (congrArg₂ (· + ·) (zero_at (ix2 r j))
    (term_at _ _ _ _ _ 0 slices_S8x1024x3584_S1x1024x3584_0_0_0 slices_S8x3584x1024_S1x3584x1024_0_0_0 slices_S36864x8_S36864x1_0_0 r j))
    (term_at _ _ _ _ _ 1 slices_S8x1024x3584_S1x1024x3584_1_0_0 slices_S8x3584x1024_S1x3584x1024_1_0_0 slices_S36864x8_S36864x1_0_1 r j))
    (term_at _ _ _ _ _ 2 slices_S8x1024x3584_S1x1024x3584_2_0_0 slices_S8x3584x1024_S1x3584x1024_2_0_0 slices_S36864x8_S36864x1_0_2 r j))
    (term_at _ _ _ _ _ 3 slices_S8x1024x3584_S1x1024x3584_3_0_0 slices_S8x3584x1024_S1x3584x1024_3_0_0 slices_S36864x8_S36864x1_0_3 r j))
    (term_at _ _ _ _ _ 4 slices_S8x1024x3584_S1x1024x3584_4_0_0 slices_S8x3584x1024_S1x3584x1024_4_0_0 slices_S36864x8_S36864x1_0_4 r j))
    (term_at _ _ _ _ _ 5 slices_S8x1024x3584_S1x1024x3584_5_0_0 slices_S8x3584x1024_S1x3584x1024_5_0_0 slices_S36864x8_S36864x1_0_5 r j))
    (term_at _ _ _ _ _ 6 slices_S8x1024x3584_S1x1024x3584_6_0_0 slices_S8x3584x1024_S1x3584x1024_6_0_0 slices_S36864x8_S36864x1_0_6 r j))
    (term_at _ _ _ _ _ 7 slices_S8x1024x3584_S1x1024x3584_7_0_0 slices_S8x3584x1024_S1x3584x1024_7_0_0 slices_S36864x8_S36864x1_0_7 r j)

end Cert.Reference2Ideal.Experts
end
-- ==== Proof.ExpertsValue.lean ====
/-
  The experts' result is the reference's, and the experts' claims.
-/
module

public import proofs.«01_k».proof.Proof.ExpertsTile
public import proofs.«01_k».proof.Proof.ExpertsRef
public import Idealize.ShloMosaic.Lib.Quiescent
public import Idealize.ShloMosaic.Adequacy

@[expose] public section

set_option maxRecDepth 16384

noncomputable section

namespace Cert

open Idealize.ShloMosaic Idealize.ShloMosaic.TcCoe Idealize.ShloMosaic.ValueKit Idealize.SL.Sem Idealize.ShloMosaic.StableHlo

/-- The two results, as arrays of the same arguments. -/
theorem experts_agree (m : (ℓ : Loc Kernel2Ideal.nD Kernel2Ideal.τ Kernel2Ideal.sig) → Buf (Elt Ideal) ℓ)
    (m' : (ℓ : Loc Reference2Ideal.nD Reference2Ideal.τ Reference2Ideal.sig) → Buf (Elt Ideal) ℓ) (c : Dev Kernel2Ideal.nD)
    (h : ∀ n : Kernel2Ideal.S72.Idx, (m (((0 : Dev Kernel2Ideal.nD) : Thread Kernel2Ideal.nD Kernel2Ideal.τ).loc Kernel2Ideal.main_arg1) n : BitVec 32).toNat < 8)
    (h0 : m' ((c : Thread Reference2Ideal.nD Reference2Ideal.τ).loc Reference2Ideal.main_arg0) = m ((c : Thread Kernel2Ideal.nD Kernel2Ideal.τ).loc Kernel2Ideal.main_arg0))
    (h1 : m' ((c : Thread Reference2Ideal.nD Reference2Ideal.τ).loc Reference2Ideal.main_arg1) = m ((c : Thread Kernel2Ideal.nD Kernel2Ideal.τ).loc Kernel2Ideal.main_arg1))
    (h2 : m' ((c : Thread Reference2Ideal.nD Reference2Ideal.τ).loc Reference2Ideal.main_arg2) = m ((c : Thread Kernel2Ideal.nD Kernel2Ideal.τ).loc Kernel2Ideal.main_arg2))
    (h3 : m' ((c : Thread Reference2Ideal.nD Reference2Ideal.τ).loc Reference2Ideal.main_arg3) = m ((c : Thread Kernel2Ideal.nD Kernel2Ideal.τ).loc Kernel2Ideal.main_arg3))
    (h4 : m' ((c : Thread Reference2Ideal.nD Reference2Ideal.τ).loc Reference2Ideal.main_arg4) = m ((c : Thread Kernel2Ideal.nD Kernel2Ideal.τ).loc Kernel2Ideal.main_arg4))
    (h5 : m' ((c : Thread Reference2Ideal.nD Reference2Ideal.τ).loc Reference2Ideal.main_arg5) = m ((c : Thread Kernel2Ideal.nD Kernel2Ideal.τ).loc Kernel2Ideal.main_arg5)) :
    Reference2Ideal.Experts.total (launchContents m' c)
      = Kernel2Ideal.Experts.result (Kernel2Ideal.Experts.adm m h) m c fun i => ⟨Kernel2Ideal.Experts.te (Kernel2Ideal.Experts.adm m h) i, h _⟩ := by
  have ec : c = 0 := Subsingleton.elim _ _
  subst ec
  funext y
  have hy : y = ix2 (y 0) (y 1) := by blk_ext []
  rw [hy]
  have hr : (y 0).val < 36864 := (y 0).isLt
  have e1 : (launchContents m' 0) (Proc.devRef .tc Reference2Ideal.main_arg1) = m (((0 : Dev Kernel2Ideal.nD) : Thread Kernel2Ideal.nD Kernel2Ideal.τ).loc Kernel2Ideal.main_arg1) := h1
  have e0 : (launchContents m' 0) (Proc.devRef .tc Reference2Ideal.main_arg0) = m (((0 : Dev Kernel2Ideal.nD) : Thread Kernel2Ideal.nD Kernel2Ideal.τ).loc Kernel2Ideal.main_arg0) := h0
  have e2 : (launchContents m' 0) (Proc.devRef .tc Reference2Ideal.main_arg2) = m (((0 : Dev Kernel2Ideal.nD) : Thread Kernel2Ideal.nD Kernel2Ideal.τ).loc Kernel2Ideal.main_arg2) := h2
  have e3 : (launchContents m' 0) (Proc.devRef .tc Reference2Ideal.main_arg3) = m (((0 : Dev Kernel2Ideal.nD) : Thread Kernel2Ideal.nD Kernel2Ideal.τ).loc Kernel2Ideal.main_arg3) := h3
  have e4 : (launchContents m' 0) (Proc.devRef .tc Reference2Ideal.main_arg4) = m (((0 : Dev Kernel2Ideal.nD) : Thread Kernel2Ideal.nD Kernel2Ideal.τ).loc Kernel2Ideal.main_arg4) := h4
  have e5 : (launchContents m' 0) (Proc.devRef .tc Reference2Ideal.main_arg5) = m (((0 : Dev Kernel2Ideal.nD) : Thread Kernel2Ideal.nD Kernel2Ideal.τ).loc Kernel2Ideal.main_arg5) := h5
  refine (Reference2Ideal.Experts.total_at (launchContents m' 0) (y 0) (y 1) ⟨(y 0).val / 512, by omega⟩ rfl
    ⟨Kernel2Ideal.Experts.te (Kernel2Ideal.Experts.adm m h) ⟨(y 0).val / 512, by omega⟩, h _⟩ (by rw [e1]; rfl)).trans ?_
  rw [e0, e2, e3, e4, e5]
  unfold Kernel2Ideal.Experts.result
  refine if_congr ?_ rfl rfl
  refine Iff.of_eq (congrArg (fun w : BitVec 32 => IntOp.cmpi .slt (BitVec.ofNat 32 ((y 0).val / 512)) w = 1#1) ?_)
  refine congrArg (m (((0 : Dev Kernel2Ideal.nD) : Thread Kernel2Ideal.nD Kernel2Ideal.τ).loc Kernel2Ideal.main_arg2)) ?_
  funext k
  match k with
  | ⟨0, _⟩ => exact @Subsingleton.elim (Fin 1) inferInstance _ _

/-- The experts' result is the reference's. -/
theorem experts_value : algebraic_Kernel2Ideal_Reference2Ideal := by
  intro m ρ m' ρ' hpre hagree
  have h := experts_of_pre hpre
  refine ⟨_, (θ_run _ _ _).mono (fun r h => h.1) (Kernel2Ideal.Experts.run_main (Kernel2Ideal.Experts.adm m h) m ρ (Kernel2Ideal.Experts.adm_eq m h)),
    (θ_run _ _ _).mono (fun r hr c => ⟨(hr c).1.trans ?_, (hr c).2⟩) (Reference2Ideal.Value.run (F := Ideal) m' ρ')⟩
  obtain ⟨h0, h1, h2, h3, h4, h5⟩ := hagree c
  exact (experts_agree m m' c h h0 h1 h2 h3 h4 h5).trans (Kernel2Ideal.Experts.final _ m ρ c _ fun _ => rfl).symm

/-- The reference ends with its arguments as they were and every semaphore at zero. -/
theorem experts_reference_frame : quiescent_Reference2Ideal := fun m ρ _ =>
  (θ_run Reference2Ideal.defs _ _).mono (fun r h => ⟨fun c => (h c).2, sem_eq_zero_of_no_sems (by decide) r.2⟩) (Reference2Ideal.Value.run (F := Ideal) m ρ)

end Cert
end
-- ==== Proof.PromptBlock.lean ====
/-
  One grid point of the even layer's input call on the prompt, read index by index: the gated rows, the normalized keys and
  the values that it writes, as functions of the point's input blocks.
-/
module

public import proofs.«01_k».proof.Proof.Gen.Kernel3Ideal.Frame
public import Idealize.ShloMosaic.Lib.Pipeline.ValueKit
public import Idealize.ShloMosaic.Lib.Pipeline.ReadBack

@[expose] public section

set_option maxRecDepth 16384

noncomputable section

namespace Cert.Kernel3Ideal.Even

open Cert.Kernel3Ideal Cert.Kernel3Ideal.Gen Idealize.ShloMosaic Idealize.ShloMosaic.TcCoe Idealize.ShloMosaic.ValueKit

/-- Lane `e` of row `n` of a block, normalized by the row's root mean square. -/
def hid (X : FVec Ideal S512x1024 .f32) (G : FVec Ideal S1x1024 .f32) (n : Fin 512) (e : Fin 1024) : EReal :=
  X (ix2 n e) * Ideal.rsqrt (Ideal.div (∑ a : Fin 1024, X (ix2 n a) * X (ix2 n a)) (Ideal.ofBits FTy.f32 0x44800000#32) + Ideal.ofBits FTy.f32 0x358637BD#32)
    * G (ix2 0 e)

/-- Row `n` of a block against column `j` of the first weights. -/
def col (X : FVec Ideal S512x1024 .f32) (G : FVec Ideal S1x1024 .f32) (W : FVec Ideal S1024x1536 .bf16) (n : Fin 512) (j : Fin 1536) : EReal :=
  ∑ e : Fin 1024, hid X G n e * W (ix2 e j)

/-- Row `j` of the transposed weights against row `n` of a block. -/
def lane (X : FVec Ideal S512x1024 .f32) (G : FVec Ideal S1x1024 .f32) (W : FVec Ideal S1024x1024 .bf16) (j : Fin 1024) (n : Fin 512) : EReal :=
  ∑ e : Fin 1024, W (ix2 j e) * hid X G n e

/-- Lane `d` of head `h` of the keys at row `n`, normalized over the head's lanes. -/
def key (X : FVec Ideal S512x1024 .f32) (G : FVec Ideal S1x1024 .f32) (W : FVec Ideal S1024x1024 .bf16) (K : FVec Ideal S64x1 .f32)
    (h : Fin 8) (d : Fin 64) (n : Fin 512) : EReal :=
  lane X G W ⟨h * 64 + d, by omega⟩ n
    * Ideal.rsqrt (Ideal.div (∑ r : Fin 64, lane X G W ⟨h * 64 + r, by omega⟩ n * lane X G W ⟨h * 64 + r, by omega⟩ n) (Ideal.ofBits FTy.f32 0x42800000#32)
        + Ideal.ofBits FTy.f32 0x358637BD#32)
    * K (ix2 d 0)

variable (x0 : FVec Ideal S512x1024 .f32) (x1 : FVec Ideal S1x1024 .f32) (x2 : FVec Ideal S1024x1536 .bf16) (x3 : FVec Ideal S1024x1024 .bf16)
  (x4 : FVec Ideal S1x512 .f32) (x5 : FVec Ideal S64x1 .f32) (x6 : FVec Ideal S512x512 .bf16)

set_option maxHeartbeats 2000000 in
/-- The gated rows. -/
theorem u_block (n : Fin 512) (j : Fin 512) : out0_7 (F := Ideal) x0 x1 x2 x3 x4 x5 x6 (ix2 n j)
    = col x0 x1 x2 n ⟨j, by omega⟩ * Ideal.logistic (col x0 x1 x2 n ⟨512 + j, by omega⟩) := by
  frame_out
  open_payloads
  pointwise [col, hid]

set_option maxHeartbeats 2000000 in
/-- The values. -/
theorem v_block (j n : Fin 512) : out0_10 (F := Ideal) x0 x1 x2 x3 x4 x5 x6 (ix3 0 j n) = lane x0 x1 x3 ⟨512 + j, by omega⟩ n := by
  frame_out
  open_payloads
  pointwise [lane, hid]

set_option maxHeartbeats 2000000 in
/-- The values once more, in half precision. -/
theorem v_half_block (j n : Fin 512) : out0_12 (F := Ideal) x0 x1 x2 x3 x4 x5 x6 (ix3 0 j n) = lane x0 x1 x3 ⟨512 + j, by omega⟩ n := by
  frame_out
  open_payloads
  pointwise [lane, hid]

set_option maxHeartbeats 2000000 in
/-- The keys. -/
theorem k_block (y : S1x512x512.Idx) (h : Fin 8) (d : Fin 64) (n : Fin 512) (hy : (y 1 : ℕ) = h * 64 + d) (hn : (y 2 : ℕ) = n) :
    out0_9 (F := Ideal) x0 x1 x2 x3 x4 x5 x6 y = key x0 x1 x3 x5 h d n := by
  frame_out
  canon_tiles x hx
  case' piece0 => obtain rfl : h = 7 := by omega
  case' piece1 => obtain rfl : h = 6 := by omega
  case' piece2 => obtain rfl : h = 5 := by omega
  case' piece3 => obtain rfl : h = 4 := by omega
  case' piece4 => obtain rfl : h = 3 := by omega
  case' piece5 => obtain rfl : h = 2 := by omega
  case' piece6 => obtain rfl : h = 1 := by omega
  case' piece7 => obtain rfl : h = 0 := by omega
  all_goals obtain rfl : d = x 1 := by omega
  all_goals obtain rfl : n = x 2 := by omega
  all_goals (open_payloads; pointwise [key, lane, hid])

set_option maxHeartbeats 2000000 in
/-- The keys once more, in half precision. -/
theorem k_half_block (y : S1x512x512.Idx) (h : Fin 8) (d : Fin 64) (n : Fin 512) (hy : (y 1 : ℕ) = h * 64 + d) (hn : (y 2 : ℕ) = n) :
    out0_11 (F := Ideal) x0 x1 x2 x3 x4 x5 x6 y = key x0 x1 x3 x5 h d n := by
  frame_out
  canon_tiles x hx
  case' piece0 => obtain rfl : h = 7 := by omega
  case' piece1 => obtain rfl : h = 6 := by omega
  case' piece2 => obtain rfl : h = 5 := by omega
  case' piece3 => obtain rfl : h = 4 := by omega
  case' piece4 => obtain rfl : h = 3 := by omega
  case' piece5 => obtain rfl : h = 2 := by omega
  case' piece6 => obtain rfl : h = 1 := by omega
  case' piece7 => obtain rfl : h = 0 := by omega
  all_goals obtain rfl : d = x 1 := by omega
  all_goals obtain rfl : n = x 2 := by omega
  all_goals (open_payloads; pointwise [key, lane, hid])

end Cert.Kernel3Ideal.Even
end
-- ==== Proof.PromptRef.lean ====
/-
  The reference of the even layer's input call on the prompt, element by element: the gated rows, the normalized keys and the
  values.
-/
module

public import proofs.«01_k».proof.Proof.Gen.Reference3Ideal.Run
public import Idealize.ShloMosaic.Lib.Pipeline.ValueKit

@[expose] public section

set_option maxRecDepth 16384

noncomputable section

namespace Cert.Reference3Ideal.Even

open Cert.Reference3Ideal Cert.Reference3Ideal.Gen Cert.Reference3Ideal.Value Idealize.ShloMosaic Idealize.ShloMosaic.TcCoe Idealize.ShloMosaic.ValueKit

variable (X : FVec Ideal S8x2048x1024 .f32) (G : FVec Ideal S1x1024 .f32) (W : FVec Ideal S1x1024x2560 .f32) (K : FVec Ideal S1x64 .f32)

/-- Lane `e` of a token, normalized by the token's root mean square. -/
def hid (b : Fin 8) (p : Fin 2048) (e : Fin 1024) : EReal :=
  X (ix3 b p e) * Ideal.rsqrt (Ideal.div (∑ a : Fin 1024, X (ix3 b p a) * X (ix3 b p a)) (Ideal.ofBits FTy.f32 0x44800000#32) + Ideal.ofBits FTy.f32 0x358637BD#32)
    * G (ix2 0 e)

/-- A token against column `j` of the weights. -/
def col (b : Fin 8) (p : Fin 2048) (j : Fin 2560) : EReal := ∑ e : Fin 1024, hid X G b p e * W (ix3 0 e j)

/-- Lane `d` of head `h` of a token's key, normalized over the head's lanes. -/
def key (b : Fin 8) (p : Fin 2048) (h : Fin 8) (d : Fin 64) : EReal :=
  col X G W b p ⟨1536 + (h * 64 + d), by omega⟩
    * Ideal.rsqrt (Ideal.div (∑ r : Fin 64, col X G W b p ⟨1536 + (h * 64 + r), by omega⟩ * col X G W b p ⟨1536 + (h * 64 + r), by omega⟩) (Ideal.ofBits FTy.f32 0x42800000#32)
        + Ideal.ofBits FTy.f32 0x358637BD#32)
    * K (ix2 0 d)

/-- The normalized tokens. -/
def norm : FVec Ideal S8x2048x1024 .f32 :=
  mulf (mulf X (broadcastInDim S8x2048x1024 ![0, 1, 2] bcast_S8x2048x1_S8x2048x1024_0_1_2
      (Host.rsqrt (addf (Host.divf (broadcastInDim S8x2048x1 ![0, 1] bcast_S8x2048_S8x2048x1_0_1
          (Host.reduceAdd (mulf X X) (constant S_ .f32 0x00000000#32) reducesTo_S8x2048x1024_S8x2048_d2 h_S_))
        (broadcastInDim S8x2048x1 ![] bcast_S_S8x2048x1 (constant S_ .f32 0x44800000#32)))
        (broadcastInDim S8x2048x1 ![] bcast_S_S8x2048x1 (constant S_ .f32 0x358637BD#32))))))
    (broadcastInDim S8x2048x1024 ![0, 1, 2] bcast_S1x1x1024_S8x2048x1024_0_1_2 (broadcastInDim S1x1x1024 ![2] bcast_S1024_S1x1x1024_2 (shapeCast S1024 G shapeCasts_S1x1024_S1024)))

theorem norm_at (b : Fin 8) (p : Fin 2048) (e : Fin 1024) : norm X G (ix3 b p e) = hid X G b p e := by
  pointwise [norm, hid]

/-- The projection. -/
def proj : FVec Ideal S8x2048x2560 .f32 :=
  Host.dotGeneral dot_S8x2048x1024_S1024x2560_S8x2048x2560_2_0_01_1_n_n none (norm X G) (shapeCast S1024x2560 W shapeCasts_S1x1024x2560_S1024x2560)

theorem proj_at (b : Fin 8) (p : Fin 2048) (j : Fin 2560) : proj X G W (ix3 b p j) = col X G W b p j := by
  unfold col
  simp only [← norm_at]
  pointwise [proj]

/-- The gated rows. -/
def rows : FVec Ideal S16384x512 .f32 :=
  shapeCast S16384x512 (mulf (extractStridedSlice S8x2048x512 ![0, 0, 0] (proj X G W) slices_S8x2048x2560_S8x2048x512_0_0_0)
    (Host.divf (broadcastInDim S8x2048x512 ![] bcast_S_S8x2048x512 (constant S_ .f32 0x3F800000#32))
      (addf (broadcastInDim S8x2048x512 ![] bcast_S_S8x2048x512 (constant S_ .f32 0x3F800000#32))
        (Host.exp (Host.negf (extractStridedSlice S8x2048x512 ![0, 0, 512] (proj X G W) slices_S8x2048x2560_S8x2048x512_0_0_512))))))
    shapeCasts_S8x2048x512_S16384x512

theorem rows_at (b : Fin 8) (p : Fin 2048) (j : Fin 512) : rows X G W (ix2 ⟨b * 2048 + p, by omega⟩ j)
    = col X G W b p ⟨j, by omega⟩ * Ideal.logistic (col X G W b p ⟨512 + j, by omega⟩) := by
  simp only [← proj_at, Ideal.logistic]
  pointwise [rows]

/-- The values, lanes before tokens. -/
def vals : FVec Ideal S8x512x2048 .f32 :=
  shapeCast S8x512x2048 (transpose S8x8x64x2048 [0, 2, 3, 1] (shapeCast S8x2048x8x64 (extractStridedSlice S8x2048x512 ![0, 0, 2048] (proj X G W) slices_S8x2048x2560_S8x2048x512_0_0_2048)
    shapeCasts_S8x2048x512_S8x2048x8x64) transposes_S8x2048x8x64_S8x8x64x2048_0_2_3_1) shapeCasts_S8x8x64x2048_S8x512x2048

theorem vals_at (b : Fin 8) (p : Fin 2048) (j : Fin 512) : vals X G W (ix3 b j p) = col X G W b p ⟨2048 + j, by omega⟩ := by
  simp only [← proj_at]
  pointwise [vals]

/-- The keys' columns by heads. -/
def heads : FVec Ideal S8x2048x8x64 .f32 :=
  shapeCast S8x2048x8x64 (extractStridedSlice S8x2048x512 ![0, 0, 1536] (proj X G W) slices_S8x2048x2560_S8x2048x512_0_0_1536) shapeCasts_S8x2048x512_S8x2048x8x64

theorem heads_at (b : Fin 8) (p : Fin 2048) (h : Fin 8) (d : Fin 64) : heads X G W (ix4 b p h d) = col X G W b p ⟨1536 + (h * 64 + d), by omega⟩ := by
  simp only [← proj_at]
  pointwise [heads]

/-- The keys, lanes before tokens. -/
def keys : FVec Ideal S8x512x2048 .f32 :=
  shapeCast S8x512x2048 (transpose S8x8x64x2048 [0, 2, 3, 1] (mulf (mulf (heads X G W) (broadcastInDim S8x2048x8x64 ![0, 1, 2, 3] bcast_S8x2048x8x1_S8x2048x8x64_0_1_2_3
      (Host.rsqrt (addf (Host.divf (broadcastInDim S8x2048x8x1 ![0, 1, 2] bcast_S8x2048x8_S8x2048x8x1_0_1_2
          (Host.reduceAdd (mulf (heads X G W) (heads X G W)) (constant S_ .f32 0x00000000#32) reducesTo_S8x2048x8x64_S8x2048x8_d3 h_S_))
        (broadcastInDim S8x2048x8x1 ![] bcast_S_S8x2048x8x1 (constant S_ .f32 0x42800000#32)))
        (broadcastInDim S8x2048x8x1 ![] bcast_S_S8x2048x8x1 (constant S_ .f32 0x358637BD#32))))))
    (broadcastInDim S8x2048x8x64 ![0, 1, 2, 3] bcast_S1x1x1x64_S8x2048x8x64_0_1_2_3 (broadcastInDim S1x1x1x64 ![3] bcast_S64_S1x1x1x64_3 (shapeCast S64 K shapeCasts_S1x64_S64))))
    transposes_S8x2048x8x64_S8x8x64x2048_0_2_3_1) shapeCasts_S8x8x64x2048_S8x512x2048

theorem keys_at (b : Fin 8) (p : Fin 2048) (h : Fin 8) (d : Fin 64) (j : Fin 512) (hj : j.val = h * 64 + d) : keys X G W K (ix3 b j p) = key X G W K b p h d := by
  rw [show j = (⟨h.val * 64 + d.val, by omega⟩ : Fin 512) from Fin.ext hj]
  unfold key
  simp only [← heads_at]
  pointwise [keys]

end Cert.Reference3Ideal.Even
end
-- ==== Proof.PromptReads.lean ====
/-
  What a grid point of the even layer's input call on the prompt reads of its blocks, and so what it writes, in the entries of
  the arguments.
-/
module

public import proofs.«01_k».proof.Proof.PromptBlock
public import proofs.«01_k».proof.Proof.PromptRef
public import Idealize.ShloMosaic.Lib.StableHlo.RunRead

@[expose] public section

set_option maxRecDepth 16384

noncomputable section

namespace Cert.Kernel3Ideal.Even

open Cert.Kernel3Ideal Cert.Kernel3Ideal.Gen Idealize.ShloMosaic Idealize.ShloMosaic.TcCoe Idealize.ShloMosaic.ValueKit

variable (m : (ℓ : Loc nD τ sig) → Buf (Elt Ideal) ℓ) (c : Dev nD)

/-- The block each point stages. -/
theorem idx : ∀ t : Fin cfg0.N, win0_0.index t = ![t.val, 0] ∧ win0_1.index t = ![0, 0] ∧ win0_2.index t = ![0, 0] ∧ win0_3.index t = ![0, 0]
    ∧ win0_5.index t = ![0, 0] ∧ win0_7.index t = ![t.val, 0] ∧ win0_9.index t = ![t.val / 4, 0, t.val % 4] ∧ win0_10.index t = ![t.val / 4, 0, t.val % 4]
    ∧ win0_11.index t = ![t.val / 4, 0, t.val % 4] ∧ win0_12.index t = ![t.val / 4, 0, t.val % 4] :=
  (by decide +kernel : ∀ t : Fin grid0.N, win0_0.index t = ![t.val, 0] ∧ win0_1.index t = ![0, 0] ∧ win0_2.index t = ![0, 0] ∧ win0_3.index t = ![0, 0]
    ∧ win0_5.index t = ![0, 0] ∧ win0_7.index t = ![t.val, 0] ∧ win0_9.index t = ![t.val / 4, 0, t.val % 4] ∧ win0_10.index t = ![t.val / 4, 0, t.val % 4]
    ∧ win0_11.index t = ![t.val / 4, 0, t.val % 4] ∧ win0_12.index t = ![t.val / 4, 0, t.val % 4])

/-- The four argument arrays. -/
abbrev argX : FVec Ideal S8x2048x1024 .f32 := m ((c : Thread nD τ).loc main_arg0)
abbrev argG : FVec Ideal S1x1024 .f32 := m ((c : Thread nD τ).loc main_arg1)
abbrev argW : FVec Ideal S1x1024x2560 .f32 := m ((c : Thread nD τ).loc main_arg2)
abbrev argK : FVec Ideal S1x64 .f32 := m ((c : Thread nD τ).loc main_arg4)

set_option maxHeartbeats 1000000 in
theorem ent_x (b : Fin 8) (p : Fin 2048) (e : Fin 1024) : (V m c main_v0 : FVec Ideal S16384x1024 .f32) (ix2 ⟨b * 2048 + p, by omega⟩ e) = argX m c (ix3 b p e) := by
  simp only [V, List.flatten_cons, List.flatten_nil, List.append_nil]; after_reads_simp
  pointwise []

set_option maxHeartbeats 1000000 in
theorem ent_g (e : Fin 1024) : (V m c main_v25 : FVec Ideal S1x1024 .f32) (ix2 0 e) = argG m c (ix2 0 e) := by
  simp only [V, List.flatten_cons, List.flatten_nil, List.append_nil]; after_reads_simp
  pointwise []

set_option maxHeartbeats 1000000 in
theorem ent_w (e : Fin 1024) (j : Fin 1536) : (V m c main_v12 : FVec Ideal S1024x1536 .bf16) (ix2 e j) = argW m c (ix3 0 e ⟨j, by omega⟩) := by
  simp only [V, List.flatten_cons, List.flatten_nil, List.append_nil]; after_reads_simp
  pointwise []

set_option maxHeartbeats 1000000 in
theorem ent_t (j : Fin 1024) (e : Fin 1024) : (V m c main_v16 : FVec Ideal S1024x1024 .bf16) (ix2 j e) = argW m c (ix3 0 e ⟨1536 + j, by omega⟩) := by
  simp only [V, List.flatten_cons, List.flatten_nil, List.append_nil]; after_reads_simp
  pointwise []

set_option maxHeartbeats 1000000 in
theorem ent_k (d : Fin 64) : (V m c main_v23 : FVec Ideal S64x1 .f32) (ix2 d 0) = argK m c (ix2 0 d) := by
  simp only [V, List.flatten_cons, List.flatten_nil, List.append_nil]; after_reads_simp
  pointwise []

variable (t : Fin cfg0.N)

/-- A point's tokens. -/
theorem rd_x (b : Fin 8) (j : Fin 4) (ht : t.val = b * 4 + j) (n : Fin 512) (e : Fin 1024) :
    (iblk m c 0 t : FVec Ideal S512x1024 .f32) (ix2 n e) = argX m c (ix3 b ⟨j * 512 + n, by omega⟩ e) := by
  blk_simp [iblk]
  refine (congrArg (V m c main_v0) ?_).trans (ent_x m c b ⟨j * 512 + n, by omega⟩ e)
  blk_ext [idx t]

theorem rd_g (e : Fin 1024) : (iblk m c 1 t : FVec Ideal S1x1024 .f32) (ix2 0 e) = argG m c (ix2 0 e) := by
  blk_simp [iblk]
  refine (congrArg (V m c main_v25) ?_).trans (ent_g m c e)
  blk_ext [idx t]

theorem rd_w (e : Fin 1024) (j : Fin 1536) : (iblk m c 2 t : FVec Ideal S1024x1536 .bf16) (ix2 e j) = argW m c (ix3 0 e ⟨j, by omega⟩) := by
  blk_simp [iblk]
  refine (congrArg (V m c main_v12) ?_).trans (ent_w m c e j)
  blk_ext [idx t]

theorem rd_t (j : Fin 1024) (e : Fin 1024) : (iblk m c 3 t : FVec Ideal S1024x1024 .bf16) (ix2 j e) = argW m c (ix3 0 e ⟨1536 + j, by omega⟩) := by
  blk_simp [iblk]
  refine (congrArg (V m c main_v16) ?_).trans (ent_t m c j e)
  blk_ext [idx t]

theorem rd_k (d : Fin 64) : (iblk m c 5 t : FVec Ideal S64x1 .f32) (ix2 d 0) = argK m c (ix2 0 d) := by
  blk_simp [iblk]
  refine (congrArg (V m c main_v23) ?_).trans (ent_k m c d)
  blk_ext [idx t]

/-- A block's normalized lane is the token's. -/
theorem hid_eq (b : Fin 8) (j : Fin 4) (ht : t.val = b * 4 + j) (n : Fin 512) (e : Fin 1024) :
    hid (iblk m c 0 t) (iblk m c 1 t) n e = Cert.Reference3Ideal.Even.hid (argX m c) (argG m c) b ⟨j * 512 + n, by omega⟩ e := by
  unfold hid Cert.Reference3Ideal.Even.hid
  simp only [rd_x m c t b j ht, rd_g]

/-- A block's column is the token's, … -/
theorem col_eq (b : Fin 8) (j : Fin 4) (ht : t.val = b * 4 + j) (n : Fin 512) (q : Fin 1536) :
    col (iblk m c 0 t) (iblk m c 1 t) (iblk m c 2 t) n q = Cert.Reference3Ideal.Even.col (argX m c) (argG m c) (argW m c) b ⟨j * 512 + n, by omega⟩ ⟨q, by omega⟩ := by
  unfold col Cert.Reference3Ideal.Even.col
  simp only [hid_eq m c t b j ht, rd_w]

/-- … and so is a transposed one. -/
theorem lane_eq (b : Fin 8) (j : Fin 4) (ht : t.val = b * 4 + j) (n : Fin 512) (q : Fin 1024) :
    lane (iblk m c 0 t) (iblk m c 1 t) (iblk m c 3 t) q n = Cert.Reference3Ideal.Even.col (argX m c) (argG m c) (argW m c) b ⟨j * 512 + n, by omega⟩ ⟨1536 + q, by omega⟩ := by
  unfold lane Cert.Reference3Ideal.Even.col
  simp only [hid_eq m c t b j ht, rd_t]
  exact Finset.sum_congr rfl fun e _ => mul_comm _ _

/-- A block's key is the token's. -/
theorem key_eq (b : Fin 8) (j : Fin 4) (ht : t.val = b * 4 + j) (n : Fin 512) (h : Fin 8) (d : Fin 64) :
    key (iblk m c 0 t) (iblk m c 1 t) (iblk m c 3 t) (iblk m c 5 t) h d n
      = Cert.Reference3Ideal.Even.key (argX m c) (argG m c) (argW m c) (argK m c) b ⟨j * 512 + n, by omega⟩ h d := by
  unfold key Cert.Reference3Ideal.Even.key
  simp only [lane_eq m c t b j ht, rd_k]

end Cert.Kernel3Ideal.Even
end
-- ==== Proof.PromptValue.lean ====
/-
  The even layer's input call on the prompt: its five results are the reference's.
-/
module

public import proofs.«01_k».proof.Defs
public import proofs.«01_k».proof.Proof.Gen.Kernel3Ideal.Value
public import proofs.«01_k».proof.Proof.PromptReads
public import Idealize.ShloMosaic.Lib.Quiescent
public import Idealize.ShloMosaic.Adequacy
public import Idealize.ShloMosaic.Init

@[expose] public section

set_option maxRecDepth 16384

noncomputable section

namespace Cert.Kernel3Ideal.Even

open Cert.Kernel3Ideal Cert.Kernel3Ideal.Gen Idealize.ShloMosaic Idealize.ShloMosaic.TcCoe Idealize.ShloMosaic.ValueKit

variable (m : (ℓ : Loc nD τ sig) → Buf (Elt Ideal) ℓ) (c : Dev nD)

variable (t : Fin cfg0.N) (b : Fin 8) (j : Fin 4) (ht : t.val = b * 4 + j)

include ht in
/-- A block's gated row is the token's, … -/
theorem u_at (n q : Fin 512) : out0_7 (F := Ideal) (iblk m c 0 t) (iblk m c 1 t) (iblk m c 2 t) (iblk m c 3 t) (iblk m c 4 t) (iblk m c 5 t) (iblk m c 6 t) (ix2 n q)
    = Cert.Reference3Ideal.Even.rows (argX m c) (argG m c) (argW m c) (ix2 ⟨b * 2048 + (j * 512 + n), by omega⟩ q) := by
  rw [u_block, col_eq m c t b j ht, col_eq m c t b j ht]
  exact (Cert.Reference3Ideal.Even.rows_at (argX m c) (argG m c) (argW m c) b ⟨j * 512 + n, by omega⟩ q).symm

include ht in
/-- … so are its values, … -/
theorem v_at (q n : Fin 512) : out0_10 (F := Ideal) (iblk m c 0 t) (iblk m c 1 t) (iblk m c 2 t) (iblk m c 3 t) (iblk m c 4 t) (iblk m c 5 t) (iblk m c 6 t) (ix3 0 q n)
    = Cert.Reference3Ideal.Even.vals (argX m c) (argG m c) (argW m c) (ix3 b q ⟨j * 512 + n, by omega⟩) := by
  rw [v_block, lane_eq m c t b j ht, Cert.Reference3Ideal.Even.vals_at]
  exact congrArg _ (Fin.ext (by show 1536 + (512 + q.val) = 2048 + q.val; omega))

include ht in
/-- … in half precision too, … -/
theorem v_half_at (q n : Fin 512) : out0_12 (F := Ideal) (iblk m c 0 t) (iblk m c 1 t) (iblk m c 2 t) (iblk m c 3 t) (iblk m c 4 t) (iblk m c 5 t) (iblk m c 6 t) (ix3 0 q n)
    = Cert.Reference3Ideal.Even.vals (argX m c) (argG m c) (argW m c) (ix3 b q ⟨j * 512 + n, by omega⟩) := by
  rw [v_half_block, lane_eq m c t b j ht, Cert.Reference3Ideal.Even.vals_at]
  exact congrArg _ (Fin.ext (by show 1536 + (512 + q.val) = 2048 + q.val; omega))

include ht in
/-- … and its keys, … -/
theorem k_at (y : S1x512x512.Idx) (q n : Fin 512) (hq : (y 1 : ℕ) = q) (hn : (y 2 : ℕ) = n) : out0_9 (F := Ideal) (iblk m c 0 t) (iblk m c 1 t) (iblk m c 2 t) (iblk m c 3 t) (iblk m c 4 t) (iblk m c 5 t) (iblk m c 6 t) y
    = Cert.Reference3Ideal.Even.keys (argX m c) (argG m c) (argW m c) (argK m c) (ix3 b q ⟨j * 512 + n, by omega⟩) := by
  rw [k_block _ _ _ _ _ _ _ y ⟨q / 64, by omega⟩ ⟨q % 64, by omega⟩ n (by show (y 1 : ℕ) = q / 64 * 64 + q % 64; omega) hn, key_eq m c t b j ht]
  exact (Cert.Reference3Ideal.Even.keys_at (argX m c) (argG m c) (argW m c) (argK m c) b ⟨j * 512 + n, by omega⟩ ⟨q / 64, by omega⟩ ⟨q % 64, by omega⟩ q
    (by show q.val = q / 64 * 64 + q % 64; omega)).symm

include ht in
/-- … in half precision too. -/
theorem k_half_at (y : S1x512x512.Idx) (q n : Fin 512) (hq : (y 1 : ℕ) = q) (hn : (y 2 : ℕ) = n) : out0_11 (F := Ideal) (iblk m c 0 t) (iblk m c 1 t) (iblk m c 2 t) (iblk m c 3 t) (iblk m c 4 t) (iblk m c 5 t) (iblk m c 6 t) y
    = Cert.Reference3Ideal.Even.keys (argX m c) (argG m c) (argW m c) (argK m c) (ix3 b q ⟨j * 512 + n, by omega⟩) := by
  rw [k_half_block _ _ _ _ _ _ _ y ⟨q / 64, by omega⟩ ⟨q % 64, by omega⟩ n (by show (y 1 : ℕ) = q / 64 * 64 + q % 64; omega) hn, key_eq m c t b j ht]
  exact (Cert.Reference3Ideal.Even.keys_at (argX m c) (argG m c) (argW m c) (argK m c) b ⟨j * 512 + n, by omega⟩ ⟨q / 64, by omega⟩ ⟨q % 64, by omega⟩ q
    (by show q.val = q / 64 * 64 + q % 64; omega)).symm

theorem final_rows : (dats m 0 c).arrAt 7 cfg0.N = (Cert.Reference3Ideal.Even.rows (argX m c) (argG m c) (argW m c) : FVec Ideal S16384x512 .f32) := by
  refine (dats m 0 c).arrAt_eq_of_covers 7 _ (by decide +kernel) fun t _ y => ?_
  blk_simp
  rw [after0_7]
  have ht : t.val < 32 := t.isLt
  refine (congrArg _ (show y = ix2 (y 0) (y 1) by blk_ext [])).trans ((u_at m c t ⟨t.val / 4, by omega⟩ ⟨t.val % 4, by omega⟩ (by show t.val = t.val / 4 * 4 + t.val % 4; omega) (y 0) (y 1)).trans ?_)
  refine congrArg (Cert.Reference3Ideal.Even.rows (argX m c) (argG m c) (argW m c)) ?_
  blk_ext [idx t]

theorem final_keys : (dats m 0 c).arrAt 9 cfg0.N = (Cert.Reference3Ideal.Even.keys (argX m c) (argG m c) (argW m c) (argK m c) : FVec Ideal S8x512x2048 .f32) := by
  refine (dats m 0 c).arrAt_eq_of_covers 9 _ (by decide +kernel) fun t _ y => ?_
  blk_simp
  rw [after0_9]
  have ht : t.val < 32 := t.isLt
  refine (k_at m c t ⟨t.val / 4, by omega⟩ ⟨t.val % 4, by omega⟩ (by show t.val = t.val / 4 * 4 + t.val % 4; omega) y (y 1) (y 2) rfl rfl).trans ?_
  refine congrArg (Cert.Reference3Ideal.Even.keys (argX m c) (argG m c) (argW m c) (argK m c)) ?_
  blk_ext [idx t]

theorem final_vals : (dats m 0 c).arrAt 10 cfg0.N = (Cert.Reference3Ideal.Even.vals (argX m c) (argG m c) (argW m c) : FVec Ideal S8x512x2048 .f32) := by
  refine (dats m 0 c).arrAt_eq_of_covers 10 _ (by decide +kernel) fun t _ y => ?_
  blk_simp
  rw [after0_10]
  have ht : t.val < 32 := t.isLt
  refine (congrArg _ (show y = ix3 0 (y 1) (y 2) by blk_ext [])).trans ((v_at m c t ⟨t.val / 4, by omega⟩ ⟨t.val % 4, by omega⟩ (by show t.val = t.val / 4 * 4 + t.val % 4; omega) (y 1) (y 2)).trans ?_)
  refine congrArg (Cert.Reference3Ideal.Even.vals (argX m c) (argG m c) (argW m c)) ?_
  blk_ext [idx t]

theorem final_keys_half : (dats m 0 c).arrAt 11 cfg0.N = (Cert.Reference3Ideal.Even.keys (argX m c) (argG m c) (argW m c) (argK m c) : FVec Ideal S8x512x2048 .f32) := by
  refine (dats m 0 c).arrAt_eq_of_covers 11 _ (by decide +kernel) fun t _ y => ?_
  blk_simp
  rw [after0_11]
  have ht : t.val < 32 := t.isLt
  refine (k_half_at m c t ⟨t.val / 4, by omega⟩ ⟨t.val % 4, by omega⟩ (by show t.val = t.val / 4 * 4 + t.val % 4; omega) y (y 1) (y 2) rfl rfl).trans ?_
  refine congrArg (Cert.Reference3Ideal.Even.keys (argX m c) (argG m c) (argW m c) (argK m c)) ?_
  blk_ext [idx t]

theorem final_vals_half : (dats m 0 c).arrAt 12 cfg0.N = (Cert.Reference3Ideal.Even.vals (argX m c) (argG m c) (argW m c) : FVec Ideal S8x512x2048 .f32) := by
  refine (dats m 0 c).arrAt_eq_of_covers 12 _ (by decide +kernel) fun t _ y => ?_
  blk_simp
  rw [after0_12]
  have ht : t.val < 32 := t.isLt
  refine (congrArg _ (show y = ix3 0 (y 1) (y 2) by blk_ext [])).trans ((v_half_at m c t ⟨t.val / 4, by omega⟩ ⟨t.val % 4, by omega⟩ (by show t.val = t.val / 4 * 4 + t.val % 4; omega) (y 1) (y 2)).trans ?_)
  refine congrArg (Cert.Reference3Ideal.Even.vals (argX m c) (argG m c) (argW m c)) ?_
  blk_ext [idx t]

end Cert.Kernel3Ideal.Even

namespace Cert.Proof

open Idealize.ShloMosaic Idealize.SL.Sem

/-- The reference ends with its arguments as they were and every semaphore at zero. -/
theorem prompt_reference_frame : Cert.quiescent_Reference3Ideal (hReference3Ideal := Cert.Reference3Ideal.Gen.facts) :=
  fun m ρ _ => (θ_run Cert.Reference3Ideal.defs _ _).mono
    (fun r h => ⟨fun c => (h c).2.2.2.2.2, sem_eq_zero_of_no_sems (by decide) r.2⟩) (Cert.Reference3Ideal.Value.run (F := Ideal) m ρ)

set_option maxHeartbeats 1000000 in
/-- The call's five results are the reference's. -/
theorem prompt_value : Cert.algebraic_Kernel3Ideal_Reference3Ideal (hKernel3Ideal := Cert.Kernel3Ideal.Gen.facts) (hReference3Ideal := Cert.Reference3Ideal.Gen.facts) := by
  intro m ρ m' ρ' _ hagree
  refine ⟨fun c => (Cert.Kernel3Ideal.Gen.dats m 0 c).arrAt 7 Cert.Kernel3Ideal.cfg0.N, fun c => (Cert.Kernel3Ideal.Gen.dats m 0 c).arrAt 9 Cert.Kernel3Ideal.cfg0.N,
    fun c => (Cert.Kernel3Ideal.Gen.dats m 0 c).arrAt 10 Cert.Kernel3Ideal.cfg0.N, fun c => (Cert.Kernel3Ideal.Gen.dats m 0 c).arrAt 11 Cert.Kernel3Ideal.cfg0.N,
    fun c => (Cert.Kernel3Ideal.Gen.dats m 0 c).arrAt 12 Cert.Kernel3Ideal.cfg0.N,
    (θ_run _ _ _).mono (fun r h c => ?_) (Cert.Kernel3Ideal.Value.run_blocks m ρ), (θ_run _ _ _).mono (fun r h c => ?_) (Cert.Reference3Ideal.Value.run (F := Ideal) m' ρ')⟩
  · obtain ⟨hu, _, hk, hv, hkb, hvb, ha⟩ := h c
    exact ⟨hu, hk, hv, hkb, hvb, ha⟩
  · obtain ⟨hu, hk, hv, hkb, hvb, ha⟩ := h c
    obtain ⟨h0, h1, h2, h3, h4⟩ := hagree c
    refine ⟨hu.trans ?_, hk.trans ?_, hv.trans ?_, hkb.trans ?_, hvb.trans ?_, ha⟩
    · rw [h0, h1, h2]
      exact (Cert.Kernel3Ideal.Even.final_rows m c).symm
    · unfold Cert.Reference3Ideal.Value.res_main_v45
      rw [h0, h1, h2, h4]
      exact (Cert.Kernel3Ideal.Even.final_keys m c).symm
    · rw [h0, h1, h2]
      exact (Cert.Kernel3Ideal.Even.final_vals m c).symm
    · unfold Cert.Reference3Ideal.Value.res_main_v49
      rw [h0, h1, h2, h4]
      exact (Cert.Kernel3Ideal.Even.final_keys_half m c).symm
    · rw [h0, h1, h2]
      exact (Cert.Kernel3Ideal.Even.final_vals_half m c).symm

end Cert.Proof
end
-- ==== Proof.SampleBlock.lean ====
/-
  One grid point of the even layer's input call on the samples, read index by index: the gated rows, the normalized keys and
  the values that it writes, as functions of the point's input blocks.
-/
module

public import proofs.«01_k».proof.Proof.Gen.Kernel4Ideal.Frame
public import Idealize.ShloMosaic.Lib.Pipeline.ValueKit
public import Idealize.ShloMosaic.Lib.Pipeline.ReadBack

@[expose] public section

set_option maxRecDepth 16384

noncomputable section

namespace Cert.Kernel4Ideal.Even

open Cert.Kernel4Ideal Cert.Kernel4Ideal.Gen Idealize.ShloMosaic Idealize.ShloMosaic.TcCoe Idealize.ShloMosaic.ValueKit

/-- Lane `e` of row `n` of a block, normalized by the row's root mean square. -/
def hid (X : FVec Ideal S128x1024 .f32) (G : FVec Ideal S1x1024 .f32) (n : Fin 128) (e : Fin 1024) : EReal :=
  X (ix2 n e) * Ideal.rsqrt (Ideal.div (∑ a : Fin 1024, X (ix2 n a) * X (ix2 n a)) (Ideal.ofBits FTy.f32 0x44800000#32) + Ideal.ofBits FTy.f32 0x358637BD#32)
    * G (ix2 0 e)

/-- Row `n` of a block against column `j` of the first weights. -/
def col (X : FVec Ideal S128x1024 .f32) (G : FVec Ideal S1x1024 .f32) (W : FVec Ideal S1024x1536 .bf16) (n : Fin 128) (j : Fin 1536) : EReal :=
  ∑ e : Fin 1024, hid X G n e * W (ix2 e j)

/-- Row `j` of the transposed weights against row `n` of a block. -/
def lane (X : FVec Ideal S128x1024 .f32) (G : FVec Ideal S1x1024 .f32) (W : FVec Ideal S1024x1024 .bf16) (j : Fin 1024) (n : Fin 128) : EReal :=
  ∑ e : Fin 1024, W (ix2 j e) * hid X G n e

/-- Lane `d` of head `h` of the keys at row `n`, normalized over the head's lanes. -/
def key (X : FVec Ideal S128x1024 .f32) (G : FVec Ideal S1x1024 .f32) (W : FVec Ideal S1024x1024 .bf16) (K : FVec Ideal S64x1 .f32)
    (h : Fin 8) (d : Fin 64) (n : Fin 128) : EReal :=
  lane X G W ⟨h * 64 + d, by omega⟩ n
    * Ideal.rsqrt (Ideal.div (∑ r : Fin 64, lane X G W ⟨h * 64 + r, by omega⟩ n * lane X G W ⟨h * 64 + r, by omega⟩ n) (Ideal.ofBits FTy.f32 0x42800000#32)
        + Ideal.ofBits FTy.f32 0x358637BD#32)
    * K (ix2 d 0)

variable (x0 : FVec Ideal S128x1024 .f32) (x1 : FVec Ideal S1x1024 .f32) (x2 : FVec Ideal S1024x1536 .bf16) (x3 : FVec Ideal S1024x1024 .bf16)
  (x4 : FVec Ideal S1x512 .f32) (x5 : FVec Ideal S64x1 .f32) (x6 : FVec Ideal S512x512 .bf16)

set_option maxHeartbeats 2000000 in
/-- The gated rows. -/
theorem u_block (n : Fin 128) (j : Fin 512) : out0_7 (F := Ideal) x0 x1 x2 x3 x4 x5 x6 (ix2 n j)
    = col x0 x1 x2 n ⟨j, by omega⟩ * Ideal.logistic (col x0 x1 x2 n ⟨512 + j, by omega⟩) := by
  frame_out
  open_payloads
  pointwise [col, hid]

set_option maxHeartbeats 2000000 in
/-- The values. -/
theorem v_block (j : Fin 512) (n : Fin 128) : out0_10 (F := Ideal) x0 x1 x2 x3 x4 x5 x6 (ix3 0 j n) = lane x0 x1 x3 ⟨512 + j, by omega⟩ n := by
  frame_out
  open_payloads
  pointwise [lane, hid]

set_option maxHeartbeats 2000000 in
/-- The values once more, in half precision. -/
theorem v_half_block (j : Fin 512) (n : Fin 128) : out0_12 (F := Ideal) x0 x1 x2 x3 x4 x5 x6 (ix3 0 j n) = lane x0 x1 x3 ⟨512 + j, by omega⟩ n := by
  frame_out
  open_payloads
  pointwise [lane, hid]

set_option maxHeartbeats 2000000 in
/-- The keys. -/
theorem k_block (y : S1x512x128.Idx) (h : Fin 8) (d : Fin 64) (n : Fin 128) (hy : (y 1 : ℕ) = h * 64 + d) (hn : (y 2 : ℕ) = n) :
    out0_9 (F := Ideal) x0 x1 x2 x3 x4 x5 x6 y = key x0 x1 x3 x5 h d n := by
  frame_out
  canon_tiles x hx
  case' piece0 => obtain rfl : h = 7 := by omega
  case' piece1 => obtain rfl : h = 6 := by omega
  case' piece2 => obtain rfl : h = 5 := by omega
  case' piece3 => obtain rfl : h = 4 := by omega
  case' piece4 => obtain rfl : h = 3 := by omega
  case' piece5 => obtain rfl : h = 2 := by omega
  case' piece6 => obtain rfl : h = 1 := by omega
  case' piece7 => obtain rfl : h = 0 := by omega
  all_goals obtain rfl : d = x 1 := by omega
  all_goals obtain rfl : n = x 2 := by omega
  all_goals (open_payloads; pointwise [key, lane, hid])

set_option maxHeartbeats 2000000 in
/-- The keys once more, in half precision. -/
theorem k_half_block (y : S1x512x128.Idx) (h : Fin 8) (d : Fin 64) (n : Fin 128) (hy : (y 1 : ℕ) = h * 64 + d) (hn : (y 2 : ℕ) = n) :
    out0_11 (F := Ideal) x0 x1 x2 x3 x4 x5 x6 y = key x0 x1 x3 x5 h d n := by
  frame_out
  canon_tiles x hx
  case' piece0 => obtain rfl : h = 7 := by omega
  case' piece1 => obtain rfl : h = 6 := by omega
  case' piece2 => obtain rfl : h = 5 := by omega
  case' piece3 => obtain rfl : h = 4 := by omega
  case' piece4 => obtain rfl : h = 3 := by omega
  case' piece5 => obtain rfl : h = 2 := by omega
  case' piece6 => obtain rfl : h = 1 := by omega
  case' piece7 => obtain rfl : h = 0 := by omega
  all_goals obtain rfl : d = x 1 := by omega
  all_goals obtain rfl : n = x 2 := by omega
  all_goals (open_payloads; pointwise [key, lane, hid])

end Cert.Kernel4Ideal.Even
end
-- ==== Proof.SampleRef.lean ====
/-
  The reference of the even layer's input call on the samples, element by element: the gated rows, the normalized keys and the
  values.
-/
module

public import proofs.«01_k».proof.Proof.Gen.Reference4Ideal.Run
public import Idealize.ShloMosaic.Lib.Pipeline.ValueKit

@[expose] public section

set_option maxRecDepth 16384

noncomputable section

namespace Cert.Reference4Ideal.Even

open Cert.Reference4Ideal Cert.Reference4Ideal.Gen Cert.Reference4Ideal.Value Idealize.ShloMosaic Idealize.ShloMosaic.TcCoe Idealize.ShloMosaic.ValueKit

variable (X : FVec Ideal S128x1x1024 .f32) (G : FVec Ideal S1x1024 .f32) (W : FVec Ideal S1x1024x2560 .f32) (K : FVec Ideal S1x64 .f32)

/-- Lane `e` of a token, normalized by the token's root mean square. -/
def hid (b : Fin 128) (e : Fin 1024) : EReal :=
  X (ix3 b 0 e) * Ideal.rsqrt (Ideal.div (∑ a : Fin 1024, X (ix3 b 0 a) * X (ix3 b 0 a)) (Ideal.ofBits FTy.f32 0x44800000#32) + Ideal.ofBits FTy.f32 0x358637BD#32)
    * G (ix2 0 e)

/-- A token against column `j` of the weights. -/
def col (b : Fin 128) (j : Fin 2560) : EReal := ∑ e : Fin 1024, hid X G b e * W (ix3 0 e j)

/-- Lane `d` of head `h` of a token's key, normalized over the head's lanes. -/
def key (b : Fin 128) (h : Fin 8) (d : Fin 64) : EReal :=
  col X G W b ⟨1536 + (h * 64 + d), by omega⟩
    * Ideal.rsqrt (Ideal.div (∑ r : Fin 64, col X G W b ⟨1536 + (h * 64 + r), by omega⟩ * col X G W b ⟨1536 + (h * 64 + r), by omega⟩) (Ideal.ofBits FTy.f32 0x42800000#32)
        + Ideal.ofBits FTy.f32 0x358637BD#32)
    * K (ix2 0 d)

/-- The normalized tokens. -/
def norm : FVec Ideal S128x1x1024 .f32 :=
  mulf (mulf X (broadcastInDim S128x1x1024 ![0, 1, 2] bcast_S128x1x1_S128x1x1024_0_1_2
      (Host.rsqrt (addf (Host.divf (broadcastInDim S128x1x1 ![0, 1] bcast_S128x1_S128x1x1_0_1
          (Host.reduceAdd (mulf X X) (constant S_ .f32 0x00000000#32) reducesTo_S128x1x1024_S128x1_d2 h_S_))
        (broadcastInDim S128x1x1 ![] bcast_S_S128x1x1 (constant S_ .f32 0x44800000#32)))
        (broadcastInDim S128x1x1 ![] bcast_S_S128x1x1 (constant S_ .f32 0x358637BD#32))))))
    (broadcastInDim S128x1x1024 ![0, 1, 2] bcast_S1x1x1024_S128x1x1024_0_1_2 (broadcastInDim S1x1x1024 ![2] bcast_S1024_S1x1x1024_2 (shapeCast S1024 G shapeCasts_S1x1024_S1024)))

theorem norm_at (b : Fin 128) (e : Fin 1024) : norm X G (ix3 b 0 e) = hid X G b e := by
  pointwise [norm, hid]

/-- The projection. -/
def proj : FVec Ideal S128x1x2560 .f32 :=
  Host.dotGeneral dot_S128x1x1024_S1024x2560_S128x1x2560_2_0_01_1_n_n none (norm X G) (shapeCast S1024x2560 W shapeCasts_S1x1024x2560_S1024x2560)

theorem proj_at (b : Fin 128) (j : Fin 2560) : proj X G W (ix3 b 0 j) = col X G W b j := by
  unfold col
  simp only [← norm_at]
  pointwise [proj]

/-- The gated rows. -/
def rows : FVec Ideal S128x512 .f32 :=
  shapeCast S128x512 (mulf (extractStridedSlice S128x1x512 ![0, 0, 0] (proj X G W) slices_S128x1x2560_S128x1x512_0_0_0)
    (Host.divf (broadcastInDim S128x1x512 ![] bcast_S_S128x1x512 (constant S_ .f32 0x3F800000#32))
      (addf (broadcastInDim S128x1x512 ![] bcast_S_S128x1x512 (constant S_ .f32 0x3F800000#32))
        (Host.exp (Host.negf (extractStridedSlice S128x1x512 ![0, 0, 512] (proj X G W) slices_S128x1x2560_S128x1x512_0_0_512))))))
    shapeCasts_S128x1x512_S128x512

theorem rows_at (b : Fin 128) (j : Fin 512) : rows X G W (ix2 b j)
    = col X G W b ⟨j, by omega⟩ * Ideal.logistic (col X G W b ⟨512 + j, by omega⟩) := by
  simp only [← proj_at, Ideal.logistic]
  pointwise [rows]

/-- The values, lanes before tokens. -/
def vals : FVec Ideal S1x512x128 .f32 :=
  shapeCast S1x512x128 (transpose S1x8x64x128 [1, 2, 3, 0] (shapeCast S128x1x8x64 (extractStridedSlice S128x1x512 ![0, 0, 2048] (proj X G W) slices_S128x1x2560_S128x1x512_0_0_2048)
    shapeCasts_S128x1x512_S128x1x8x64) transposes_S128x1x8x64_S1x8x64x128_1_2_3_0) shapeCasts_S1x8x64x128_S1x512x128

theorem vals_at (b : Fin 128) (j : Fin 512) : vals X G W (ix3 0 j b) = col X G W b ⟨2048 + j, by omega⟩ := by
  simp only [← proj_at]
  pointwise [vals]

/-- The keys' columns by heads. -/
def heads : FVec Ideal S128x1x8x64 .f32 :=
  shapeCast S128x1x8x64 (extractStridedSlice S128x1x512 ![0, 0, 1536] (proj X G W) slices_S128x1x2560_S128x1x512_0_0_1536) shapeCasts_S128x1x512_S128x1x8x64

theorem heads_at (b : Fin 128) (h : Fin 8) (d : Fin 64) : heads X G W (ix4 b 0 h d) = col X G W b ⟨1536 + (h * 64 + d), by omega⟩ := by
  simp only [← proj_at]
  pointwise [heads]

/-- The keys, lanes before tokens. -/
def keys : FVec Ideal S1x512x128 .f32 :=
  shapeCast S1x512x128 (transpose S1x8x64x128 [1, 2, 3, 0] (mulf (mulf (heads X G W) (broadcastInDim S128x1x8x64 ![0, 1, 2, 3] bcast_S128x1x8x1_S128x1x8x64_0_1_2_3
      (Host.rsqrt (addf (Host.divf (broadcastInDim S128x1x8x1 ![0, 1, 2] bcast_S128x1x8_S128x1x8x1_0_1_2
          (Host.reduceAdd (mulf (heads X G W) (heads X G W)) (constant S_ .f32 0x00000000#32) reducesTo_S128x1x8x64_S128x1x8_d3 h_S_))
        (broadcastInDim S128x1x8x1 ![] bcast_S_S128x1x8x1 (constant S_ .f32 0x42800000#32)))
        (broadcastInDim S128x1x8x1 ![] bcast_S_S128x1x8x1 (constant S_ .f32 0x358637BD#32))))))
    (broadcastInDim S128x1x8x64 ![0, 1, 2, 3] bcast_S1x1x1x64_S128x1x8x64_0_1_2_3 (broadcastInDim S1x1x1x64 ![3] bcast_S64_S1x1x1x64_3 (shapeCast S64 K shapeCasts_S1x64_S64))))
    transposes_S128x1x8x64_S1x8x64x128_1_2_3_0) shapeCasts_S1x8x64x128_S1x512x128

theorem keys_at (b : Fin 128) (h : Fin 8) (d : Fin 64) (j : Fin 512) (hj : j.val = h * 64 + d) : keys X G W K (ix3 0 j b) = key X G W K b h d := by
  rw [show j = (⟨h.val * 64 + d.val, by omega⟩ : Fin 512) from Fin.ext hj]
  unfold key
  simp only [← heads_at]
  pointwise [keys]

end Cert.Reference4Ideal.Even
end
-- ==== Proof.SampleReads.lean ====
/-
  What a grid point of the even layer's input call on the samples reads of its blocks, and so what it writes, in the entries of
  the arguments.
-/
module

public import proofs.«01_k».proof.Proof.SampleBlock
public import proofs.«01_k».proof.Proof.SampleRef
public import Idealize.ShloMosaic.Lib.StableHlo.RunRead

@[expose] public section

set_option maxRecDepth 16384

noncomputable section

namespace Cert.Kernel4Ideal.Even

open Cert.Kernel4Ideal Cert.Kernel4Ideal.Gen Idealize.ShloMosaic Idealize.ShloMosaic.TcCoe Idealize.ShloMosaic.ValueKit

variable (m : (ℓ : Loc nD τ sig) → Buf (Elt Ideal) ℓ) (c : Dev nD)

/-- The block each point stages. -/
theorem idx : ∀ t : Fin cfg0.N, win0_0.index t = ![0, 0] ∧ win0_1.index t = ![0, 0] ∧ win0_2.index t = ![0, 0] ∧ win0_3.index t = ![0, 0]
    ∧ win0_5.index t = ![0, 0] ∧ win0_7.index t = ![0, 0] ∧ win0_9.index t = ![0, 0, 0] ∧ win0_10.index t = ![0, 0, 0]
    ∧ win0_11.index t = ![0, 0, 0] ∧ win0_12.index t = ![0, 0, 0] :=
  (by decide +kernel : ∀ t : Fin grid0.N, win0_0.index t = ![0, 0] ∧ win0_1.index t = ![0, 0] ∧ win0_2.index t = ![0, 0] ∧ win0_3.index t = ![0, 0]
    ∧ win0_5.index t = ![0, 0] ∧ win0_7.index t = ![0, 0] ∧ win0_9.index t = ![0, 0, 0] ∧ win0_10.index t = ![0, 0, 0]
    ∧ win0_11.index t = ![0, 0, 0] ∧ win0_12.index t = ![0, 0, 0])

/-- The four argument arrays. -/
abbrev argX : FVec Ideal S128x1x1024 .f32 := m ((c : Thread nD τ).loc main_arg0)
abbrev argG : FVec Ideal S1x1024 .f32 := m ((c : Thread nD τ).loc main_arg1)
abbrev argW : FVec Ideal S1x1024x2560 .f32 := m ((c : Thread nD τ).loc main_arg2)
abbrev argK : FVec Ideal S1x64 .f32 := m ((c : Thread nD τ).loc main_arg4)

set_option maxHeartbeats 1000000 in
theorem ent_x (b : Fin 128) (e : Fin 1024) : (V m c main_v0 : FVec Ideal S128x1024 .f32) (ix2 b e) = argX m c (ix3 b 0 e) := by
  simp only [V, List.flatten_cons, List.flatten_nil, List.append_nil]; after_reads_simp
  pointwise []

set_option maxHeartbeats 1000000 in
theorem ent_g (e : Fin 1024) : (V m c main_v25 : FVec Ideal S1x1024 .f32) (ix2 0 e) = argG m c (ix2 0 e) := by
  simp only [V, List.flatten_cons, List.flatten_nil, List.append_nil]; after_reads_simp
  pointwise []

set_option maxHeartbeats 1000000 in
theorem ent_w (e : Fin 1024) (j : Fin 1536) : (V m c main_v12 : FVec Ideal S1024x1536 .bf16) (ix2 e j) = argW m c (ix3 0 e ⟨j, by omega⟩) := by
  simp only [V, List.flatten_cons, List.flatten_nil, List.append_nil]; after_reads_simp
  pointwise []

set_option maxHeartbeats 1000000 in
theorem ent_t (j : Fin 1024) (e : Fin 1024) : (V m c main_v16 : FVec Ideal S1024x1024 .bf16) (ix2 j e) = argW m c (ix3 0 e ⟨1536 + j, by omega⟩) := by
  simp only [V, List.flatten_cons, List.flatten_nil, List.append_nil]; after_reads_simp
  pointwise []

set_option maxHeartbeats 1000000 in
theorem ent_k (d : Fin 64) : (V m c main_v23 : FVec Ideal S64x1 .f32) (ix2 d 0) = argK m c (ix2 0 d) := by
  simp only [V, List.flatten_cons, List.flatten_nil, List.append_nil]; after_reads_simp
  pointwise []

variable (t : Fin cfg0.N)

/-- A point's tokens. -/
theorem rd_x (n : Fin 128) (e : Fin 1024) :
    (iblk m c 0 t : FVec Ideal S128x1024 .f32) (ix2 n e) = argX m c (ix3 n 0 e) := by
  blk_simp [iblk]
  refine (congrArg (V m c main_v0) ?_).trans (ent_x m c n e)
  blk_ext [idx t]

theorem rd_g (e : Fin 1024) : (iblk m c 1 t : FVec Ideal S1x1024 .f32) (ix2 0 e) = argG m c (ix2 0 e) := by
  blk_simp [iblk]
  refine (congrArg (V m c main_v25) ?_).trans (ent_g m c e)
  blk_ext [idx t]

theorem rd_w (e : Fin 1024) (j : Fin 1536) : (iblk m c 2 t : FVec Ideal S1024x1536 .bf16) (ix2 e j) = argW m c (ix3 0 e ⟨j, by omega⟩) := by
  blk_simp [iblk]
  refine (congrArg (V m c main_v12) ?_).trans (ent_w m c e j)
  blk_ext [idx t]

theorem rd_t (j : Fin 1024) (e : Fin 1024) : (iblk m c 3 t : FVec Ideal S1024x1024 .bf16) (ix2 j e) = argW m c (ix3 0 e ⟨1536 + j, by omega⟩) := by
  blk_simp [iblk]
  refine (congrArg (V m c main_v16) ?_).trans (ent_t m c j e)
  blk_ext [idx t]

theorem rd_k (d : Fin 64) : (iblk m c 5 t : FVec Ideal S64x1 .f32) (ix2 d 0) = argK m c (ix2 0 d) := by
  blk_simp [iblk]
  refine (congrArg (V m c main_v23) ?_).trans (ent_k m c d)
  blk_ext [idx t]

/-- A block's normalized lane is the token's. -/
theorem hid_eq (n : Fin 128) (e : Fin 1024) :
    hid (iblk m c 0 t) (iblk m c 1 t) n e = Cert.Reference4Ideal.Even.hid (argX m c) (argG m c) n e := by
  unfold hid Cert.Reference4Ideal.Even.hid
  simp only [rd_x m c t, rd_g]

/-- A block's column is the token's, … -/
theorem col_eq (n : Fin 128) (q : Fin 1536) :
    col (iblk m c 0 t) (iblk m c 1 t) (iblk m c 2 t) n q = Cert.Reference4Ideal.Even.col (argX m c) (argG m c) (argW m c) n ⟨q, by omega⟩ := by
  unfold col Cert.Reference4Ideal.Even.col
  simp only [hid_eq m c t, rd_w]

/-- … and so is a transposed one. -/
theorem lane_eq (n : Fin 128) (q : Fin 1024) :
    lane (iblk m c 0 t) (iblk m c 1 t) (iblk m c 3 t) q n = Cert.Reference4Ideal.Even.col (argX m c) (argG m c) (argW m c) n ⟨1536 + q, by omega⟩ := by
  unfold lane Cert.Reference4Ideal.Even.col
  simp only [hid_eq m c t, rd_t]
  exact Finset.sum_congr rfl fun e _ => mul_comm _ _

/-- A block's key is the token's. -/
theorem key_eq (n : Fin 128) (h : Fin 8) (d : Fin 64) :
    key (iblk m c 0 t) (iblk m c 1 t) (iblk m c 3 t) (iblk m c 5 t) h d n
      = Cert.Reference4Ideal.Even.key (argX m c) (argG m c) (argW m c) (argK m c) n h d := by
  unfold key Cert.Reference4Ideal.Even.key
  simp only [lane_eq m c t, rd_k]

end Cert.Kernel4Ideal.Even
end
-- ==== Proof.SampleValue.lean ====
/-
  The even layer's input call on the samples: its five results are the reference's.
-/
module

public import proofs.«01_k».proof.Defs
public import proofs.«01_k».proof.Proof.Gen.Kernel4Ideal.Value
public import proofs.«01_k».proof.Proof.SampleReads
public import Idealize.ShloMosaic.Lib.Quiescent
public import Idealize.ShloMosaic.Adequacy
public import Idealize.ShloMosaic.Init

@[expose] public section

set_option maxRecDepth 16384

noncomputable section

namespace Cert.Kernel4Ideal.Even

open Cert.Kernel4Ideal Cert.Kernel4Ideal.Gen Idealize.ShloMosaic Idealize.ShloMosaic.TcCoe Idealize.ShloMosaic.ValueKit

variable (m : (ℓ : Loc nD τ sig) → Buf (Elt Ideal) ℓ) (c : Dev nD)

variable (t : Fin cfg0.N)

/-- A block's gated row is the token's, … -/
theorem u_at (n : Fin 128) (q : Fin 512) : out0_7 (F := Ideal) (iblk m c 0 t) (iblk m c 1 t) (iblk m c 2 t) (iblk m c 3 t) (iblk m c 4 t) (iblk m c 5 t) (iblk m c 6 t) (ix2 n q)
    = Cert.Reference4Ideal.Even.rows (argX m c) (argG m c) (argW m c) (ix2 n q) := by
  rw [u_block, col_eq m c t, col_eq m c t]
  exact (Cert.Reference4Ideal.Even.rows_at (argX m c) (argG m c) (argW m c) n q).symm

/-- … so are its values, … -/
theorem v_at (q : Fin 512) (n : Fin 128) : out0_10 (F := Ideal) (iblk m c 0 t) (iblk m c 1 t) (iblk m c 2 t) (iblk m c 3 t) (iblk m c 4 t) (iblk m c 5 t) (iblk m c 6 t) (ix3 0 q n)
    = Cert.Reference4Ideal.Even.vals (argX m c) (argG m c) (argW m c) (ix3 0 q n) := by
  rw [v_block, lane_eq m c t, Cert.Reference4Ideal.Even.vals_at]
  exact congrArg _ (Fin.ext (by show 1536 + (512 + q.val) = 2048 + q.val; omega))

/-- … in half precision too, … -/
theorem v_half_at (q : Fin 512) (n : Fin 128) : out0_12 (F := Ideal) (iblk m c 0 t) (iblk m c 1 t) (iblk m c 2 t) (iblk m c 3 t) (iblk m c 4 t) (iblk m c 5 t) (iblk m c 6 t) (ix3 0 q n)
    = Cert.Reference4Ideal.Even.vals (argX m c) (argG m c) (argW m c) (ix3 0 q n) := by
  rw [v_half_block, lane_eq m c t, Cert.Reference4Ideal.Even.vals_at]
  exact congrArg _ (Fin.ext (by show 1536 + (512 + q.val) = 2048 + q.val; omega))

/-- … and its keys, … -/
theorem k_at (y : S1x512x128.Idx) (q : Fin 512) (n : Fin 128) (hq : (y 1 : ℕ) = q) (hn : (y 2 : ℕ) = n) : out0_9 (F := Ideal) (iblk m c 0 t) (iblk m c 1 t) (iblk m c 2 t) (iblk m c 3 t) (iblk m c 4 t) (iblk m c 5 t) (iblk m c 6 t) y
    = Cert.Reference4Ideal.Even.keys (argX m c) (argG m c) (argW m c) (argK m c) (ix3 0 q n) := by
  rw [k_block _ _ _ _ _ _ _ y ⟨q / 64, by omega⟩ ⟨q % 64, by omega⟩ n (by show (y 1 : ℕ) = q / 64 * 64 + q % 64; omega) hn, key_eq m c t]
  exact (Cert.Reference4Ideal.Even.keys_at (argX m c) (argG m c) (argW m c) (argK m c) n ⟨q / 64, by omega⟩ ⟨q % 64, by omega⟩ q
    (by show q.val = q / 64 * 64 + q % 64; omega)).symm

/-- … in half precision too. -/
theorem k_half_at (y : S1x512x128.Idx) (q : Fin 512) (n : Fin 128) (hq : (y 1 : ℕ) = q) (hn : (y 2 : ℕ) = n) : out0_11 (F := Ideal) (iblk m c 0 t) (iblk m c 1 t) (iblk m c 2 t) (iblk m c 3 t) (iblk m c 4 t) (iblk m c 5 t) (iblk m c 6 t) y
    = Cert.Reference4Ideal.Even.keys (argX m c) (argG m c) (argW m c) (argK m c) (ix3 0 q n) := by
  rw [k_half_block _ _ _ _ _ _ _ y ⟨q / 64, by omega⟩ ⟨q % 64, by omega⟩ n (by show (y 1 : ℕ) = q / 64 * 64 + q % 64; omega) hn, key_eq m c t]
  exact (Cert.Reference4Ideal.Even.keys_at (argX m c) (argG m c) (argW m c) (argK m c) n ⟨q / 64, by omega⟩ ⟨q % 64, by omega⟩ q
    (by show q.val = q / 64 * 64 + q % 64; omega)).symm

theorem final_rows : (dats m 0 c).arrAt 7 cfg0.N = (Cert.Reference4Ideal.Even.rows (argX m c) (argG m c) (argW m c) : FVec Ideal S128x512 .f32) := by
  refine (dats m 0 c).arrAt_eq_of_covers 7 _ (by decide +kernel) fun t _ y => ?_
  blk_simp
  rw [after0_7]
  have ht : t.val < 1 := t.isLt
  refine (congrArg _ (show y = ix2 (y 0) (y 1) by blk_ext [])).trans ((u_at m c t (y 0) (y 1)).trans ?_)
  refine congrArg (Cert.Reference4Ideal.Even.rows (argX m c) (argG m c) (argW m c)) ?_
  blk_ext [idx t]

theorem final_keys : (dats m 0 c).arrAt 9 cfg0.N = (Cert.Reference4Ideal.Even.keys (argX m c) (argG m c) (argW m c) (argK m c) : FVec Ideal S1x512x128 .f32) := by
  refine (dats m 0 c).arrAt_eq_of_covers 9 _ (by decide +kernel) fun t _ y => ?_
  blk_simp
  rw [after0_9]
  have ht : t.val < 1 := t.isLt
  refine (k_at m c t y (y 1) (y 2) rfl rfl).trans ?_
  refine congrArg (Cert.Reference4Ideal.Even.keys (argX m c) (argG m c) (argW m c) (argK m c)) ?_
  blk_ext [idx t]

theorem final_vals : (dats m 0 c).arrAt 10 cfg0.N = (Cert.Reference4Ideal.Even.vals (argX m c) (argG m c) (argW m c) : FVec Ideal S1x512x128 .f32) := by
  refine (dats m 0 c).arrAt_eq_of_covers 10 _ (by decide +kernel) fun t _ y => ?_
  blk_simp
  rw [after0_10]
  have ht : t.val < 1 := t.isLt
  refine (congrArg _ (show y = ix3 0 (y 1) (y 2) by blk_ext [])).trans ((v_at m c t (y 1) (y 2)).trans ?_)
  refine congrArg (Cert.Reference4Ideal.Even.vals (argX m c) (argG m c) (argW m c)) ?_
  blk_ext [idx t]

theorem final_keys_half : (dats m 0 c).arrAt 11 cfg0.N = (Cert.Reference4Ideal.Even.keys (argX m c) (argG m c) (argW m c) (argK m c) : FVec Ideal S1x512x128 .f32) := by
  refine (dats m 0 c).arrAt_eq_of_covers 11 _ (by decide +kernel) fun t _ y => ?_
  blk_simp
  rw [after0_11]
  have ht : t.val < 1 := t.isLt
  refine (k_half_at m c t y (y 1) (y 2) rfl rfl).trans ?_
  refine congrArg (Cert.Reference4Ideal.Even.keys (argX m c) (argG m c) (argW m c) (argK m c)) ?_
  blk_ext [idx t]

theorem final_vals_half : (dats m 0 c).arrAt 12 cfg0.N = (Cert.Reference4Ideal.Even.vals (argX m c) (argG m c) (argW m c) : FVec Ideal S1x512x128 .f32) := by
  refine (dats m 0 c).arrAt_eq_of_covers 12 _ (by decide +kernel) fun t _ y => ?_
  blk_simp
  rw [after0_12]
  have ht : t.val < 1 := t.isLt
  refine (congrArg _ (show y = ix3 0 (y 1) (y 2) by blk_ext [])).trans ((v_half_at m c t (y 1) (y 2)).trans ?_)
  refine congrArg (Cert.Reference4Ideal.Even.vals (argX m c) (argG m c) (argW m c)) ?_
  blk_ext [idx t]

end Cert.Kernel4Ideal.Even

namespace Cert.Proof

open Idealize.ShloMosaic Idealize.SL.Sem

/-- The reference ends with its arguments as they were and every semaphore at zero. -/
theorem sample_reference_frame : Cert.quiescent_Reference4Ideal (hReference4Ideal := Cert.Reference4Ideal.Gen.facts) :=
  fun m ρ _ => (θ_run Cert.Reference4Ideal.defs _ _).mono
    (fun r h => ⟨fun c => (h c).2.2.2.2.2, sem_eq_zero_of_no_sems (by decide) r.2⟩) (Cert.Reference4Ideal.Value.run (F := Ideal) m ρ)

set_option maxHeartbeats 1000000 in
/-- The call's five results are the reference's. -/
theorem sample_value : Cert.algebraic_Kernel4Ideal_Reference4Ideal (hKernel4Ideal := Cert.Kernel4Ideal.Gen.facts) (hReference4Ideal := Cert.Reference4Ideal.Gen.facts) := by
  intro m ρ m' ρ' _ hagree
  refine ⟨fun c => (Cert.Kernel4Ideal.Gen.dats m 0 c).arrAt 7 Cert.Kernel4Ideal.cfg0.N, fun c => (Cert.Kernel4Ideal.Gen.dats m 0 c).arrAt 9 Cert.Kernel4Ideal.cfg0.N,
    fun c => (Cert.Kernel4Ideal.Gen.dats m 0 c).arrAt 10 Cert.Kernel4Ideal.cfg0.N, fun c => (Cert.Kernel4Ideal.Gen.dats m 0 c).arrAt 11 Cert.Kernel4Ideal.cfg0.N,
    fun c => (Cert.Kernel4Ideal.Gen.dats m 0 c).arrAt 12 Cert.Kernel4Ideal.cfg0.N,
    (θ_run _ _ _).mono (fun r h c => ?_) (Cert.Kernel4Ideal.Value.run_blocks m ρ), (θ_run _ _ _).mono (fun r h c => ?_) (Cert.Reference4Ideal.Value.run (F := Ideal) m' ρ')⟩
  · obtain ⟨hu, _, hk, hv, hkb, hvb, ha⟩ := h c
    exact ⟨hu, hk, hv, hkb, hvb, ha⟩
  · obtain ⟨hu, hk, hv, hkb, hvb, ha⟩ := h c
    obtain ⟨h0, h1, h2, h3, h4⟩ := hagree c
    refine ⟨hu.trans ?_, hk.trans ?_, hv.trans ?_, hkb.trans ?_, hvb.trans ?_, ha⟩
    · rw [h0, h1, h2]
      exact (Cert.Kernel4Ideal.Even.final_rows m c).symm
    · rw [h0, h1, h2, h4]
      exact (Cert.Kernel4Ideal.Even.final_keys m c).symm
    · rw [h0, h1, h2]
      exact (Cert.Kernel4Ideal.Even.final_vals m c).symm
    · unfold Cert.Reference4Ideal.Value.res_main_v49
      rw [h0, h1, h2, h4]
      exact (Cert.Kernel4Ideal.Even.final_keys_half m c).symm
    · rw [h0, h1, h2]
      exact (Cert.Kernel4Ideal.Even.final_vals_half m c).symm

end Cert.Proof
end
-- ==== Proof.FfnBlock.lean ====
/-
  One grid point of the feed-forward kernel, read index by index: the normalized rows and the running sum that it leaves, and
  the rows that a block's last point writes, as functions of the point's input blocks and of what the point before left.
-/
module

public import proofs.«01_k».proof.Proof.Gen.Kernel5Ideal.Value
public import Idealize.ShloMosaic.Lib.Pipeline.ValueKit
public import Idealize.ShloMosaic.Lib.Pipeline.ReadBack

@[expose] public section

set_option maxRecDepth 16384

noncomputable section

namespace Cert.Kernel5Ideal.Ffn

open Cert.Kernel5Ideal Cert.Kernel5Ideal.Gen Idealize.ShloMosaic Idealize.ShloMosaic.TcCoe Idealize.ShloMosaic.ValueKit

/-- Lane `e` of row `n` of a block, normalized by the row's root mean square. -/
def hid (X : FVec Ideal S1024x1024 .f32) (G : FVec Ideal S1x1024 .f32) (n : Fin 1024) (e : Fin 1024) : EReal :=
  X (ix2 n e) * Ideal.rsqrt (Ideal.div (∑ a : Fin 1024, X (ix2 n a) * X (ix2 n a)) (Ideal.ofBits FTy.f32 0x44800000#32) + Ideal.ofBits FTy.f32 0x358637BD#32)
    * G (ix2 0 e)

/-- A row against column `j` of a block of weights. -/
def col (h : Fin 1024 → EReal) (W : FVec Ideal S1024x256 .bf16) (j : Fin 256) : EReal := ∑ e : Fin 1024, h e * W (ix2 e j)

/-- What a block of weights adds to lane `e` of a row. -/
def term (h : Fin 1024 → EReal) (W U : FVec Ideal S1024x256 .bf16) (D : FVec Ideal S256x1024 .bf16) (e : Fin 1024) : EReal :=
  ∑ j : Fin 256, col h W j * Ideal.logistic (col h W j) * col h U j * D (ix2 j e)

/-- A scratch array reads back what was stored whole. -/
theorem read_h (v : Vec Ideal S1024x1024 .bf16) : View.read (Elt Ideal) (View.whole cc0_scratch0) ((Memref.isWhole_whole cc0_scratch0).unread v) = v :=
  (Memref.isWhole_whole cc0_scratch0).read_unread v
theorem read_acc (v : Vec Ideal S1024x1024 .f32) : View.read (Elt Ideal) (View.whole cc0_scratch1) ((Memref.isWhole_whole cc0_scratch1).unread v) = v :=
  (Memref.isWhole_whole cc0_scratch1).read_unread v

variable (m : (ℓ : Loc nD τ sig) → Buf (Elt Ideal) ℓ) (c : Dev nD) (t : Fin cfg0.N)

theorem h_A (h0 : t.val % 11 = 0) (n e : Fin 1024) :
    ((outsAt0 m c t.val t.isLt).2.1 : FVec Ideal S1024x1024 .bf16) (ix2 n e) = hid (iblk m c 0 t) (iblk m c 1 t) n e := by
  rw [outsAt0_A m c t h0 (by omega)]
  frame_out
  open_payloads
  pointwise [hid]

theorem h_B (h0 : ¬ t.val % 11 = 0) (n e : Fin 1024) :
    ((outsAt0 m c t.val t.isLt).2.1 : FVec Ideal S1024x1024 .bf16) (ix2 n e) = ((outsAt0 m c (t.val - 1) (by omega)).2.1 : FVec Ideal S1024x1024 .bf16) (ix2 n e) := by
  by_cases h1 : t.val % 11 = 10
  · rw [outsAt0_C m c t h0 h1]
    rfl
  · rw [outsAt0_B m c t h0 h1]
    rfl

set_option maxHeartbeats 2000000 in
theorem acc_A (h0 : t.val % 11 = 0) (n e : Fin 1024) :
    ((outsAt0 m c t.val t.isLt).2.2 : FVec Ideal S1024x1024 .f32) (ix2 n e)
      = term (hid (iblk m c 0 t) (iblk m c 1 t) n) (iblk m c 2 t) (iblk m c 3 t) (iblk m c 4 t) e := by
  rw [outsAt0_A m c t h0 (by omega)]
  frame_out
  open_payloads
  pointwise [term, col, hid]

set_option maxHeartbeats 2000000 in
theorem acc_B (h0 : ¬ t.val % 11 = 0) (n e : Fin 1024) :
    ((outsAt0 m c t.val t.isLt).2.2 : FVec Ideal S1024x1024 .f32) (ix2 n e)
      = ((outsAt0 m c (t.val - 1) (by omega)).2.2 : FVec Ideal S1024x1024 .f32) (ix2 n e)
        + term (fun a => ((outsAt0 m c (t.val - 1) (by omega)).2.1 : FVec Ideal S1024x1024 .bf16) (ix2 n a)) (iblk m c 2 t) (iblk m c 3 t) (iblk m c 4 t) e := by
  by_cases h1 : t.val % 11 = 10
  · rw [outsAt0_C m c t h0 h1]
    frame_out
    simp only [read_h, read_acc]
    open_payloads
    pointwise [term, col]
  · rw [outsAt0_B m c t h0 h1]
    frame_out
    simp only [read_h, read_acc]
    open_payloads
    pointwise [term, col]

set_option maxHeartbeats 2000000 in
theorem out_C (h0 : t.val % 11 = 10) (n e : Fin 1024) :
    ((outsAt0 m c t.val t.isLt).1 : FVec Ideal S1024x1024 .f32) (ix2 n e)
      = (show FVec Ideal S1024x1024 .f32 from iblk m c 0 t) (ix2 n e) + (((outsAt0 m c (t.val - 1) (by omega)).2.2 : FVec Ideal S1024x1024 .f32) (ix2 n e)
        + term (fun a => ((outsAt0 m c (t.val - 1) (by omega)).2.1 : FVec Ideal S1024x1024 .bf16) (ix2 n a)) (iblk m c 2 t) (iblk m c 3 t) (iblk m c 4 t) e) := by
  rw [outsAt0_C m c t (by omega) h0]
  frame_out
  simp only [read_h, read_acc]
  open_payloads
  pointwise [term, col]

end Cert.Kernel5Ideal.Ffn
end
-- ==== Proof.FfnRef.lean ====
/-
  The reference of the feed-forward call, element by element.
-/
module

public import proofs.«01_k».proof.Proof.Gen.Reference5Ideal.Run
public import Idealize.ShloMosaic.Lib.Pipeline.ValueKit

@[expose] public section

set_option maxRecDepth 16384

noncomputable section

namespace Cert.Reference5Ideal.Ffn

open Cert.Reference5Ideal Cert.Reference5Ideal.Gen Cert.Reference5Ideal.Value Idealize.ShloMosaic Idealize.ShloMosaic.TcCoe Idealize.ShloMosaic.ValueKit

variable (X : FVec Ideal S8x2048x1024 .f32) (G : FVec Ideal S1x1024 .f32) (W U : FVec Ideal S1x1024x2816 .f32) (D : FVec Ideal S1x2816x1024 .f32)

/-- Lane `e` of a token, normalized by the token's root mean square. -/
def hid (b : Fin 8) (p : Fin 2048) (e : Fin 1024) : EReal :=
  X (ix3 b p e) * Ideal.rsqrt (Ideal.div (∑ a : Fin 1024, X (ix3 b p a) * X (ix3 b p a)) (Ideal.ofBits FTy.f32 0x44800000#32) + Ideal.ofBits FTy.f32 0x358637BD#32)
    * G (ix2 0 e)

/-- A token against column `j` of the weights. -/
def col (b : Fin 8) (p : Fin 2048) (j : Fin 2816) : EReal := ∑ e : Fin 1024, hid X G b p e * W (ix3 0 e j)

/-- What hidden lane `j` adds to lane `e` of a token. -/
def term (b : Fin 8) (p : Fin 2048) (e : Fin 1024) (j : Fin 2816) : EReal :=
  col X G W b p j * Ideal.logistic (col X G W b p j) * col X G U b p j * D (ix3 0 j e)

/-- The normalized tokens. -/
def norm : FVec Ideal S8x2048x1024 .f32 :=
  mulf (mulf X (broadcastInDim S8x2048x1024 ![0, 1, 2] bcast_S8x2048x1_S8x2048x1024_0_1_2
      (Host.rsqrt (addf (Host.divf (broadcastInDim S8x2048x1 ![0, 1] bcast_S8x2048_S8x2048x1_0_1
          (Host.reduceAdd (mulf X X) (constant S_ .f32 0x00000000#32) reducesTo_S8x2048x1024_S8x2048_d2 h_S_))
        (broadcastInDim S8x2048x1 ![] bcast_S_S8x2048x1 (constant S_ .f32 0x44800000#32)))
        (broadcastInDim S8x2048x1 ![] bcast_S_S8x2048x1 (constant S_ .f32 0x358637BD#32))))))
    (broadcastInDim S8x2048x1024 ![0, 1, 2] bcast_S1x1x1024_S8x2048x1024_0_1_2 (broadcastInDim S1x1x1024 ![2] bcast_S1024_S1x1x1024_2 (shapeCast S1024 G shapeCasts_S1x1024_S1024)))

theorem norm_at (b : Fin 8) (p : Fin 2048) (e : Fin 1024) : norm X G (ix3 b p e) = hid X G b p e := by
  pointwise [norm, hid]

/-- A projection into the hidden lanes. -/
def proj : FVec Ideal S8x2048x2816 .f32 :=
  Host.dotGeneral dot_S8x2048x1024_S1024x2816_S8x2048x2816_2_0_01_1_n_n none (norm X G) (shapeCast S1024x2816 W shapeCasts_S1x1024x2816_S1024x2816)

theorem proj_at (b : Fin 8) (p : Fin 2048) (j : Fin 2816) : proj X G W (ix3 b p j) = col X G W b p j := by
  unfold col
  simp only [← norm_at]
  pointwise [proj]

/-- The result. -/
def rows : FVec Ideal S16384x1024 .f32 :=
  shapeCast S16384x1024 (addf X (Host.dotGeneral dot_S8x2048x2816_S2816x1024_S8x2048x1024_2_0_01_1_n_n none
    (mulf (mulf (proj X G W) (Host.divf (broadcastInDim S8x2048x2816 ![] bcast_S_S8x2048x2816 (constant S_ .f32 0x3F800000#32))
      (addf (broadcastInDim S8x2048x2816 ![] bcast_S_S8x2048x2816 (constant S_ .f32 0x3F800000#32)) (Host.exp (Host.negf (proj X G W)))))) (proj X G U))
    (shapeCast S2816x1024 D shapeCasts_S1x2816x1024_S2816x1024))) shapeCasts_S8x2048x1024_S16384x1024

theorem rows_at (b : Fin 8) (p : Fin 2048) (e : Fin 1024) : rows X G W U D (ix2 ⟨b * 2048 + p, by omega⟩ e)
    = X (ix3 b p e) + ∑ j : Fin 2816, term X G W U D b p e j := by
  unfold term
  simp only [← proj_at, Ideal.logistic]
  pointwise [rows]

end Cert.Reference5Ideal.Ffn
end
-- ==== Proof.FfnReads.lean ====
/-
  What a grid point of the feed-forward call reads of its blocks, in the entries of the arguments, and the running sum over a
  block's points.
-/
module

public import proofs.«01_k».proof.Proof.FfnBlock
public import proofs.«01_k».proof.Proof.FfnRef
public import Idealize.ShloMosaic.Lib.StableHlo.RunRead

@[expose] public section

set_option maxRecDepth 16384

noncomputable section

namespace Cert.Kernel5Ideal.Ffn

open Cert.Kernel5Ideal Cert.Kernel5Ideal.Gen Idealize.ShloMosaic Idealize.ShloMosaic.TcCoe Idealize.ShloMosaic.ValueKit

variable (m : (ℓ : Loc nD τ sig) → Buf (Elt Ideal) ℓ) (c : Dev nD)

/-- The block each point stages. -/
theorem idx : ∀ t : Fin cfg0.N, win0_0.index t = ![t.val / 11, 0] ∧ win0_1.index t = ![0, 0] ∧ win0_2.index t = ![0, t.val % 11] ∧ win0_3.index t = ![0, t.val % 11]
    ∧ win0_4.index t = ![t.val % 11, 0] ∧ win0_5.index t = ![t.val / 11, 0] :=
  (by decide +kernel : ∀ t : Fin grid0.N, win0_0.index t = ![t.val / 11, 0] ∧ win0_1.index t = ![0, 0] ∧ win0_2.index t = ![0, t.val % 11] ∧ win0_3.index t = ![0, t.val % 11]
    ∧ win0_4.index t = ![t.val % 11, 0] ∧ win0_5.index t = ![t.val / 11, 0])

/-- The five argument arrays. -/
abbrev argX : FVec Ideal S8x2048x1024 .f32 := m ((c : Thread nD τ).loc main_arg0)
abbrev argG : FVec Ideal S1x1024 .f32 := m ((c : Thread nD τ).loc main_arg1)
abbrev argW : FVec Ideal S1x1024x2816 .f32 := m ((c : Thread nD τ).loc main_arg2)
abbrev argU : FVec Ideal S1x1024x2816 .f32 := m ((c : Thread nD τ).loc main_arg3)
abbrev argD : FVec Ideal S1x2816x1024 .f32 := m ((c : Thread nD τ).loc main_arg4)

set_option maxHeartbeats 1000000 in
theorem ent_x (b : Fin 8) (p : Fin 2048) (e : Fin 1024) : (V m c main_v6 : FVec Ideal S16384x1024 .f32) (ix2 ⟨b * 2048 + p, by omega⟩ e) = argX m c (ix3 b p e) := by
  simp only [V, List.flatten_cons, List.flatten_nil, List.append_nil]; after_reads_simp
  pointwise []

set_option maxHeartbeats 1000000 in
theorem ent_g (e : Fin 1024) : (V m c main_v8 : FVec Ideal S1x1024 .f32) (ix2 0 e) = argG m c (ix2 0 e) := by
  simp only [V, List.flatten_cons, List.flatten_nil, List.append_nil]; after_reads_simp
  pointwise []

set_option maxHeartbeats 1000000 in
theorem ent_w (e : Fin 1024) (j : Fin 2816) : (V m c main_v1 : FVec Ideal S1024x2816 .bf16) (ix2 e j) = argW m c (ix3 0 e j) := by
  simp only [V, List.flatten_cons, List.flatten_nil, List.append_nil]; after_reads_simp
  pointwise []

set_option maxHeartbeats 1000000 in
theorem ent_u (e : Fin 1024) (j : Fin 2816) : (V m c main_v3 : FVec Ideal S1024x2816 .bf16) (ix2 e j) = argU m c (ix3 0 e j) := by
  simp only [V, List.flatten_cons, List.flatten_nil, List.append_nil]; after_reads_simp
  pointwise []

set_option maxHeartbeats 1000000 in
theorem ent_d (j : Fin 2816) (e : Fin 1024) : (V m c main_v5 : FVec Ideal S2816x1024 .bf16) (ix2 j e) = argD m c (ix3 0 j e) := by
  simp only [V, List.flatten_cons, List.flatten_nil, List.append_nil]; after_reads_simp
  pointwise []

variable (t : Fin cfg0.N)

/-- A point's tokens. -/
theorem rd_x (b : Fin 8) (s : Fin 2) (ht : t.val / 11 = b * 2 + s) (n : Fin 1024) (e : Fin 1024) :
    (iblk m c 0 t : FVec Ideal S1024x1024 .f32) (ix2 n e) = argX m c (ix3 b ⟨s * 1024 + n, by omega⟩ e) := by
  blk_simp [iblk]
  refine (congrArg (V m c main_v6) ?_).trans (ent_x m c b ⟨s * 1024 + n, by omega⟩ e)
  blk_ext [idx t]

theorem rd_g (e : Fin 1024) : (iblk m c 1 t : FVec Ideal S1x1024 .f32) (ix2 0 e) = argG m c (ix2 0 e) := by
  blk_simp [iblk]
  refine (congrArg (V m c main_v8) ?_).trans (ent_g m c e)
  blk_ext [idx t]

theorem rd_w (k : Fin 11) (ht : t.val % 11 = k) (e : Fin 1024) (j : Fin 256) :
    (iblk m c 2 t : FVec Ideal S1024x256 .bf16) (ix2 e j) = argW m c (ix3 0 e ⟨k * 256 + j, by omega⟩) := by
  blk_simp [iblk]
  refine (congrArg (V m c main_v1) ?_).trans (ent_w m c e ⟨k * 256 + j, by omega⟩)
  blk_ext [idx t]

theorem rd_u (k : Fin 11) (ht : t.val % 11 = k) (e : Fin 1024) (j : Fin 256) :
    (iblk m c 3 t : FVec Ideal S1024x256 .bf16) (ix2 e j) = argU m c (ix3 0 e ⟨k * 256 + j, by omega⟩) := by
  blk_simp [iblk]
  refine (congrArg (V m c main_v3) ?_).trans (ent_u m c e ⟨k * 256 + j, by omega⟩)
  blk_ext [idx t]

theorem rd_d (k : Fin 11) (ht : t.val % 11 = k) (j : Fin 256) (e : Fin 1024) :
    (iblk m c 4 t : FVec Ideal S256x1024 .bf16) (ix2 j e) = argD m c (ix3 0 ⟨k * 256 + j, by omega⟩ e) := by
  blk_simp [iblk]
  refine (congrArg (V m c main_v5) ?_).trans (ent_d m c ⟨k * 256 + j, by omega⟩ e)
  blk_ext [idx t]

/-- A block's normalized lane is the token's. -/
theorem hid_eq (b : Fin 8) (s : Fin 2) (ht : t.val / 11 = b * 2 + s) (n : Fin 1024) (e : Fin 1024) :
    hid (iblk m c 0 t) (iblk m c 1 t) n e = Cert.Reference5Ideal.Ffn.hid (argX m c) (argG m c) b ⟨s * 1024 + n, by omega⟩ e := by
  unfold hid Cert.Reference5Ideal.Ffn.hid
  simp only [rd_x m c t b s ht, rd_g]

/-- What hidden lane `i` adds to a token's lane. -/
def part (b : Fin 8) (p : Fin 2048) (e : Fin 1024) (i : ℕ) : EReal :=
  if h : i < 2816 then Cert.Reference5Ideal.Ffn.term (argX m c) (argG m c) (argW m c) (argU m c) (argD m c) b p e ⟨i, h⟩ else 0

/-- What a point adds is its hidden lanes' part. -/
theorem term_eq (b : Fin 8) (p : Fin 2048) (k : Fin 11) (ht : t.val % 11 = k) (h : Fin 1024 → EReal)
    (hh : ∀ e, h e = Cert.Reference5Ideal.Ffn.hid (argX m c) (argG m c) b p e) (e : Fin 1024) :
    term h (iblk m c 2 t) (iblk m c 3 t) (iblk m c 4 t) e = ∑ i ∈ Finset.range 256, part m c b p e (k * 256 + i) := by
  rw [Finset.sum_range]
  unfold term
  refine Finset.sum_congr rfl fun j _ => ?_
  rw [part, dif_pos (by omega)]
  unfold Cert.Reference5Ideal.Ffn.term Cert.Reference5Ideal.Ffn.col col
  simp only [rd_w m c t k ht, rd_u m c t k ht, rd_d m c t k ht, hh]

/-- The normalized rows stay over a block's points. -/
theorem h_at (b : Fin 8) (s : Fin 2) (n : Fin 1024) : ∀ (k : ℕ) (hk : k < 11) (t : Fin cfg0.N) (_ : t.val = (b * 2 + s) * 11 + k) (e : Fin 1024),
    ((outsAt0 m c t.val t.isLt).2.1 : FVec Ideal S1024x1024 .bf16) (ix2 n e) = Cert.Reference5Ideal.Ffn.hid (argX m c) (argG m c) b ⟨s * 1024 + n, by omega⟩ e
  | 0, hk, t, ht, e => (h_A m c t (by omega) n e).trans (hid_eq m c t b s (by omega) n e)
  | k + 1, hk, t, ht, e => (h_B m c t (by omega) n e).trans (h_at b s n k (by omega) ⟨t.val - 1, by omega⟩ (by show t.val - 1 = _; omega) e)

/-- The running sum over a block's points. -/
theorem acc_at (b : Fin 8) (s : Fin 2) (n : Fin 1024) : ∀ (k : ℕ) (hk : k < 11) (t : Fin cfg0.N) (_ : t.val = (b * 2 + s) * 11 + k) (e : Fin 1024),
    ((outsAt0 m c t.val t.isLt).2.2 : FVec Ideal S1024x1024 .f32) (ix2 n e) = ∑ i ∈ Finset.range ((k + 1) * 256), part m c b ⟨s * 1024 + n, by omega⟩ e i
  | 0, hk, t, ht, e => by
    refine (acc_A m c t (by omega) n e).trans ((term_eq m c t b ⟨s * 1024 + n, by omega⟩ ⟨0, hk⟩ (by show t.val % 11 = 0; omega) _ (fun e => hid_eq m c t b s (by omega) n e) e).trans ?_)
    refine Finset.sum_congr (by norm_num) fun i _ => ?_
    show part m c b _ e (0 * 256 + i) = _
    rw [Nat.zero_mul, Nat.zero_add]
  | k + 1, hk, t, ht, e => by
    refine (acc_B m c t (by omega) n e).trans ?_
    rw [show (k + 1 + 1) * 256 = (k + 1) * 256 + 256 by omega, Finset.sum_range_add]
    exact congrArg₂ (· + ·) (acc_at b s n k (by omega) ⟨t.val - 1, by omega⟩ (by show t.val - 1 = _; omega) e)
      (term_eq m c t b ⟨s * 1024 + n, by omega⟩ ⟨k + 1, hk⟩ (by show t.val % 11 = k + 1; omega) _
        (fun a => h_at m c b s n k (by omega) ⟨t.val - 1, by omega⟩ (by show t.val - 1 = _; omega) a) e)

/-- The row a block's last point writes: the reference's. -/
theorem row_at (b : Fin 8) (s : Fin 2) (t : Fin cfg0.N) (ht : t.val = (b * 2 + s) * 11 + 10) (n e : Fin 1024) :
    ((outsAt0 m c t.val t.isLt).1 : FVec Ideal S1024x1024 .f32) (ix2 n e)
      = Cert.Reference5Ideal.Ffn.rows (argX m c) (argG m c) (argW m c) (argU m c) (argD m c) (ix2 ⟨b * 2048 + (s * 1024 + n), by omega⟩ e) := by
  refine (out_C m c t (by omega) n e).trans (Eq.trans ?_ (Cert.Reference5Ideal.Ffn.rows_at (argX m c) (argG m c) (argW m c) (argU m c) (argD m c) b ⟨s * 1024 + n, by omega⟩ e).symm)
  refine congrArg₂ (· + ·) (rd_x m c t b s (by omega) n e) ?_
  refine ((acc_B m c t (by omega) n e).symm.trans (acc_at m c b s n 10 (by omega) t ht e)).trans ?_
  rw [show (10 + 1) * 256 = 2816 from rfl, Finset.sum_range]
  exact Finset.sum_congr rfl fun j _ => dif_pos j.isLt

end Cert.Kernel5Ideal.Ffn
end
-- ==== Proof.FfnValue.lean ====
/-
  The feed-forward call: its result is the reference's.
-/
module

public import proofs.«01_k».proof.Defs
public import proofs.«01_k».proof.Proof.FfnReads
public import Idealize.ShloMosaic.Lib.Quiescent
public import Idealize.ShloMosaic.Adequacy
public import Idealize.ShloMosaic.Init

@[expose] public section

set_option maxRecDepth 16384

noncomputable section

namespace Cert.Kernel5Ideal.Ffn

open Cert.Kernel5Ideal Cert.Kernel5Ideal.Gen Idealize.ShloMosaic Idealize.ShloMosaic.TcCoe Idealize.ShloMosaic.ValueKit

variable (m : (ℓ : Loc nD τ sig) → Buf (Elt Ideal) ℓ) (c : Dev nD)

theorem final_rows : (dats m 0 c).arrAt 5 cfg0.N
    = (Cert.Reference5Ideal.Ffn.rows (argX m c) (argG m c) (argW m c) (argU m c) (argD m c) : FVec Ideal S16384x1024 .f32) := by
  refine (dats m 0 c).arrAt_eq_of_covers 5 _ (by decide +kernel) fun t hf y => ?_
  have h10 : t.val % 11 = 10 := (flush0_5 t).mp hf
  blk_simp
  rw [after0_5]
  have ht : t.val < 176 := t.isLt
  refine (congrArg _ (show y = ix2 (y 0) (y 1) by blk_ext [])).trans ((row_at m c ⟨t.val / 22, by omega⟩ ⟨t.val / 11 % 2, by omega⟩ t
    (by show t.val = (t.val / 22 * 2 + t.val / 11 % 2) * 11 + 10; omega) (y 0) (y 1)).trans ?_)
  refine congrArg (Cert.Reference5Ideal.Ffn.rows (argX m c) (argG m c) (argW m c) (argU m c) (argD m c)) ?_
  blk_ext [idx t]

end Cert.Kernel5Ideal.Ffn

namespace Cert.Proof

open Idealize.ShloMosaic Idealize.SL.Sem

/-- The reference ends with its arguments as they were and every semaphore at zero. -/
theorem ffn_reference_frame : Cert.quiescent_Reference5Ideal (hReference5Ideal := Cert.Reference5Ideal.Gen.facts) :=
  fun m ρ _ => (θ_run Cert.Reference5Ideal.defs _ _).mono
    (fun r h => ⟨fun c => (h c).2, sem_eq_zero_of_no_sems (by decide) r.2⟩) (Cert.Reference5Ideal.Value.run (F := Ideal) m ρ)

set_option maxHeartbeats 1000000 in
/-- The call's result is the reference's. -/
theorem ffn_value : Cert.algebraic_Kernel5Ideal_Reference5Ideal (hKernel5Ideal := Cert.Kernel5Ideal.Gen.facts) (hReference5Ideal := Cert.Reference5Ideal.Gen.facts) := by
  intro m ρ m' ρ' _ hagree
  refine ⟨_, Cert.Kernel5Ideal.Value.run_blocks m ρ, (θ_run _ _ _).mono (fun r h c => ?_) (Cert.Reference5Ideal.Value.run (F := Ideal) m' ρ')⟩
  obtain ⟨hy, ha⟩ := h c
  obtain ⟨h0, h1, h2, h3, h4⟩ := hagree c
  refine ⟨hy.trans ?_, ha⟩
  rw [h0, h1, h2, h3, h4]
  exact (Cert.Kernel5Ideal.Ffn.final_rows m c).symm

end Cert.Proof
end
-- ==== Proof.MixOut.lean ====
/-
  The output projection of the even layer on the prompt: its result is the reference's, the residual and one product over the
  1024 columns of the convolution and the attention side by side.
-/
module

public import proofs.«01_k».proof.Defs
public import proofs.«01_k».proof.Proof.Gen.Kernel6Ideal.Frame
public import proofs.«01_k».proof.Proof.Gen.Kernel6Ideal.Value
public import proofs.«01_k».proof.Proof.Gen.Reference6Ideal.Run
public import Idealize.ShloMosaic.Lib.Pipeline.ValueKit
public import Idealize.ShloMosaic.Lib.Pipeline.ReadBack
public import Idealize.ShloMosaic.Lib.StableHlo.RunRead
public import Idealize.ShloMosaic.Lib.Quiescent
public import Idealize.ShloMosaic.Adequacy
public import Idealize.ShloMosaic.Init

@[expose] public section

set_option maxRecDepth 16384

noncomputable section

namespace Cert.Reference6Ideal.Out

open Cert.Reference6Ideal Cert.Reference6Ideal.Gen Cert.Reference6Ideal.Value Idealize.ShloMosaic Idealize.ShloMosaic.TcCoe Idealize.ShloMosaic.ValueKit

variable (X : FVec Ideal S8x2048x1024 .f32) (C O : FVec Ideal S8x2048x512 .bf16) (W : FVec Ideal S1x1024x1024 .f32)

/-- The convolution's and the attention's columns side by side. -/
def cat : FVec Ideal S8x2048x1024 .f32 :=
  concatenate S8x2048x1024 2 [⟨S8x2048x512, (extf .f32 C bitsLt_bf16_f32)⟩, ⟨S8x2048x512, (extf .f32 O bitsLt_bf16_f32)⟩] concatenates_S8x2048x512_S8x2048x512_S8x2048x1024_d2

theorem cat_left (b : Fin 8) (p : Fin 2048) (j : Fin 512) : cat C O (ix3 b p ⟨j, by omega⟩) = C (ix3 b p j) := by
  pointwise [cat]

theorem cat_right (b : Fin 8) (p : Fin 2048) (j : Fin 512) : cat C O (ix3 b p ⟨512 + j, by omega⟩) = O (ix3 b p j) := by
  pointwise [cat]

/-- The result. -/
def rows : FVec Ideal S16384x1024 .f32 :=
  shapeCast S16384x1024 (addf X (Host.dotGeneral dot_S8x2048x1024_S1024x1024_S8x2048x1024_2_0_01_1_n_n none (cat C O)
    (shapeCast S1024x1024 W shapeCasts_S1x1024x1024_S1024x1024))) shapeCasts_S8x2048x1024_S16384x1024

theorem rows_cat (b : Fin 8) (p : Fin 2048) (e : Fin 1024) : rows X C O W (ix2 ⟨b * 2048 + p, by omega⟩ e)
    = X (ix3 b p e) + ∑ j : Fin 1024, cat C O (ix3 b p j) * W (ix3 0 j e) := by
  pointwise [rows]

theorem rows_at (b : Fin 8) (p : Fin 2048) (e : Fin 1024) : rows X C O W (ix2 ⟨b * 2048 + p, by omega⟩ e)
    = X (ix3 b p e) + (∑ j : Fin 512, C (ix3 b p j) * W (ix3 0 ⟨j, by omega⟩ e)) + ∑ j : Fin 512, O (ix3 b p j) * W (ix3 0 ⟨512 + j, by omega⟩ e) := by
  rw [rows_cat, add_assoc]
  refine congrArg _ ((Fin.sum_univ_add (a := 512) (b := 512) fun j : Fin 1024 => cat C O (ix3 b p j) * W (ix3 0 j e)).trans (congrArg₂ (· + ·) ?_ ?_))
  · exact Finset.sum_congr rfl fun j _ => congrArg (· * _) (cat_left C O b p j)
  · exact Finset.sum_congr rfl fun j _ => congrArg (· * _) (cat_right C O b p j)

end Cert.Reference6Ideal.Out

namespace Cert.Kernel6Ideal.Out

open Cert.Kernel6Ideal Cert.Kernel6Ideal.Gen Idealize.ShloMosaic Idealize.ShloMosaic.TcCoe Idealize.ShloMosaic.ValueKit

/-- A grid point's rows. -/
theorem block (x0 : FVec Ideal S1024x1024 .f32) (x1 x2 : FVec Ideal S1024x512 .bf16) (x3 x4 : FVec Ideal S512x1024 .bf16) (n e : Fin 1024) :
    out0_5 (F := Ideal) x0 x1 x2 x3 x4 (ix2 n e)
      = x0 (ix2 n e) + (∑ j : Fin 512, x1 (ix2 n j) * x3 (ix2 j e)) + ∑ j : Fin 512, x2 (ix2 n j) * x4 (ix2 j e) := by
  frame_out
  open_payloads
  pointwise []

variable (m : (ℓ : Loc nD τ sig) → Buf (Elt Ideal) ℓ) (c : Dev nD)

/-- The block each point stages. -/
theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![t.val, 0] :=
  (by decide +kernel : ∀ t : Fin grid0.N, win0_0.index t = ![t.val, 0] ∧ win0_1.index t = ![t.val, 0] ∧ win0_2.index t = ![t.val, 0] ∧ win0_3.index t = ![0, 0]
    ∧ win0_4.index t = ![0, 0] ∧ win0_5.index t = ![t.val, 0])

/-- The four argument arrays. -/
abbrev argX : FVec Ideal S8x2048x1024 .f32 := m ((c : Thread nD τ).loc main_arg0)
abbrev argC : FVec Ideal S8x2048x512 .bf16 := m ((c : Thread nD τ).loc main_arg1)
abbrev argO : FVec Ideal S8x2048x512 .bf16 := m ((c : Thread nD τ).loc main_arg2)
abbrev argW : FVec Ideal S1x1024x1024 .f32 := m ((c : Thread nD τ).loc main_arg3)

set_option maxHeartbeats 1000000 in
theorem ent_x (b : Fin 8) (p : Fin 2048) (e : Fin 1024) : (V m c main_v2 : FVec Ideal S16384x1024 .f32) (ix2 ⟨b * 2048 + p, by omega⟩ e) = argX m c (ix3 b p e) := by
  simp only [V, List.flatten_cons, List.flatten_nil, List.append_nil]; after_reads_simp
  pointwise []

set_option maxHeartbeats 1000000 in
theorem ent_c (b : Fin 8) (p : Fin 2048) (e : Fin 512) : (V m c main_v3 : FVec Ideal S16384x512 .bf16) (ix2 ⟨b * 2048 + p, by omega⟩ e) = argC m c (ix3 b p e) := by
  simp only [V, List.flatten_cons, List.flatten_nil, List.append_nil]; after_reads_simp
  pointwise []

set_option maxHeartbeats 1000000 in
theorem ent_o (b : Fin 8) (p : Fin 2048) (e : Fin 512) : (V m c main_v4 : FVec Ideal S16384x512 .bf16) (ix2 ⟨b * 2048 + p, by omega⟩ e) = argO m c (ix3 b p e) := by
  simp only [V, List.flatten_cons, List.flatten_nil, List.append_nil]; after_reads_simp
  pointwise []

set_option maxHeartbeats 1000000 in
theorem ent_w (j : Fin 512) (e : Fin 1024) : (V m c main_v5 : FVec Ideal S512x1024 .bf16) (ix2 j e) = argW m c (ix3 0 ⟨j, by omega⟩ e) := by
  simp only [V, List.flatten_cons, List.flatten_nil, List.append_nil]; after_reads_simp
  pointwise []

set_option maxHeartbeats 1000000 in
theorem ent_u (j : Fin 512) (e : Fin 1024) : (V m c main_v6 : FVec Ideal S512x1024 .bf16) (ix2 j e) = argW m c (ix3 0 ⟨512 + j, by omega⟩ e) := by
  simp only [V, List.flatten_cons, List.flatten_nil, List.append_nil]; after_reads_simp
  pointwise []

variable (t : Fin cfg0.N)

/-- A point's tokens: residual, convolution, attention. -/
theorem rd_x (b : Fin 8) (s : Fin 2) (ht : t.val = b * 2 + s) (n : Fin 1024) (e : Fin 1024) :
    (iblk m c 0 t : FVec Ideal S1024x1024 .f32) (ix2 n e) = argX m c (ix3 b ⟨s * 1024 + n, by omega⟩ e) := by
  blk_simp [iblk]
  refine (congrArg (V m c main_v2) ?_).trans (ent_x m c b ⟨s * 1024 + n, by omega⟩ e)
  blk_ext [idx t]

theorem rd_c (b : Fin 8) (s : Fin 2) (ht : t.val = b * 2 + s) (n : Fin 1024) (e : Fin 512) :
    (iblk m c 1 t : FVec Ideal S1024x512 .bf16) (ix2 n e) = argC m c (ix3 b ⟨s * 1024 + n, by omega⟩ e) := by
  blk_simp [iblk]
  refine (congrArg (V m c main_v3) ?_).trans (ent_c m c b ⟨s * 1024 + n, by omega⟩ e)
  blk_ext [idx t]

theorem rd_o (b : Fin 8) (s : Fin 2) (ht : t.val = b * 2 + s) (n : Fin 1024) (e : Fin 512) :
    (iblk m c 2 t : FVec Ideal S1024x512 .bf16) (ix2 n e) = argO m c (ix3 b ⟨s * 1024 + n, by omega⟩ e) := by
  blk_simp [iblk]
  refine (congrArg (V m c main_v4) ?_).trans (ent_o m c b ⟨s * 1024 + n, by omega⟩ e)
  blk_ext [idx t]

/-- The two halves of the weights. -/
theorem rd_w (j : Fin 512) (e : Fin 1024) : (iblk m c 3 t : FVec Ideal S512x1024 .bf16) (ix2 j e) = argW m c (ix3 0 ⟨j, by omega⟩ e) := by
  blk_simp [iblk]
  refine (congrArg (V m c main_v5) ?_).trans (ent_w m c j e)
  blk_ext [idx t]

theorem rd_u (j : Fin 512) (e : Fin 1024) : (iblk m c 4 t : FVec Ideal S512x1024 .bf16) (ix2 j e) = argW m c (ix3 0 ⟨512 + j, by omega⟩ e) := by
  blk_simp [iblk]
  refine (congrArg (V m c main_v6) ?_).trans (ent_u m c j e)
  blk_ext [idx t]

/-- A point's row is the reference's. -/
theorem row_at (b : Fin 8) (s : Fin 2) (ht : t.val = b * 2 + s) (n e : Fin 1024) :
    out0_5 (F := Ideal) (iblk m c 0 t) (iblk m c 1 t) (iblk m c 2 t) (iblk m c 3 t) (iblk m c 4 t) (ix2 n e)
      = Cert.Reference6Ideal.Out.rows (argX m c) (argC m c) (argO m c) (argW m c) (ix2 ⟨b * 2048 + (s * 1024 + n), by omega⟩ e) := by
  refine Eq.trans ?_ (Cert.Reference6Ideal.Out.rows_at (argX m c) (argC m c) (argO m c) (argW m c) b ⟨s * 1024 + n, by omega⟩ e).symm
  rw [block]
  simp only [rd_x m c t b s ht, rd_c m c t b s ht, rd_o m c t b s ht, rd_w, rd_u]

theorem final_rows : (dats m 0 c).arrAt 5 cfg0.N = (Cert.Reference6Ideal.Out.rows (argX m c) (argC m c) (argO m c) (argW m c) : FVec Ideal S16384x1024 .f32) := by
  refine (dats m 0 c).arrAt_eq_of_covers 5 _ (by decide +kernel) fun t _ y => ?_
  blk_simp
  rw [after0_5]
  have ht : t.val < 16 := t.isLt
  refine (congrArg _ (show y = ix2 (y 0) (y 1) by blk_ext [])).trans ((row_at m c t ⟨t.val / 2, by omega⟩ ⟨t.val % 2, by omega⟩
    (by show t.val = t.val / 2 * 2 + t.val % 2; omega) (y 0) (y 1)).trans ?_)
  refine congrArg (Cert.Reference6Ideal.Out.rows (argX m c) (argC m c) (argO m c) (argW m c)) ?_
  blk_ext [idx t]

end Cert.Kernel6Ideal.Out

namespace Cert.Proof

open Idealize.ShloMosaic Idealize.SL.Sem

/-- The reference ends with its arguments as they were and every semaphore at zero. -/
theorem mix_reference_frame : Cert.quiescent_Reference6Ideal (hReference6Ideal := Cert.Reference6Ideal.Gen.facts) :=
  fun m ρ _ => (θ_run Cert.Reference6Ideal.defs _ _).mono
    (fun r h => ⟨fun c => (h c).2, sem_eq_zero_of_no_sems (by decide) r.2⟩) (Cert.Reference6Ideal.Value.run (F := Ideal) m ρ)

set_option maxHeartbeats 1000000 in
/-- The call's result is the reference's. -/
theorem mix_value : Cert.algebraic_Kernel6Ideal_Reference6Ideal (hKernel6Ideal := Cert.Kernel6Ideal.Gen.facts) (hReference6Ideal := Cert.Reference6Ideal.Gen.facts) := by
  intro m ρ m' ρ' _ hagree
  refine ⟨_, Cert.Kernel6Ideal.Value.run_blocks m ρ, (θ_run _ _ _).mono (fun r h c => ?_) (Cert.Reference6Ideal.Value.run (F := Ideal) m' ρ')⟩
  obtain ⟨hy, ha⟩ := h c
  obtain ⟨h0, h1, h2, h3⟩ := hagree c
  refine ⟨hy.trans ?_, ha⟩
  rw [h0, h1, h2, h3]
  exact (Cert.Kernel6Ideal.Out.final_rows m c).symm

end Cert.Proof
end
-- ==== Proof.RetOut.lean ====
/-
  The output projection of the odd layer on the prompt: its result is the reference's, the residual and one product over the
  2048 columns of the retention.
-/
module

public import proofs.«01_k».proof.Defs
public import proofs.«01_k».proof.Proof.Gen.Kernel7Ideal.Frame
public import proofs.«01_k».proof.Proof.Gen.Kernel7Ideal.Value
public import proofs.«01_k».proof.Proof.Gen.Reference7Ideal.Run
public import Idealize.ShloMosaic.Lib.Pipeline.ValueKit
public import Idealize.ShloMosaic.Lib.Pipeline.ReadBack
public import Idealize.ShloMosaic.Lib.StableHlo.RunRead
public import Idealize.ShloMosaic.Lib.Quiescent
public import Idealize.ShloMosaic.Adequacy
public import Idealize.ShloMosaic.Init

@[expose] public section

set_option maxRecDepth 16384

noncomputable section

namespace Cert.Reference7Ideal.Out

open Cert.Reference7Ideal Cert.Reference7Ideal.Gen Cert.Reference7Ideal.Value Idealize.ShloMosaic Idealize.ShloMosaic.TcCoe Idealize.ShloMosaic.ValueKit

variable (X : FVec Ideal S8x2048x1024 .f32) (M : FVec Ideal S8x2048x2048 .bf16) (W : FVec Ideal S1x2048x1024 .f32)

/-- The result. -/
def rows : FVec Ideal S16384x1024 .f32 :=
  shapeCast S16384x1024 (addf X (Host.dotGeneral dot_S8x2048x2048_S2048x1024_S8x2048x1024_2_0_01_1_n_n none (extf .f32 M bitsLt_bf16_f32)
    (shapeCast S2048x1024 W shapeCasts_S1x2048x1024_S2048x1024))) shapeCasts_S8x2048x1024_S16384x1024

theorem rows_at (b : Fin 8) (p : Fin 2048) (e : Fin 1024) : rows X M W (ix2 ⟨b * 2048 + p, by omega⟩ e)
    = X (ix3 b p e) + ∑ j : Fin 2048, M (ix3 b p j) * W (ix3 0 j e) := by
  pointwise [rows]

end Cert.Reference7Ideal.Out

namespace Cert.Kernel7Ideal.Out

open Cert.Kernel7Ideal Cert.Kernel7Ideal.Gen Idealize.ShloMosaic Idealize.ShloMosaic.TcCoe Idealize.ShloMosaic.ValueKit

/-- A grid point's rows. -/
theorem block (x0 : FVec Ideal S1024x1024 .f32) (x1 : FVec Ideal S1024x2048 .bf16) (x2 : FVec Ideal S2048x1024 .bf16) (n e : Fin 1024) :
    out0_3 (F := Ideal) x0 x1 x2 (ix2 n e) = x0 (ix2 n e) + ∑ j : Fin 2048, x1 (ix2 n j) * x2 (ix2 j e) := by
  frame_out
  open_payloads
  pointwise []

variable (m : (ℓ : Loc nD τ sig) → Buf (Elt Ideal) ℓ) (c : Dev nD)

/-- The block each point stages. -/
theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, win0_0.index t = ![t.val, 0] ∧ win0_1.index t = ![t.val, 0] ∧ win0_2.index t = ![0, 0] ∧ win0_3.index t = ![t.val, 0])

/-- The three argument arrays. -/
abbrev argX : FVec Ideal S8x2048x1024 .f32 := m ((c : Thread nD τ).loc main_arg0)
abbrev argM : FVec Ideal S8x2048x2048 .bf16 := m ((c : Thread nD τ).loc main_arg1)
abbrev argW : FVec Ideal S1x2048x1024 .f32 := m ((c : Thread nD τ).loc main_arg2)

set_option maxHeartbeats 1000000 in
theorem ent_x (b : Fin 8) (p : Fin 2048) (e : Fin 1024) : (V m c main_v0 : FVec Ideal S16384x1024 .f32) (ix2 ⟨b * 2048 + p, by omega⟩ e) = argX m c (ix3 b p e) := by
  simp only [V, List.flatten_cons, List.flatten_nil, List.append_nil]; after_reads_simp
  pointwise []

set_option maxHeartbeats 1000000 in
theorem ent_m (b : Fin 8) (p : Fin 2048) (e : Fin 2048) : (V m c main_v1 : FVec Ideal S16384x2048 .bf16) (ix2 ⟨b * 2048 + p, by omega⟩ e) = argM m c (ix3 b p e) := by
  simp only [V, List.flatten_cons, List.flatten_nil, List.append_nil]; after_reads_simp
  pointwise []

set_option maxHeartbeats 1000000 in
theorem ent_w (j : Fin 2048) (e : Fin 1024) : (V m c main_v3 : FVec Ideal S2048x1024 .bf16) (ix2 j e) = argW m c (ix3 0 j e) := by
  simp only [V, List.flatten_cons, List.flatten_nil, List.append_nil]; after_reads_simp
  pointwise []

variable (t : Fin cfg0.N)

/-- A point's tokens: residual and retention. -/
theorem rd_x (b : Fin 8) (s : Fin 2) (ht : t.val = b * 2 + s) (n : Fin 1024) (e : Fin 1024) :
    (iblk m c 0 t : FVec Ideal S1024x1024 .f32) (ix2 n e) = argX m c (ix3 b ⟨s * 1024 + n, by omega⟩ e) := by
  blk_simp [iblk]
  refine (congrArg (V m c main_v0) ?_).trans (ent_x m c b ⟨s * 1024 + n, by omega⟩ e)
  blk_ext [idx t]

theorem rd_m (b : Fin 8) (s : Fin 2) (ht : t.val = b * 2 + s) (n : Fin 1024) (e : Fin 2048) :
    (iblk m c 1 t : FVec Ideal S1024x2048 .bf16) (ix2 n e) = argM m c (ix3 b ⟨s * 1024 + n, by omega⟩ e) := by
  blk_simp [iblk]
  refine (congrArg (V m c main_v1) ?_).trans (ent_m m c b ⟨s * 1024 + n, by omega⟩ e)
  blk_ext [idx t]

/-- The weights. -/
theorem rd_w (j : Fin 2048) (e : Fin 1024) : (iblk m c 2 t : FVec Ideal S2048x1024 .bf16) (ix2 j e) = argW m c (ix3 0 j e) := by
  blk_simp [iblk]
  refine (congrArg (V m c main_v3) ?_).trans (ent_w m c j e)
  blk_ext [idx t]

/-- A point's row is the reference's. -/
theorem row_at (b : Fin 8) (s : Fin 2) (ht : t.val = b * 2 + s) (n e : Fin 1024) :
    out0_3 (F := Ideal) (iblk m c 0 t) (iblk m c 1 t) (iblk m c 2 t) (ix2 n e)
      = Cert.Reference7Ideal.Out.rows (argX m c) (argM m c) (argW m c) (ix2 ⟨b * 2048 + (s * 1024 + n), by omega⟩ e) := by
  refine Eq.trans ?_ (Cert.Reference7Ideal.Out.rows_at (argX m c) (argM m c) (argW m c) b ⟨s * 1024 + n, by omega⟩ e).symm
  rw [block]
  simp only [rd_x m c t b s ht, rd_m m c t b s ht, rd_w]

theorem final_rows : (dats m 0 c).arrAt 3 cfg0.N = (Cert.Reference7Ideal.Out.rows (argX m c) (argM m c) (argW m c) : FVec Ideal S16384x1024 .f32) := by
  refine (dats m 0 c).arrAt_eq_of_covers 3 _ (by decide +kernel) fun t _ y => ?_
  blk_simp
  rw [after0_3]
  have ht : t.val < 16 := t.isLt
  refine (congrArg _ (show y = ix2 (y 0) (y 1) by blk_ext [])).trans ((row_at m c t ⟨t.val / 2, by omega⟩ ⟨t.val % 2, by omega⟩
    (by show t.val = t.val / 2 * 2 + t.val % 2; omega) (y 0) (y 1)).trans ?_)
  refine congrArg (Cert.Reference7Ideal.Out.rows (argX m c) (argM m c) (argW m c)) ?_
  blk_ext [idx t]

end Cert.Kernel7Ideal.Out

namespace Cert.Proof

open Idealize.ShloMosaic Idealize.SL.Sem

/-- The reference ends with its arguments as they were and every semaphore at zero. -/
theorem ret_out_reference_frame : Cert.quiescent_Reference7Ideal (hReference7Ideal := Cert.Reference7Ideal.Gen.facts) :=
  fun m ρ _ => (θ_run Cert.Reference7Ideal.defs _ _).mono
    (fun r h => ⟨fun c => (h c).2, sem_eq_zero_of_no_sems (by decide) r.2⟩) (Cert.Reference7Ideal.Value.run (F := Ideal) m ρ)

set_option maxHeartbeats 1000000 in
/-- The call's result is the reference's. -/
theorem ret_out_value : Cert.algebraic_Kernel7Ideal_Reference7Ideal (hKernel7Ideal := Cert.Kernel7Ideal.Gen.facts) (hReference7Ideal := Cert.Reference7Ideal.Gen.facts) := by
  intro m ρ m' ρ' _ hagree
  refine ⟨_, Cert.Kernel7Ideal.Value.run_blocks m ρ, (θ_run _ _ _).mono (fun r h c => ?_) (Cert.Reference7Ideal.Value.run (F := Ideal) m' ρ')⟩
  obtain ⟨hy, ha⟩ := h c
  obtain ⟨h0, h1, h2⟩ := hagree c
  refine ⟨hy.trans ?_, ha⟩
  rw [h0, h1, h2]
  exact (Cert.Kernel7Ideal.Out.final_rows m c).symm

end Cert.Proof
end
-- ==== Proof.NormRun.lean ====
/-
  The body of the odd layer's input projection, run once on each of its three control paths: the first columns, which
  also norm the rows, the second ones, and the last ones, which go to the other output.
-/
module

public import proofs.«01_k».proof.Proof.Gen.Kernel8
public import proofs.«01_k».proof.Proof.Gen.Kernel8Ideal.Skeleton
public import proofs.«01_k».proof.Proof.Gen.Kernel8Ideal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.ValueKit
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Kernel8Ideal.Norm

open Cert.Kernel8Ideal Cert.Kernel8Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- A store of the whole shape, last, is what the view then reads. -/
theorem read_last {Val : EltTy → Type} {sig : RefSig} {κ : Kind} {sp : Space} {S : Shape} {e : EltTy} (v : View sig κ sp S e) (f : v.ty.Contents Val)
    {off : Fin S.rank → ℕ} (h : ∀ a, off a = 0) (inb : ∀ a, off a + S.size a ≤ S.size a) (w : S.Idx → Val e)
    (L : List (View.Piece Val S e)) :
    v.read Val (v.writes Val f (⟨Rect.unit off S.size inb, w⟩ :: L)) = w := by
  funext y
  have hr := View.read_writes_cons_emb (v := v) (f := f) (Rect.unit off S.size inb) w L y
  have hy : (Rect.unit off S.size inb).emb y = y := by
    funext a
    refine Fin.ext ?_
    rw [ValueKit.rect_emb_unit_val, h a, Nat.zero_add]
  rwa [hy] at hr

/-- The conditions of the body's three branches. -/
abbrev cond0 (i : grid0.Coords) : Prop := (Scalar.cmpi .ne (Scalar.extui (Scalar.cmpi .eq (BitVec.ofNat 32 (i 1).val) 0#32)) 0#32) = 1#1
abbrev cond1 (i : grid0.Coords) : Prop := k0_cond2 i = 1#1
abbrev cond2 (i : grid0.Coords) : Prop := k0_cond3 i = 1#1

variable (c : Dev nD) (i : grid0.Coords) (arg2 : Memref sig .tc .vmem S1024x1024 .f32) (harg2 : arg2.IsWhole)
  (arg3 : Memref sig .tc .vmem S1x1024 .f32) (harg3 : arg3.IsWhole) (arg4 : Memref sig .tc .vmem S1024x2048 .bf16) (harg4 : arg4.IsWhole)
  (arg5 : Memref sig .tc .vmem S1024x2048 .f32) (harg5 : arg5.IsWhole) (arg6 : Memref sig .tc .vmem S1024x2048 .bf16) (harg6 : arg6.IsWhole)
  (arg7 : Memref sig .tc .vmem S1024x1024 .bf16) (harg7 : arg7.IsWhole)
  (x0 : Vec F S1024x1024 .f32) (x1 : Vec F S1x1024 .f32) (x2 : Vec F S1024x2048 .bf16)

set_option backward.proofsInPublic true in
set_option maxHeartbeats 4000000 in
/-- The first columns: the normed rows and their product. -/
theorem body_A (hc0 : cond0 i) (hc1 : cond1 i) (hc2 : ¬cond2 i) (y6 : Vec F S1024x2048 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare y6 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 (k0_pay1 x0 x1) x2)
            ∗ owns (c : Thread nD τ) arg6 fullShare y6
            ∗ owns (c : Thread nD τ) arg7 fullShare (k0_pay1 x0 x1)) -∗ K ⟨⟩))
      ⊢ wp frame (wpE (defs₀ (F := F)) Variants.none c none) Set.univ (cc0_norm_proj i arg2 harg2 arg3 harg3 arg4 harg4 arg5 harg5 arg6 harg6 arg7 harg7) K := by
  rw [cc0_norm_proj_eq_skeleton]; unfold cc0_norm_proj_skel
  unfold owns
  iintro ⟨⟨%f0, %hf0, H0⟩, ⟨%f1, %hf1, H1⟩, ⟨%f2, %hf2, H2⟩, ⟨%d5, %f5, -, H5⟩, ⟨%f6, %hf6, H6⟩, ⟨%d7, %f7, -, H7⟩, Hk⟩
  obtain rfl := harg2.eq_unread hf0; obtain rfl := harg3.eq_unread hf1; obtain rfl := harg4.eq_unread hf2
  obtain rfl := harg6.eq_unread hf6
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr; swap
    · iexact H5
    · ipureintro; refine (read_last _ _ (by decide) _ _ _).trans ?_
      frame_out
  isplitl [H6]
  · iexists _; isplitr; · ipureintro; exact harg6.read_unread _
    iexact H6
  iexists _; isplitr; swap
  · iexact H7
  · ipureintro; refine (read_last _ _ (by decide) _ _ _).trans ?_
    frame_out

set_option backward.proofsInPublic true in
set_option maxHeartbeats 4000000 in
/-- The second columns: the product of the rows held. -/
theorem body_B (hc0 : ¬cond0 i) (hc1 : cond1 i) (hc2 : ¬cond2 i) (y6 : Vec F S1024x2048 .bf16) (h : Vec F S1024x1024 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare y6 ∗ owns (c : Thread nD τ) arg7 fullShare h
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 h x2)
            ∗ owns (c : Thread nD τ) arg6 fullShare y6
            ∗ owns (c : Thread nD τ) arg7 fullShare h) -∗ K ⟨⟩))
      ⊢ wp frame (wpE (defs₀ (F := F)) Variants.none c none) Set.univ (cc0_norm_proj i arg2 harg2 arg3 harg3 arg4 harg4 arg5 harg5 arg6 harg6 arg7 harg7) K := by
  rw [cc0_norm_proj_eq_skeleton]; unfold cc0_norm_proj_skel
  unfold owns
  iintro ⟨⟨%f0, %hf0, H0⟩, ⟨%f1, %hf1, H1⟩, ⟨%f2, %hf2, H2⟩, ⟨%d5, %f5, -, H5⟩, ⟨%f6, %hf6, H6⟩, ⟨%f7, %hf7, H7⟩, Hk⟩
  obtain rfl := harg2.eq_unread hf0; obtain rfl := harg3.eq_unread hf1; obtain rfl := harg4.eq_unread hf2
  obtain rfl := harg6.eq_unread hf6; obtain rfl := harg7.eq_unread hf7
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr; swap
    · iexact H5
    · ipureintro; refine (read_last _ _ (by decide) _ _ _).trans ?_
      frame_out
  isplitl [H6]
  · iexists _; isplitr; · ipureintro; exact harg6.read_unread _
    iexact H6
  iexists _; isplitr; · ipureintro; exact harg7.read_unread _
  iexact H7

set_option backward.proofsInPublic true in
set_option maxHeartbeats 4000000 in
/-- The last columns: the product of the rows held, rounded. -/
theorem body_C (hc0 : ¬cond0 i) (hc1 : ¬cond1 i) (hc2 : cond2 i) (y5 : Vec F S1024x2048 .f32) (h : Vec F S1024x1024 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare y5 ∗ (∃ d, owns (c : Thread nD τ) arg6 fullShare d) ∗ owns (c : Thread nD τ) arg7 fullShare h
        ∗ (iprop(owns (c : Thread nD τ) arg2 fullShare x0 ∗ owns (c : Thread nD τ) arg3 fullShare x1 ∗ owns (c : Thread nD τ) arg4 fullShare x2
            ∗ owns (c : Thread nD τ) arg5 fullShare y5
            ∗ owns (c : Thread nD τ) arg6 fullShare (k0_pay3 h x2)
            ∗ owns (c : Thread nD τ) arg7 fullShare h) -∗ K ⟨⟩))
      ⊢ wp frame (wpE (defs₀ (F := F)) Variants.none c none) Set.univ (cc0_norm_proj i arg2 harg2 arg3 harg3 arg4 harg4 arg5 harg5 arg6 harg6 arg7 harg7) K := by
  rw [cc0_norm_proj_eq_skeleton]; unfold cc0_norm_proj_skel
  unfold owns
  iintro ⟨⟨%f0, %hf0, H0⟩, ⟨%f1, %hf1, H1⟩, ⟨%f2, %hf2, H2⟩, ⟨%f5, %hf5, H5⟩, ⟨%d6, %f6, -, H6⟩, ⟨%f7, %hf7, H7⟩, Hk⟩
  obtain rfl := harg2.eq_unread hf0; obtain rfl := harg3.eq_unread hf1; obtain rfl := harg4.eq_unread hf2
  obtain rfl := harg5.eq_unread hf5; obtain rfl := harg7.eq_unread hf7
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr; · ipureintro; exact harg5.read_unread _
    iexact H5
  isplitl [H6]
  · iexists _; isplitr; swap
    · iexact H6
    · ipureintro; refine (read_last _ _ (by decide) _ _ _).trans ?_
      frame_out
  iexists _; isplitr; · ipureintro; exact harg7.read_unread _
  iexact H7

end Cert.Kernel8Ideal.Norm

end
-- ==== Proof.NormFrame.lean ====
/-
  The odd layer's input projection: its pipeline's data, the body's obligation at every point, and the run of the whole
  call.
-/
module

public import proofs.«01_k».proof.Defs
public import proofs.«01_k».proof.Proof.NormRun
public import Idealize.ShloMosaic.Lib.WordCmp

@[expose] public section

set_option maxRecDepth 16384
set_option Elab.async false

noncomputable section

namespace Cert.Kernel8Ideal.Norm

open Cert.Kernel8Ideal Cert.Kernel8Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- Core `c`'s buffers when the region is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## A point's coordinates, buffers and blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev scM : Memref sig .tc .vmem S1024x1024 .bf16 := Memref.whole cc0_scratch0

theorem crd1 (t : Fin cfg0.N) : ((grid0.coords t) 1).val = t.val % 3 :=
  (by decide +kernel : ∀ t : Fin grid0.N, ((grid0.coords t) 1).val = t.val % 3) t

theorem ctl0 (t : Fin cfg0.N) : cond0 (grid0.coords t) ↔ t.val % 3 = 0 :=
  (by decide +kernel : ∀ t : Fin grid0.N, cond0 (grid0.coords t) ↔ t.val % 3 = 0) t
theorem ctl1 (t : Fin cfg0.N) : cond1 (grid0.coords t) ↔ t.val % 3 ≠ 2 :=
  (by decide +kernel : ∀ t : Fin grid0.N, cond1 (grid0.coords t) ↔ t.val % 3 ≠ 2) t
theorem ctl2 (t : Fin cfg0.N) : cond2 (grid0.coords t) ↔ t.val % 3 = 2 :=
  (by decide +kernel : ∀ t : Fin grid0.N, cond2 (grid0.coords t) ↔ t.val % 3 = 2) t

/-- The first output's buffer is stored at the first two columns, … -/
theorem idle_3 (t : Fin cfg0.N) : cfg0.idle (3 : Fin 5) (cfg0.grid.coords t) = decide (t.val % 3 = 2) := by
  show (!(k0_cond2 (grid0.coords t) == 1#1)) = _
  have h := ctl1 t
  unfold cond1 at h
  by_cases hj : t.val % 3 = 2
  · have : ¬k0_cond2 (grid0.coords t) = 1#1 := fun e => h.mp e hj
    simp [hj, this]
  · simp [hj, h.mpr hj]
/-- … the second one's at the last, … -/
theorem idle_4 (t : Fin cfg0.N) : cfg0.idle (4 : Fin 5) (cfg0.grid.coords t) = decide (t.val % 3 ≠ 2) := by
  show (!(k0_cond3 (grid0.coords t) == 1#1)) = _
  have h := ctl2 t
  unfold cond2 at h
  by_cases hj : t.val % 3 = 2
  · simp [hj, h.mpr hj]
  · have : ¬k0_cond3 (grid0.coords t) = 1#1 := fun e => hj (h.mp e)
    simp [hj, this]
/-- … the first one's is written back after the first and the last, the second one's after the last. -/
theorem flush_3 (t : Fin cfg0.N) : (cfg0.win (3 : Fin 5)).flush t = decide (t.val % 3 ≠ 1) := by
  rw [Pipeline.Window.flush_eq_flushF]
  exact (by decide +kernel : ∀ t : Fin grid0.N, win0_3.flushF t = decide (t.val % 3 ≠ 1)) t
theorem flush_4 (t : Fin cfg0.N) : (cfg0.win (4 : Fin 5)).flush t = decide (t.val % 3 = 2) := by
  rw [Pipeline.Window.flush_eq_flushF]
  exact (by decide +kernel : ∀ t : Fin grid0.N, win0_4.flushF t = decide (t.val % 3 = 2)) t

theorem mod3 (n : ℕ) : n % 3 = 0 ∨ n % 3 = 1 ∨ n % 3 = 2 := by omega

/-- Before the last columns, and only there, the first output's buffer holds what the point before stored. -/
theorem fresh_3 (n : ℕ) (h : n ≤ cfg0.N) : cfg0.fresh (3 : Fin 5) n = decide (n % 3 ≠ 2) :=
  Pipeline.Cfg.fresh_tab cfg0 (3 : Fin 5) (fun n => decide (n % 3 ≠ 2)) rfl (fun t => by
    rw [flush_3, idle_3]
    rcases mod3 t.val with h | h | h <;> simp [h, Nat.add_mod]) n h
theorem fresh_4 (n : ℕ) (h : n ≤ cfg0.N) : cfg0.fresh (4 : Fin 5) n = true :=
  Pipeline.Cfg.fresh_tab cfg0 (4 : Fin 5) (fun _ => true) rfl (fun t => by
    rw [flush_4, idle_4]
    rcases mod3 t.val with h | h | h <;> simp [h]) n h

/-! ## What the body computes -/

/-- The first point of `t`'s row tile, and the point before. -/
def base (t : Fin cfg0.N) : Fin cfg0.N := ⟨t.val - t.val % 3, Nat.lt_of_le_of_lt (Nat.sub_le _ _) t.isLt⟩
def prev (t : Fin cfg0.N) : Fin cfg0.N := ⟨t.val - 1, Nat.lt_of_le_of_lt (Nat.sub_le _ _) t.isLt⟩

/-- The normed rows of the tile. -/
def rows (c : Dev nD) (t : Fin cfg0.N) : Vec F S1024x1024 .bf16 := k0_pay1 (iblk m c (0 : Fin 5) (base t)) (iblk m c (1 : Fin 5) (base t))
/-- The first output's block in its buffer after `t`. -/
def out3 (c : Dev nD) (t : Fin cfg0.N) : Vec F S1024x2048 .f32 :=
  k0_pay2 (rows m c t) (iblk m c (2 : Fin 5) (if t.val % 3 = 2 then prev t else t))
/-- The second output's block. -/
def out4 (c : Dev nD) (t : Fin cfg0.N) : Vec F S1024x2048 .bf16 := k0_pay3 (rows m c t) (iblk m c (2 : Fin 5) t)

theorem base_zero (t : Fin cfg0.N) (h : t.val % 3 = 0) : base t = t := Fin.ext (by simp [base, h])
theorem base_prev (t : Fin cfg0.N) (h : t.val % 3 ≠ 0) : base (prev t) = base t := Fin.ext (by simp only [base, prev]; omega)
theorem rows_prev (c : Dev nD) (t : Fin cfg0.N) (h : t.val % 3 ≠ 0) : rows m c (prev t) = rows m c t := by unfold rows; rw [base_prev t h]
theorem out3_prev (c : Dev nD) (t : Fin cfg0.N) (h : t.val % 3 = 2) : out3 m c (prev t) = out3 m c t := by
  unfold out3
  rw [rows_prev m c t (by omega), if_pos h, if_neg (show ¬(prev t).val % 3 = 2 by simp only [prev]; omega)]

theorem pred_lt {N n : ℕ} (h : n ≤ N) (h3 : n % 3 ≠ 0) : n - 1 < N := by omega

/-- Before a point that is not its tile's first the scratch holds the tile's normed rows. -/
def Phi (c : Dev nD) (n : ℕ) (hn : n ≤ cfg0.N) : sProp 𝕄 :=
  iprop((∃ s : S1024x1024.Idx → Elt F .bf16, ⌜∀ h : n % 3 ≠ 0, s = rows m c ⟨n - 1, pred_lt hn h⟩⌝ ∗ owns (c : Thread nD τ) scM fullShare s) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c (0 : Fin 5) t
    | ⟨1, _⟩ => iblk m c (1 : Fin 5) t
    | ⟨2, _⟩ => iblk m c (2 : Fin 5) t
    | ⟨3, _⟩ => out3 m c t
    | ⟨4, _⟩ => out4 m c t
  Φ t := Phi m c t.val (Nat.le_of_lt_succ t.isLt)
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after (0 : Fin 5) t = iblk m c (0 : Fin 5) t := by dsimp only [dats]
theorem after0_1 (c : Dev nD) (t : Fin cfg0.N) : (dats m 0 c).after (1 : Fin 5) t = iblk m c (1 : Fin 5) t := by dsimp only [dats]
theorem after0_2 (c : Dev nD) (t : Fin cfg0.N) : (dats m 0 c).after (2 : Fin 5) t = iblk m c (2 : Fin 5) t := by dsimp only [dats]
theorem after0_3 (c : Dev nD) (t : Fin cfg0.N) : (dats m 0 c).after (3 : Fin 5) t = out3 m c t := by dsimp only [dats]
theorem after0_4 (c : Dev nD) (t : Fin cfg0.N) : (dats m 0 c).after (4 : Fin 5) t = out4 m c t := by dsimp only [dats]

theorem before0_0 (c : Dev nD) (t : Fin cfg0.N) (d) : (dats m 0 c).before (0 : Fin 5) t d = iblk m c (0 : Fin 5) t :=
  ((dats m 0 c).before_in_eq_fetched (0 : Fin 5) rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before (1 : Fin 5) t d = iblk m c (1 : Fin 5) t :=
  ((dats m 0 c).before_in_eq_fetched (1 : Fin 5) rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before (2 : Fin 5) t d = iblk m c (2 : Fin 5) t :=
  ((dats m 0 c).before_in_eq_fetched (2 : Fin 5) rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before (3 : Fin 5) t d = if t.val % 3 = 2 then out3 m c t else d := by
  rw [(dats m 0 c).before_out_traj (3 : Fin 5) rfl (fun _ _ => rfl)
    (fun t _ _ hf => by
      rw [fresh_3 t.val (Nat.le_of_lt t.isLt)] at hf
      rw [after0_3, after0_3]
      exact (out3_prev m c t (by simpa using hf)).symm) t.val t rfl d,
    fresh_3 t.val (Nat.le_of_lt t.isLt)]
  by_cases h : t.val % 3 = 2
  · simp only [h, ne_eq, not_true_eq_false, decide_false, Bool.false_eq_true, if_false, if_true]
    rw [after0_3]; exact out3_prev m c t h
  · simp only [h, ne_eq, not_false_eq_true, decide_true, if_true, if_false]
theorem before0_4 (c : Dev nD) (t : Fin cfg0.N) (d) : (dats m 0 c).before (4 : Fin 5) t d = d := by
  rw [(dats m 0 c).before_out_traj (4 : Fin 5) rfl (fun _ _ => rfl)
    (fun t _ _ hf => by rw [fresh_4 t.val (Nat.le_of_lt t.isLt)] at hf; exact absurd hf (by decide)) t.val t rfl d,
    fresh_4 t.val (Nat.le_of_lt t.isLt)]
  rfl

/-! ## The body's obligation -/

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x2048 .bf16 := win0_4.stage (cfg0.slots t 4)
abbrev hs0_4 (t : Fin cfg0.N) : (ms0_4 t).IsWhole := hstage0_4 ((cfg0.slots t 4).cast nbuf0_4)

abbrev bodyAt0 (t : Fin cfg0.N) : Prog (TpuEff nD τ sig (Elt F) Λ₀ .tc) PUnit :=
  cc0_norm_proj (grid0.coords t) (ms0_0 t) (hs0_0 t) (ms0_1 t) (hs0_1 t) (ms0_2 t) (hs0_2 t) (ms0_3 t) (hs0_3 t) (ms0_4 t) (hs0_4 t) scM (Memref.isWhole_whole _)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before (0 : Fin 5) t d))
    ∗ (∃ d, owns (c : Thread nD τ) (ms0_1 t) fullShare ((dats m 0 c).before (1 : Fin 5) t d))
    ∗ (∃ d, owns (c : Thread nD τ) (ms0_2 t) fullShare ((dats m 0 c).before (2 : Fin 5) t d))
    ∗ (∃ d, owns (c : Thread nD τ) (ms0_3 t) fullShare ((dats m 0 c).before (3 : Fin 5) t d))
    ∗ (∃ d, owns (c : Thread nD τ) (ms0_4 t) fullShare ((dats m 0 c).before (4 : Fin 5) t d)))

def bodyPost (c : Dev nD) (t : Fin cfg0.N) : sProp 𝕄 :=
  iprop((dats m 0 c).Φ t.succ ∗ (dats m 0 c).owesAt () t.succ
    ∗ (dats m 0 c).leavesExact (0 : Fin 5) t
    ∗ (dats m 0 c).leavesExact (1 : Fin 5) t
    ∗ (dats m 0 c).leavesExact (2 : Fin 5) t
    ∗ (dats m 0 c).leavesExact (3 : Fin 5) t
    ∗ (dats m 0 c).leavesExact (4 : Fin 5) t)

theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]
theorem leaves_flushed (c : Dev nD) (w : Fin cfg0.W) (t : Fin cfg0.N) (h : cfg0.idle w (cfg0.grid.coords t) = true) (hf : (cfg0.win w).flush t = true) :
    (dats m 0 c).leavesExact w t = owns (c : Thread nD τ) ((cfg0.win w).stage (cfg0.slots t w)) fullShare ((dats m 0 c).after w t) := by
  unfold Dat.leavesExact; rw [h, hf]

set_option maxHeartbeats 4000000 in
/-- The body at a point, by its control path. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  have i3 := idle_3 t
  have i4 := idle_4 t
  have f3 := flush_3 t
  have f4 := flush_4 t
  simp only [before0_0, before0_1, before0_2, before0_3, before0_4]
  rw [show (dats m 0 c).owesAt () t.succ = (dats m 0 c).owesAt () t.castSucc from rfl,
    show (dats m 0 c).Φ t.succ = Phi m c (t.val + 1) t.isLt from rfl, show (dats m 0 c).Φ t.castSucc = Phi m c t.val (Nat.le_of_lt t.isLt) from rfl,
    leaves_live m c (0 : Fin 5) t rfl, leaves_live m c (1 : Fin 5) t rfl, leaves_live m c (2 : Fin 5) t rfl, after0_0, after0_1, after0_2]
  unfold Phi
  rcases mod3 t.val with hj | hj | hj
  · rw [leaves_live m c (3 : Fin 5) t (by rw [i3]; simp [hj]),
      Dat.leavesExact_idle (dats m 0 c) (4 : Fin 5) t (by rw [i4]; simp [hj]) (by rw [f4]; simp [hj]), after0_3]
    simp only [before0_4, if_neg (show ¬t.val % 3 = 2 by omega)]
    have hr : k0_pay1 (iblk m c (0 : Fin 5) t) (iblk m c (1 : Fin 5) t) = rows m c t := by unfold rows; rw [base_zero t hj]
    have ho : k0_pay2 (k0_pay1 (iblk m c (0 : Fin 5) t) (iblk m c (1 : Fin 5) t)) (iblk m c (2 : Fin 5) t) = out3 m c t := by
      unfold out3; rw [hr, if_neg (by omega)]
    iintro ⟨⟨⟨%s, %hs, HS⟩, Hg⟩, Ho, ⟨%d0, H0⟩, ⟨%d1, H1⟩, ⟨%d2, H2⟩, ⟨%d3, H3⟩, ⟨%d4, H4⟩⟩
    iapply (body_A (F := F) c (grid0.coords t) (ms0_0 t) (hs0_0 t) (ms0_1 t) (hs0_1 t) (ms0_2 t) (hs0_2 t) (ms0_3 t) (hs0_3 t) (ms0_4 t) (hs0_4 t) scM (Memref.isWhole_whole _) (iblk m c (0 : Fin 5) t) (iblk m c (1 : Fin 5) t) (iblk m c (2 : Fin 5) t) ((ctl0 t).mpr hj) ((ctl1 t).mpr (by omega)) (fun h => by have := (ctl2 t).mp h; omega) d4 _)
    isplitl [H0]; · iexact H0
    isplitl [H1]; · iexact H1
    isplitl [H2]; · iexact H2
    isplitl [H3]; · iexists _; iexact H3
    isplitl [H4]; · iexact H4
    isplitl [HS]; · iexists _; iexact HS
    iintro ⟨H0, H1, H2, H3, H4, HS⟩
    isplitl [HS Hg]
    · isplitl [HS]
      · iexists _; isplitr; swap
        · iexact HS
        · ipureintro; intro h; exact hr
      iexact Hg
    isplitl [Ho]; · iexact Ho
    isplitl [H0]; · iexact H0
    isplitl [H1]; · iexact H1
    isplitl [H2]; · iexact H2
    isplitl [H3]
    · rw [← ho]; iexact H3
    iexists d4; iexact H4
  · rw [leaves_live m c (3 : Fin 5) t (by rw [i3]; simp [hj]),
      Dat.leavesExact_idle (dats m 0 c) (4 : Fin 5) t (by rw [i4]; simp [hj]) (by rw [f4]; simp [hj]), after0_3]
    simp only [before0_4, if_neg (show ¬t.val % 3 = 2 by omega)]
    have hp : rows m c ⟨t.val - 1, pred_lt (Nat.le_of_lt t.isLt) (by omega)⟩ = rows m c t := rows_prev m c t (by omega)
    have ho : k0_pay2 (rows m c t) (iblk m c (2 : Fin 5) t) = out3 m c t := by unfold out3; rw [if_neg (by omega)]
    iintro ⟨⟨⟨%s, %hs, HS⟩, Hg⟩, Ho, ⟨%d0, H0⟩, ⟨%d1, H1⟩, ⟨%d2, H2⟩, ⟨%d3, H3⟩, ⟨%d4, H4⟩⟩
    have es : s = rows m c t := (hs (by omega)).trans hp
    iapply (body_B (F := F) c (grid0.coords t) (ms0_0 t) (hs0_0 t) (ms0_1 t) (hs0_1 t) (ms0_2 t) (hs0_2 t) (ms0_3 t) (hs0_3 t) (ms0_4 t) (hs0_4 t) scM (Memref.isWhole_whole _) (iblk m c (0 : Fin 5) t) (iblk m c (1 : Fin 5) t) (iblk m c (2 : Fin 5) t) (fun h => by have := (ctl0 t).mp h; omega) ((ctl1 t).mpr (by omega)) (fun h => by have := (ctl2 t).mp h; omega) d4 s _)
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, H3, H4, HS⟩
    isplitl [HS Hg]
    · isplitl [HS]
      · iexists _; isplitr; swap
        · iexact HS
        · ipureintro; intro h; exact es
      iexact Hg
    isplitl [Ho]; · iexact Ho
    isplitl [H0]; · iexact H0
    isplitl [H1]; · iexact H1
    isplitl [H2]; · iexact H2
    isplitl [H3]
    · rw [← ho, ← es]; iexact H3
    iexists d4; iexact H4
  · rw [leaves_flushed m c (3 : Fin 5) t (by rw [i3]; simp [hj]) (by rw [f3]; simp [hj]),
      leaves_live m c (4 : Fin 5) t (by rw [i4]; simp [hj]), after0_3, after0_4]
    simp only [if_pos hj]
    have hp : rows m c ⟨t.val - 1, pred_lt (Nat.le_of_lt t.isLt) (by omega)⟩ = rows m c t := rows_prev m c t (by omega)
    have ho : k0_pay3 (rows m c t) (iblk m c (2 : Fin 5) t) = out4 m c t := rfl
    iintro ⟨⟨⟨%s, %hs, HS⟩, Hg⟩, Ho, ⟨%d0, H0⟩, ⟨%d1, H1⟩, ⟨%d2, H2⟩, ⟨%d3, H3⟩, ⟨%d4, H4⟩⟩
    have es : s = rows m c t := (hs (by omega)).trans hp
    iapply (body_C (F := F) c (grid0.coords t) (ms0_0 t) (hs0_0 t) (ms0_1 t) (hs0_1 t) (ms0_2 t) (hs0_2 t) (ms0_3 t) (hs0_3 t) (ms0_4 t) (hs0_4 t) scM (Memref.isWhole_whole _) (iblk m c (0 : Fin 5) t) (iblk m c (1 : Fin 5) t) (iblk m c (2 : Fin 5) t) (fun h => by have := (ctl0 t).mp h; omega) (fun h => (ctl1 t).mp h hj) ((ctl2 t).mpr hj) (out3 m c t) s _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hg]
    · isplitl [HS]
      · iexists _; isplitr; swap
        · iexact HS
        · ipureintro; intro h; omega
      iexact Hg
    isplitl [Ho]; · iexact Ho
    isplitl [H0]; · iexact H0
    isplitl [H1]; · iexact H1
    isplitl [H2]; · iexact H2
    isplitl [H3]
    · iexact H3
    rw [← ho, ← es]; iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem PhiA0_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

theorem hin (c : Dev nD) : Pipeline.ΦA spec0 c ⊢ (dats m 0 c).Φ 0 := by
  rw [show (dats m 0 c).Φ 0 = Phi m c 0 (Nat.zero_le _) from rfl, PhiA0_eq]
  unfold Phi
  iintro ⟨⟨%d, HS⟩, Hg⟩
  isplitl [HS]
  · iexists d; isplitr; swap
    · iexact HS
    · ipureintro; intro h; exact absurd rfl h
  iexact Hg

theorem hout (c : Dev nD) : (dats m 0 c).Φ (Fin.last cfg0.N) ⊢ Pipeline.ΦA spec0 c := by
  rw [show (dats m 0 c).Φ (Fin.last cfg0.N) = Phi m c cfg0.N (Nat.le_refl _) from rfl, PhiA0_eq]
  unfold Phi
  iintro ⟨⟨%d, -, HS⟩, Hg⟩
  isplitl [HS]
  · iexists d; iexact HS
  iexact Hg

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run: the two results the pipeline's arrays, the arguments as they were. -/
theorem run_blocks : θ_run defs (onTc (τ := τ) (main (F := F))) ⟨m, fun _ => 0, ρ⟩ (fun r => (∀ c : Dev nD,
      r.2.mem ((c.tc : Thread nD τ).loc main_v9_0) = (dats m 0 c).arrAt (3 : Fin 5) cfg0.N
      ∧ r.2.mem ((c.tc : Thread nD τ).loc main_v9_1) = (dats m 0 c).arrAt (4 : Fin 5) cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c).1 (3 : Fin 5), (h.1 c).1 (4 : Fin 5),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main_quiescent m ρ)

/-- The frame: the arguments unchanged, no semaphore held. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2.2, h.2⟩) (run_blocks m ρ)

end Cert.Kernel8Ideal.Norm

namespace Cert

open Idealize.ShloMosaic Idealize.ShloMosaic.TcCoe Idealize.SL.Sem

/-- The kernel's text is its ideal's, so its run is the same one. -/
theorem norm_body : @Kernel8.cc0_norm_proj Bits _ _ = @Kernel8Ideal.cc0_norm_proj Bits _ _ := rfl
theorem norm_defs₀ : Kernel8.defs₀ (F := Bits) = Kernel8Ideal.defs₀ (F := Bits) := by
  unfold Kernel8.defs₀ Kernel8Ideal.defs₀
  refine congrArg Defs.onTc ?_
  funext l x
  match l, x with
  | ⟨0, _⟩, (t, s) => rfl
theorem norm_defs : Kernel8.defs (F := Bits) = Kernel8Ideal.defs (F := Bits) := congrArg (Pipeline.defs (Kernel8.pcfgs (F := Bits))) norm_defs₀

theorem norm_frame_ideal : quiescent_Kernel8Ideal := fun m ρ _ => Kernel8Ideal.Norm.frame m ρ
theorem norm_frame : quiescent_Kernel8 := fun m ρ _ =>
  (congrArg (fun d => θ_run d (onTc (τ := Kernel8.τ) (Kernel8.main (F := Bits))) ⟨m, fun _ => 0, ρ⟩ _) norm_defs).mpr
    (Kernel8Ideal.Norm.frame (F := Bits) m ρ)

end Cert

end
-- ==== Proof.NormRef.lean ====
/-
  The reference of the odd layer's input projection, element by element.
-/
module

public import proofs.«01_k».proof.Proof.Gen.Reference8Ideal.Run
public import Idealize.ShloMosaic.Lib.Pipeline.ValueKit

@[expose] public section

set_option maxRecDepth 16384

noncomputable section

namespace Cert.Reference8Ideal.Norm

open Cert.Reference8Ideal Cert.Reference8Ideal.Gen Cert.Reference8Ideal.Value Idealize.ShloMosaic Idealize.ShloMosaic.TcCoe Idealize.ShloMosaic.ValueKit

variable (X : FVec Ideal S8x2048x1024 .f32) (G : FVec Ideal S1x1024 .f32) (W : FVec Ideal S1x1024x6144 .f32)

/-- Lane `e` of a token, normalized by the token's root mean square. -/
def hid (b : Fin 8) (p : Fin 2048) (e : Fin 1024) : EReal :=
  X (ix3 b p e) * Ideal.rsqrt (Ideal.div (∑ a : Fin 1024, X (ix3 b p a) * X (ix3 b p a)) (Ideal.ofBits FTy.f32 0x44800000#32) + Ideal.ofBits FTy.f32 0x358637BD#32)
    * G (ix2 0 e)

/-- A token against column `j` of the weights. -/
def col (b : Fin 8) (p : Fin 2048) (j : Fin 6144) : EReal := ∑ e : Fin 1024, hid X G b p e * W (ix3 0 e j)

/-- The normalized tokens. -/
def norm : FVec Ideal S8x2048x1024 .f32 :=
  mulf (mulf X (broadcastInDim S8x2048x1024 ![0, 1, 2] bcast_S8x2048x1_S8x2048x1024_0_1_2
      (Host.rsqrt (addf (Host.divf (broadcastInDim S8x2048x1 ![0, 1] bcast_S8x2048_S8x2048x1_0_1
          (Host.reduceAdd (mulf X X) (constant S_ .f32 0x00000000#32) reducesTo_S8x2048x1024_S8x2048_d2 h_S_))
        (broadcastInDim S8x2048x1 ![] bcast_S_S8x2048x1 (constant S_ .f32 0x44800000#32)))
        (broadcastInDim S8x2048x1 ![] bcast_S_S8x2048x1 (constant S_ .f32 0x358637BD#32))))))
    (broadcastInDim S8x2048x1024 ![0, 1, 2] bcast_S1x1x1024_S8x2048x1024_0_1_2 (broadcastInDim S1x1x1024 ![2] bcast_S1024_S1x1x1024_2 (shapeCast S1024 G shapeCasts_S1x1024_S1024)))

theorem norm_at (b : Fin 8) (p : Fin 2048) (e : Fin 1024) : norm X G (ix3 b p e) = hid X G b p e := by
  pointwise [norm, hid]

/-- The projection. -/
def proj : FVec Ideal S8x2048x6144 .f32 :=
  Host.dotGeneral dot_S8x2048x1024_S1024x6144_S8x2048x6144_2_0_01_1_n_n none (norm X G) (shapeCast S1024x6144 W shapeCasts_S1x1024x6144_S1024x6144)

theorem proj_at (b : Fin 8) (p : Fin 2048) (j : Fin 6144) : proj X G W (ix3 b p j) = col X G W b p j := by
  unfold col
  simp only [← norm_at]
  pointwise [proj]

/-- The queries', the keys' and the gates' columns side by side. -/
def cat : FVec Ideal S8x2048x4096 .f32 :=
  concatenate S8x2048x4096 2 [⟨S8x2048x1024, (extractStridedSlice S8x2048x1024 ![0, 0, 0] (proj X G W) slices_S8x2048x6144_S8x2048x1024_0_0_0)⟩,
    ⟨S8x2048x1024, (extractStridedSlice S8x2048x1024 ![0, 0, 1024] (proj X G W) slices_S8x2048x6144_S8x2048x1024_0_0_1024)⟩,
    ⟨S8x2048x2048, (extractStridedSlice S8x2048x2048 ![0, 0, 4096] (proj X G W) slices_S8x2048x6144_S8x2048x2048_0_0_4096)⟩]
    concatenates_S8x2048x1024_S8x2048x1024_S8x2048x2048_S8x2048x4096_d2

theorem cat_q (b : Fin 8) (p : Fin 2048) (j : Fin 1024) : cat X G W (ix3 b p ⟨j, by omega⟩) = proj X G W (ix3 b p ⟨j, by omega⟩) := by
  pointwise [cat]
theorem cat_k (b : Fin 8) (p : Fin 2048) (j : Fin 1024) : cat X G W (ix3 b p ⟨1024 + j, by omega⟩) = proj X G W (ix3 b p ⟨1024 + j, by omega⟩) := by
  pointwise [cat]
theorem cat_g (b : Fin 8) (p : Fin 2048) (j : Fin 2048) : cat X G W (ix3 b p ⟨2048 + j, by omega⟩) = proj X G W (ix3 b p ⟨4096 + j, by omega⟩) := by
  pointwise [cat]
  rw [dif_neg (by omega), dif_neg (by omega)]
  exact congrArg (fun i => proj X G W (ix3 b p i)) (Fin.ext (by show 4096 + (2048 + j.val - 1024 - 1024) = 4096 + j.val; omega))

/-- The first result. -/
def rows : FVec Ideal S16384x4096 .f32 := shapeCast S16384x4096 (cat X G W) shapeCasts_S8x2048x4096_S16384x4096

theorem rows_cat (b : Fin 8) (p : Fin 2048) (j : Fin 4096) : rows X G W (ix2 ⟨b * 2048 + p, by omega⟩ j) = cat X G W (ix3 b p j) := by
  pointwise [rows]

/-- Its lower half: the queries' and the keys' columns, … -/
theorem rows_lo (b : Fin 8) (p : Fin 2048) (j : Fin 2048) : rows X G W (ix2 ⟨b * 2048 + p, by omega⟩ ⟨j, by omega⟩) = col X G W b p ⟨j, by omega⟩ := by
  rw [rows_cat, ← proj_at]
  by_cases h : j.val < 1024
  · exact cat_q X G W b p ⟨j, h⟩
  · have e : j.val = 1024 + (j.val - 1024) := by omega
    refine (congrArg (fun i => cat X G W (ix3 b p i)) (Fin.ext e)).trans ((cat_k X G W b p ⟨j - 1024, by omega⟩).trans ?_)
    exact congrArg (fun i => proj X G W (ix3 b p i)) (Fin.ext e.symm)
/-- … and its upper half: the gates'. -/
theorem rows_hi (b : Fin 8) (p : Fin 2048) (j : Fin 2048) : rows X G W (ix2 ⟨b * 2048 + p, by omega⟩ ⟨2048 + j, by omega⟩) = col X G W b p ⟨4096 + j, by omega⟩ := by
  rw [rows_cat, ← proj_at]
  exact cat_g X G W b p j

/-- The second result: the values' columns. -/
def vals : FVec Ideal S16384x2048 .bf16 :=
  truncf .bf16 (shapeCast S16384x2048 (extractStridedSlice S8x2048x2048 ![0, 0, 2048] (proj X G W) slices_S8x2048x6144_S8x2048x2048_0_0_2048)
    shapeCasts_S8x2048x2048_S16384x2048) bitsLt_bf16_f32

theorem vals_at (b : Fin 8) (p : Fin 2048) (j : Fin 2048) : vals X G W (ix2 ⟨b * 2048 + p, by omega⟩ j) = col X G W b p ⟨2048 + j, by omega⟩ := by
  simp only [← proj_at]
  pointwise [vals]

end Cert.Reference8Ideal.Norm
end
-- ==== Proof.NormReads.lean ====
/-
  What a grid point of the odd layer's input projection reads of its blocks, and so what it writes, in the entries of the
  arguments.
-/
module

public import proofs.«01_k».proof.Proof.NormFrame
public import proofs.«01_k».proof.Proof.NormRef
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Kernel8Ideal.Norm

open Cert.Kernel8Ideal Cert.Kernel8Ideal.Gen Idealize.ShloMosaic Idealize.ShloMosaic.TcCoe Idealize.ShloMosaic.ValueKit

/-- Lane `e` of row `n` of a block, normalized by the row's root mean square. -/
def hid (X : FVec Ideal S1024x1024 .f32) (G : FVec Ideal S1x1024 .f32) (n : Fin 1024) (e : Fin 1024) : EReal :=
  X (ix2 n e) * Ideal.rsqrt (Ideal.div (∑ a : Fin 1024, X (ix2 n a) * X (ix2 n a)) (Ideal.ofBits FTy.f32 0x44800000#32) + Ideal.ofBits FTy.f32 0x358637BD#32)
    * G (ix2 0 e)

theorem pay1_at (X : FVec Ideal S1024x1024 .f32) (G : FVec Ideal S1x1024 .f32) (n e : Fin 1024) : (k0_pay1 (F := Ideal) X G) (ix2 n e) = hid X G n e := by
  open_payloads
  pointwise [hid]
theorem pay2_at (H : FVec Ideal S1024x1024 .bf16) (W : FVec Ideal S1024x2048 .bf16) (n : Fin 1024) (j : Fin 2048) :
    (k0_pay2 (F := Ideal) H W) (ix2 n j) = ∑ e : Fin 1024, H (ix2 n e) * W (ix2 e j) := by
  open_payloads
  pointwise []
theorem pay3_at (H : FVec Ideal S1024x1024 .bf16) (W : FVec Ideal S1024x2048 .bf16) (n : Fin 1024) (j : Fin 2048) :
    (k0_pay3 (F := Ideal) H W) (ix2 n j) = ∑ e : Fin 1024, H (ix2 n e) * W (ix2 e j) := by
  open_payloads
  pointwise []

variable (m : (ℓ : Loc nD τ sig) → Buf (Elt Ideal) ℓ) (c : Dev nD)

/-- The block each point stages. -/
theorem idx : ∀ t : Fin cfg0.N, win0_0.index t = ![t.val / 3, 0] ∧ win0_1.index t = ![0, 0] ∧ win0_2.index t = ![0, t.val % 3]
    ∧ win0_3.index t = ![t.val / 3, min (t.val % 3) 1] ∧ win0_4.index t = ![t.val / 3, 0] :=
  (by decide +kernel : ∀ t : Fin grid0.N, win0_0.index t = ![t.val / 3, 0] ∧ win0_1.index t = ![0, 0] ∧ win0_2.index t = ![0, t.val % 3]
    ∧ win0_3.index t = ![t.val / 3, min (t.val % 3) 1] ∧ win0_4.index t = ![t.val / 3, 0])

/-- The three argument arrays. -/
abbrev argX : FVec Ideal S8x2048x1024 .f32 := m ((c : Thread nD τ).loc main_arg0)
abbrev argG : FVec Ideal S1x1024 .f32 := m ((c : Thread nD τ).loc main_arg1)
abbrev argW : FVec Ideal S1x1024x6144 .f32 := m ((c : Thread nD τ).loc main_arg2)

set_option maxHeartbeats 1000000 in
theorem ent_x (b : Fin 8) (p : Fin 2048) (e : Fin 1024) : (V m c main_v6 : FVec Ideal S16384x1024 .f32) (ix2 ⟨b * 2048 + p, by omega⟩ e) = argX m c (ix3 b p e) := by
  simp only [V]; after_reads_simp
  pointwise []

set_option maxHeartbeats 1000000 in
theorem ent_g (e : Fin 1024) : (V m c main_v8 : FVec Ideal S1x1024 .f32) (ix2 0 e) = argG m c (ix2 0 e) := by
  simp only [V]; after_reads_simp
  pointwise []

/-- The columns of the weights in the order the call takes them. -/
def cols : FVec Ideal S1024x6144 .f32 :=
  concatenate S1024x6144 1 [⟨S1024x2048, (extractStridedSlice S1024x2048 ![0, 0] (shapeCast S1024x6144 (argW m c) shapeCasts_S1x1024x6144_S1024x6144) slices_S1024x6144_S1024x2048_0_0)⟩,
    ⟨S1024x2048, (extractStridedSlice S1024x2048 ![0, 4096] (shapeCast S1024x6144 (argW m c) shapeCasts_S1x1024x6144_S1024x6144) slices_S1024x6144_S1024x2048_0_4096)⟩,
    ⟨S1024x2048, (extractStridedSlice S1024x2048 ![0, 2048] (shapeCast S1024x6144 (argW m c) shapeCasts_S1x1024x6144_S1024x6144) slices_S1024x6144_S1024x2048_0_2048)⟩]
    concatenates_S1024x2048_S1024x2048_S1024x2048_S1024x6144_d1

set_option maxHeartbeats 1000000 in
theorem arr_w : (V m c main_v5 : FVec Ideal S1024x6144 .bf16) = (truncf .bf16 (cols m c) bitsLt_bf16_f32 : FVec Ideal S1024x6144 .bf16) := by
  simp only [V]; after_reads_simp
  rfl

theorem ent_w0 (e : Fin 1024) (j : Fin 2048) : (V m c main_v5 : FVec Ideal S1024x6144 .bf16) (ix2 e ⟨j, by omega⟩) = argW m c (ix3 0 e ⟨j, by omega⟩) := by
  rw [arr_w]; pointwise [cols]
theorem ent_w1 (e : Fin 1024) (j : Fin 2048) : (V m c main_v5 : FVec Ideal S1024x6144 .bf16) (ix2 e ⟨2048 + j, by omega⟩) = argW m c (ix3 0 e ⟨4096 + j, by omega⟩) := by
  rw [arr_w]; pointwise [cols]
theorem ent_w2 (e : Fin 1024) (j : Fin 2048) : (V m c main_v5 : FVec Ideal S1024x6144 .bf16) (ix2 e ⟨4096 + j, by omega⟩) = argW m c (ix3 0 e ⟨2048 + j, by omega⟩) := by
  rw [arr_w]; pointwise [cols]
  rw [dif_neg (by omega), dif_neg (by omega)]
  exact congrArg (fun i => argW m c (ix3 0 e i)) (Fin.ext (by show 2048 + (4096 + j.val - 2048 - 2048) = 2048 + j.val; omega))

variable (t : Fin cfg0.N)

/-- A point's tokens. -/
theorem rd_x (b : Fin 8) (s : Fin 2) (ht : t.val / 3 = b * 2 + s) (n : Fin 1024) (e : Fin 1024) :
    (iblk m c 0 t : FVec Ideal S1024x1024 .f32) (ix2 n e) = argX m c (ix3 b ⟨s * 1024 + n, by omega⟩ e) := by
  blk_simp [iblk]
  refine (congrArg (V m c main_v6) ?_).trans (ent_x m c b ⟨s * 1024 + n, by omega⟩ e)
  blk_ext [idx t]

theorem rd_g (e : Fin 1024) : (iblk m c 1 t : FVec Ideal S1x1024 .f32) (ix2 0 e) = argG m c (ix2 0 e) := by
  blk_simp [iblk]
  refine (congrArg (V m c main_v8) ?_).trans (ent_g m c e)
  blk_ext [idx t]

/-- A point's weights. -/
theorem rd_w0 (ht : t.val % 3 = 0) (e : Fin 1024) (j : Fin 2048) : (iblk m c 2 t : FVec Ideal S1024x2048 .bf16) (ix2 e j) = argW m c (ix3 0 e ⟨j, by omega⟩) := by
  blk_simp [iblk]
  refine (congrArg (V m c main_v5) ?_).trans (ent_w0 m c e j)
  blk_ext [idx t]
theorem rd_w1 (ht : t.val % 3 = 1) (e : Fin 1024) (j : Fin 2048) : (iblk m c 2 t : FVec Ideal S1024x2048 .bf16) (ix2 e j) = argW m c (ix3 0 e ⟨4096 + j, by omega⟩) := by
  blk_simp [iblk]
  refine (congrArg (V m c main_v5) ?_).trans (ent_w1 m c e j)
  blk_ext [idx t]
theorem rd_w2 (ht : t.val % 3 = 2) (e : Fin 1024) (j : Fin 2048) : (iblk m c 2 t : FVec Ideal S1024x2048 .bf16) (ix2 e j) = argW m c (ix3 0 e ⟨2048 + j, by omega⟩) := by
  blk_simp [iblk]
  refine (congrArg (V m c main_v5) ?_).trans (ent_w2 m c e j)
  blk_ext [idx t]

/-- A tile's normalized lane is the token's. -/
theorem rows_eq (b : Fin 8) (s : Fin 2) (ht : t.val / 3 = b * 2 + s) (n : Fin 1024) (e : Fin 1024) :
    (rows m c t : FVec Ideal S1024x1024 .bf16) (ix2 n e) = Cert.Reference8Ideal.Norm.hid (argX m c) (argG m c) b ⟨s * 1024 + n, by omega⟩ e := by
  refine (pay1_at _ _ n e).trans ?_
  unfold hid Cert.Reference8Ideal.Norm.hid
  simp only [rd_x m c (base t) b s (by simp only [base]; omega), rd_g]

/-- The first output's block, at the lower columns, … -/
theorem out3_lo (b : Fin 8) (s : Fin 2) (ht : t.val = (b * 2 + s) * 3) (n : Fin 1024) (j : Fin 2048) :
    (out3 m c t : FVec Ideal S1024x2048 .f32) (ix2 n j) = Cert.Reference8Ideal.Norm.col (argX m c) (argG m c) (argW m c) b ⟨s * 1024 + n, by omega⟩ ⟨j, by omega⟩ := by
  unfold out3 Cert.Reference8Ideal.Norm.col
  rw [if_neg (by omega)]
  refine (pay2_at _ _ n j).trans ?_
  simp only [rows_eq m c t b s (by omega), rd_w0 m c t (by omega)]

/-- … at the upper ones, … -/
theorem out3_hi (b : Fin 8) (s : Fin 2) (ht : t.val = (b * 2 + s) * 3 + 2) (n : Fin 1024) (j : Fin 2048) :
    (out3 m c t : FVec Ideal S1024x2048 .f32) (ix2 n j) = Cert.Reference8Ideal.Norm.col (argX m c) (argG m c) (argW m c) b ⟨s * 1024 + n, by omega⟩ ⟨4096 + j, by omega⟩ := by
  unfold out3 Cert.Reference8Ideal.Norm.col
  rw [if_pos (by omega)]
  refine (pay2_at _ _ n j).trans ?_
  simp only [rows_eq m c t b s (by omega), rd_w1 m c (prev t) (by simp only [prev]; omega)]

/-- … and the second output's. -/
theorem out4_eq (b : Fin 8) (s : Fin 2) (ht : t.val = (b * 2 + s) * 3 + 2) (n : Fin 1024) (j : Fin 2048) :
    (out4 m c t : FVec Ideal S1024x2048 .bf16) (ix2 n j) = Cert.Reference8Ideal.Norm.col (argX m c) (argG m c) (argW m c) b ⟨s * 1024 + n, by omega⟩ ⟨2048 + j, by omega⟩ := by
  unfold out4 Cert.Reference8Ideal.Norm.col
  refine (pay3_at _ _ n j).trans ?_
  simp only [rows_eq m c t b s (by omega), rd_w2 m c t (by omega)]

end Cert.Kernel8Ideal.Norm
end
-- ==== Proof.NormValue.lean ====
/-
  The odd layer's input projection: its two results are the reference's.
-/
module

public import proofs.«01_k».proof.Defs
public import proofs.«01_k».proof.Proof.NormReads
public import Idealize.ShloMosaic.Lib.Quiescent
public import Idealize.ShloMosaic.Adequacy
public import Idealize.ShloMosaic.Init

@[expose] public section

set_option maxRecDepth 16384

noncomputable section

namespace Cert.Kernel8Ideal.Norm

open Cert.Kernel8Ideal Cert.Kernel8Ideal.Gen Idealize.ShloMosaic Idealize.ShloMosaic.TcCoe Idealize.ShloMosaic.ValueKit

variable (m : (ℓ : Loc nD τ sig) → Buf (Elt Ideal) ℓ) (c : Dev nD)

theorem lo_at (t : Fin cfg0.N) (b : Fin 8) (s : Fin 2) (ht : t.val = (b * 2 + s) * 3) (n : Fin 1024) (j : Fin 2048) :
    (out3 m c t : FVec Ideal S1024x2048 .f32) (ix2 n j)
      = Cert.Reference8Ideal.Norm.rows (argX m c) (argG m c) (argW m c) (ix2 ⟨b * 2048 + (s * 1024 + n), by omega⟩ ⟨j, by omega⟩) :=
  (out3_lo m c t b s ht n j).trans (Cert.Reference8Ideal.Norm.rows_lo (argX m c) (argG m c) (argW m c) b ⟨s * 1024 + n, by omega⟩ j).symm
theorem hi_at (t : Fin cfg0.N) (b : Fin 8) (s : Fin 2) (ht : t.val = (b * 2 + s) * 3 + 2) (n : Fin 1024) (j : Fin 2048) :
    (out3 m c t : FVec Ideal S1024x2048 .f32) (ix2 n j)
      = Cert.Reference8Ideal.Norm.rows (argX m c) (argG m c) (argW m c) (ix2 ⟨b * 2048 + (s * 1024 + n), by omega⟩ ⟨2048 + j, by omega⟩) :=
  (out3_hi m c t b s ht n j).trans (Cert.Reference8Ideal.Norm.rows_hi (argX m c) (argG m c) (argW m c) b ⟨s * 1024 + n, by omega⟩ j).symm
theorem val_at (t : Fin cfg0.N) (b : Fin 8) (s : Fin 2) (ht : t.val = (b * 2 + s) * 3 + 2) (n : Fin 1024) (j : Fin 2048) :
    (out4 m c t : FVec Ideal S1024x2048 .bf16) (ix2 n j)
      = Cert.Reference8Ideal.Norm.vals (argX m c) (argG m c) (argW m c) (ix2 ⟨b * 2048 + (s * 1024 + n), by omega⟩ j) :=
  (out4_eq m c t b s ht n j).trans (Cert.Reference8Ideal.Norm.vals_at (argX m c) (argG m c) (argW m c) b ⟨s * 1024 + n, by omega⟩ j).symm

theorem final_rows : (dats m 0 c).arrAt 3 cfg0.N = (Cert.Reference8Ideal.Norm.rows (argX m c) (argG m c) (argW m c) : FVec Ideal S16384x4096 .f32) := by
  refine (dats m 0 c).arrAt_eq_of_covers 3 _ (by decide +kernel) fun t hf y => ?_
  have hj : t.val % 3 ≠ 1 := by rw [flush_3] at hf; simpa using hf
  blk_simp
  rw [after0_3]
  have ht : t.val < 48 := t.isLt
  rcases mod3 t.val with h | h | h
  · refine (congrArg _ (show y = ix2 (y 0) (y 1) by blk_ext [])).trans ((lo_at m c t ⟨t.val / 6, by omega⟩ ⟨t.val / 3 % 2, by omega⟩
      (by show t.val = (t.val / 6 * 2 + t.val / 3 % 2) * 3; omega) (y 0) (y 1)).trans ?_)
    refine congrArg (Cert.Reference8Ideal.Norm.rows (argX m c) (argG m c) (argW m c)) ?_
    blk_ext [idx t]
  · exact absurd h hj
  · refine (congrArg _ (show y = ix2 (y 0) (y 1) by blk_ext [])).trans ((hi_at m c t ⟨t.val / 6, by omega⟩ ⟨t.val / 3 % 2, by omega⟩
      (by show t.val = (t.val / 6 * 2 + t.val / 3 % 2) * 3 + 2; omega) (y 0) (y 1)).trans ?_)
    refine congrArg (Cert.Reference8Ideal.Norm.rows (argX m c) (argG m c) (argW m c)) ?_
    blk_ext [idx t]

theorem final_vals : (dats m 0 c).arrAt 4 cfg0.N = (Cert.Reference8Ideal.Norm.vals (argX m c) (argG m c) (argW m c) : FVec Ideal S16384x2048 .bf16) := by
  refine (dats m 0 c).arrAt_eq_of_covers 4 _ (by decide +kernel) fun t hf y => ?_
  have hj : t.val % 3 = 2 := by rw [flush_4] at hf; simpa using hf
  blk_simp
  rw [after0_4]
  have ht : t.val < 48 := t.isLt
  refine (congrArg _ (show y = ix2 (y 0) (y 1) by blk_ext [])).trans ((val_at m c t ⟨t.val / 6, by omega⟩ ⟨t.val / 3 % 2, by omega⟩
    (by show t.val = (t.val / 6 * 2 + t.val / 3 % 2) * 3 + 2; omega) (y 0) (y 1)).trans ?_)
  refine congrArg (Cert.Reference8Ideal.Norm.vals (argX m c) (argG m c) (argW m c)) ?_
  blk_ext [idx t]

end Cert.Kernel8Ideal.Norm

namespace Cert.Proof

open Idealize.ShloMosaic Idealize.SL.Sem

/-- The reference ends with its arguments as they were and every semaphore at zero. -/
theorem norm_reference_frame : Cert.quiescent_Reference8Ideal (hReference8Ideal := Cert.Reference8Ideal.Gen.facts) :=
  fun m ρ _ => (θ_run Cert.Reference8Ideal.defs _ _).mono
    (fun r h => ⟨fun c => (h c).2.2, sem_eq_zero_of_no_sems (by decide) r.2⟩) (Cert.Reference8Ideal.Value.run (F := Ideal) m ρ)

set_option maxHeartbeats 1000000 in
/-- The call's two results are the reference's. -/
theorem norm_value : Cert.algebraic_Kernel8Ideal_Reference8Ideal (hKernel8Ideal := Cert.Kernel8Ideal.Gen.facts) (hReference8Ideal := Cert.Reference8Ideal.Gen.facts) := by
  intro m ρ m' ρ' _ hagree
  refine ⟨fun c => (Cert.Kernel8Ideal.Norm.dats m 0 c).arrAt 3 Cert.Kernel8Ideal.cfg0.N, fun c => (Cert.Kernel8Ideal.Norm.dats m 0 c).arrAt 4 Cert.Kernel8Ideal.cfg0.N,
    (θ_run _ _ _).mono (fun r h c => ?_) (Cert.Kernel8Ideal.Norm.run_blocks m ρ), (θ_run _ _ _).mono (fun r h c => ?_) (Cert.Reference8Ideal.Value.run (F := Ideal) m' ρ')⟩
  · exact h.1 c
  · obtain ⟨hu, hv, ha⟩ := h c
    obtain ⟨h0, h1, h2⟩ := hagree c
    refine ⟨hu.trans ?_, hv.trans ?_, ha⟩
    · rw [h0, h1, h2]
      exact (Cert.Kernel8Ideal.Norm.final_rows m c).symm
    · rw [h0, h1, h2]
      exact (Cert.Kernel8Ideal.Norm.final_vals m c).symm

end Cert.Proof
end
-- ==== Proof.lean ====
/- The proof of this directory's certificate: the chunked retention of the prompt with its gated,
   normalized outputs, the experts of the mixture, the even layer's input call on the prompt and on the samples, the
   feed-forward call, the two layers' output projections and the odd layer's input projection.
   Both frames of the kernel are the generated ones, the reference's frame and value come from its run over the scan
   (Proof/RefRun.lean, Proof/RefIter.lean, Proof/RefVal.lean), and the kernel's two result arrays are the reference's
   by Proof/Final.lean. The experts' three frames are in Proof/ExpertsPre.lean and Proof/ExpertsValue.lean, and there
   the experts' result is their reference's. The input projection's frames are in Proof/NormFrame.lean and its value
   is in Proof/NormValue.lean. Of the other calls both frames are the generated ones, and the
   reference's frame and the value are in Proof/PromptValue.lean, Proof/SampleValue.lean,
   Proof/FfnValue.lean, Proof/MixOut.lean and Proof/RetOut.lean. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame
public import proofs.«01_k».proof.Proof.Gen.Kernel7.Frame
public import proofs.«01_k».proof.Proof.Gen.Kernel7Ideal.Frame
public import proofs.«01_k».proof.Proof.Final
public import proofs.«01_k».proof.Proof.ExpertsValue
public import proofs.«01_k».proof.Proof.PromptValue
public import proofs.«01_k».proof.Proof.SampleValue
public import proofs.«01_k».proof.Proof.FfnValue
public import proofs.«01_k».proof.Proof.MixOut
public import proofs.«01_k».proof.Proof.RetOut
public import proofs.«01_k».proof.Proof.NormValue
public import Idealize.ShloMosaic.Lib.Quiescent
public import Idealize.ShloMosaic.Adequacy
public import Idealize.ShloMosaic.Init

@[expose] public section

noncomputable section

namespace Cert.Proof

open Idealize.ShloMosaic Idealize.SL.Sem

/-- The reference ends with its arguments as they were and every semaphore at zero. -/
theorem reference_frame : Cert.quiescent_ReferenceIdeal (hReferenceIdeal := Cert.ReferenceIdeal.Gen.facts) :=
  fun m ρ _ => (θ_run Cert.ReferenceIdeal.defs _ _).mono
    (fun r h => ⟨fun c => (h c).2.2, sem_eq_zero_of_no_sems (by decide) r.2⟩) (Cert.ReferenceIdeal.Value.run (F := Ideal) m ρ)

/-- The kernel's outputs and its last state are the reference's. -/
theorem value : Cert.algebraic_KernelIdeal_ReferenceIdeal (hKernelIdeal := Cert.KernelIdeal.Gen.facts) (hReferenceIdeal := Cert.ReferenceIdeal.Gen.facts) := by
  intro m ρ m' ρ' _ hagree
  refine ⟨_, _, Cert.KernelIdeal.Value.run_blocks m ρ, (θ_run _ _ _).mono (fun r h c => ?_) (Cert.ReferenceIdeal.Scan.run_state m' ρ')⟩
  obtain ⟨hy, hs, hk⟩ := h c
  obtain ⟨h0, h1, h2⟩ := hagree c
  refine ⟨hy.trans ?_, hs.trans ?_, hk⟩
  · rw [h0, h1, h2]
    exact (Cert.KernelIdeal.Block.final_rows m c).symm
  · rw [h0]
    exact (Cert.KernelIdeal.Block.final_state m c).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts, Cert.Pre_experts_exist.Gen.facts,
  fun m ρ _ => Cert.Kernel.Gen.frame m ρ, fun m ρ _ => Cert.KernelIdeal.Gen.frame m ρ, reference_frame,
  experts_frame, experts_frame_ideal, experts_reference_frame, fun m ρ _ => experts_reference_frame m ρ trivial,
  fun m ρ _ => Cert.Kernel3.Gen.frame m ρ, fun m ρ _ => Cert.Kernel3Ideal.Gen.frame m ρ, prompt_reference_frame,
  fun m ρ _ => Cert.Kernel4.Gen.frame m ρ, fun m ρ _ => Cert.Kernel4Ideal.Gen.frame m ρ, sample_reference_frame,
  fun m ρ _ => Cert.Kernel5.Gen.frame m ρ, fun m ρ _ => Cert.Kernel5Ideal.Gen.frame m ρ, ffn_reference_frame,
  fun m ρ _ => Cert.Kernel6.Gen.frame m ρ, fun m ρ _ => Cert.Kernel6Ideal.Gen.frame m ρ, mix_reference_frame,
  fun m ρ _ => Cert.Kernel7.Gen.frame m ρ, fun m ρ _ => Cert.Kernel7Ideal.Gen.frame m ρ, ret_out_reference_frame,
  norm_frame, norm_frame_ideal, norm_reference_frame,
  trivial, value, trivial, experts_value, trivial, prompt_value, trivial, sample_value, trivial, ffn_value, trivial, mix_value, trivial, ret_out_value,
  trivial, norm_value⟩

end Cert.Proof

end
